-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite_call [hPre_finite_call : Cert.Pre_finite_call.Facts] (m : (ℓ : Loc Cert.AttnIdeal.nD Cert.AttnIdeal.τ Cert.AttnIdeal.sig) → Buf (Elt Ideal) ℓ) : Prop :=
  ∀ c : Dev Cert.AttnIdeal.nD,
    (Cert.Pre_finite_call.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite_call [hPre_finite_call : Cert.Pre_finite_call.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite_call.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ r.2.sem = fun _ => 0)

def quiescent_AttnIdeal_pre_finite_call [hAttnIdeal : Cert.AttnIdeal.Facts] [hPre_finite_call : Cert.Pre_finite_call.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite_call m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4))
      ∧ r.2.sem = fun _ => 0)

def quiescent_AttnRefIdeal_pre_finite_call [hAttnRefIdeal : Cert.AttnRefIdeal.Facts] [hPre_finite_call : Cert.Pre_finite_call.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite_call m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4))
      ∧ r.2.sem = fun _ => 0)

def preserves_Kernel_KernelIdeal : Prop :=
  IdealRules.named_const.Statement Cert.KernelIdeal.κ "mask" .f32 0xCE6E6B28#32 ⊥

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![1024, 1024]⟩ ⟨2, ![1024, 16384]⟩ 1 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![1024, 1024]⟩ ⟨2, ![16384, 1024]⟩ 0 16 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v51)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v51) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def preserves_Attn_AttnIdeal : Prop :=
  IdealRules.named_const.Statement Cert.AttnIdeal.κ "mask" .f32 0xCE6E6B28#32 ⊥

def algebraic_AttnIdeal_AttnRefIdeal_pre_finite_call [hAttnIdeal : Cert.AttnIdeal.Facts] [hAttnRefIdeal : Cert.AttnRefIdeal.Facts] [hPre_finite_call : Cert.Pre_finite_call.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite_call m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)
      ∧ m' ((c.tc : Thread Cert.AttnRefIdeal.nD Cert.AttnRefIdeal.τ).loc Cert.AttnRefIdeal.main_arg4) = m ((c.tc : Thread Cert.AttnIdeal.nD Cert.AttnIdeal.τ).loc Cert.AttnIdeal.main_arg4)) →
    ∃ (v0 : (c : Dev Cert.AttnIdeal.nD) → Buf (Elt Ideal) ((c.tc : Thread Cert.AttnIdeal.nD Cert.AttnIdeal.τ).loc Cert.AttnIdeal.main_v0)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v0) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v49) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3)
          ∧ r.2.mem ((c.tc : Thread Cert.AttnRefIdeal.nD Cert.AttnRefIdeal.τ).loc Cert.AttnRefIdeal.main_arg4) = m' ((c.tc : Thread Cert.AttnRefIdeal.nD Cert.AttnRefIdeal.τ).loc Cert.AttnRefIdeal.main_arg4))

def Claim : Prop :=
  ∃ (hKernel : Cert.Kernel.Facts) (hKernelIdeal : Cert.KernelIdeal.Facts) (hReferenceIdeal : Cert.ReferenceIdeal.Facts) (hAttn : Cert.Attn.Facts) (hAttnIdeal : Cert.AttnIdeal.Facts) (hAttnRefIdeal : Cert.AttnRefIdeal.Facts) (hPre_finite_KernelIdeal : Cert.Pre_finite_KernelIdeal.Facts) (hPre_finite_ReferenceIdeal : Cert.Pre_finite_ReferenceIdeal.Facts) (hPre_finite_call : Cert.Pre_finite_call.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ quiescent_Attn (hAttn := hAttn)
    ∧ quiescent_AttnIdeal (hAttnIdeal := hAttnIdeal)
    ∧ quiescent_AttnIdeal_pre_finite_call (hAttnIdeal := hAttnIdeal) (hPre_finite_call := hPre_finite_call)
    ∧ quiescent_AttnRefIdeal (hAttnRefIdeal := hAttnRefIdeal)
    ∧ quiescent_AttnRefIdeal_pre_finite_call (hAttnRefIdeal := hAttnRefIdeal) (hPre_finite_call := hPre_finite_call)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
    ∧ preserves_Attn_AttnIdeal
    ∧ algebraic_AttnIdeal_AttnRefIdeal_pre_finite_call (hAttnIdeal := hAttnIdeal) (hAttnRefIdeal := hAttnRefIdeal) (hPre_finite_call := hPre_finite_call)
-- ==== Pre_finite_KernelIdeal.lean ====
abbrev S1x2048x1024 : Shape := ⟨3, ![1, 2048, 1024]⟩
abbrev S1024x1024 : Shape := ⟨2, ![1024, 1024]⟩
abbrev S1x2048x128x128 : Shape := ⟨4, ![1, 2048, 128, 128]⟩
abbrev S2048x1024 : Shape := ⟨2, ![2048, 1024]⟩
abbrev S32768x1024 : Shape := ⟨2, ![32768, 1024]⟩
abbrev S35840x1024 : Shape := ⟨2, ![35840, 1024]⟩
abbrev S_ : Shape := ⟨0, ![]⟩

class Facts : Prop where
  shapeCasts_S1x2048x1024_S2048x1024 : S1x2048x1024.ShapeCasts S2048x1024
  shapeCasts_S1x2048x128x128_S32768x1024 : S1x2048x128x128.ShapeCasts S32768x1024
  concatenates_S2048x1024_S1024x1024_S32768x1024_S35840x1024_d0 : Shape.Concatenates [S2048x1024, S1024x1024, S32768x1024] S35840x1024 0
  bitsLt_bf16_f32 : FTy.bits .bf16 < FTy.bits .f32
  bcast_S_S35840x1024 : S_.BroadcastsInDim S35840x1024 (![] : Fin 0 → Fin S35840x1024.rank)

variable [Facts]

def fn {F : FTy → Type} [FloatOps F] (main_arg0 : FVec F S1x2048x1024 .bf16) (main_arg1 : FVec F S1024x1024 .bf16) (main_arg2 : FVec F S1x2048x128x128 .bf16) (main_arg3 : FVec F S1x2048x128x128 .bf16) (main_arg4 : FVec F S1024x1024 .bf16) : IVec S35840x1024 1 :=
  let main_v0 : FVec F S2048x1024 .bf16 := shapeCast S2048x1024 main_arg0 shapeCasts_S1x2048x1024_S2048x1024
  let main_v1 : FVec F S32768x1024 .bf16 := shapeCast S32768x1024 main_arg2 shapeCasts_S1x2048x128x128_S32768x1024
  let main_v2 : FVec F S35840x1024 .bf16 := concatenate S35840x1024 0 [⟨S2048x1024, main_v0⟩, ⟨S1024x1024, main_arg1⟩, ⟨S32768x1024, main_v1⟩] concatenates_S2048x1024_S1024x1024_S32768x1024_S35840x1024_d0
  let main_v3 : FVec F S35840x1024 .f32 := (extf .f32 · bitsLt_bf16_f32) main_v2
  let main_v4 : FVec F S35840x1024 .f32 := Host.absf main_v3
  let main_cst : FVec F S_ .f32 := constant S_ .f32 0x7F800000#32
  let main_v5 : FVec F S35840x1024 .f32 := broadcastInDim S35840x1024 ![] bcast_S_S35840x1024 main_cst
  let main_v6 : IVec S35840x1024 1 := cmpf .olt main_v4 main_v5
  main_v6
-- ==== Pre_finite_ReferenceIdeal.lean ====
abbrev S1x2048x1024 : Shape := ⟨3, ![1, 2048, 1024]⟩
abbrev S1024x16384 : Shape := ⟨2, ![1024, 16384]⟩
abbrev S1x2048x128x128 : Shape := ⟨4, ![1, 2048, 128, 128]⟩
abbrev S16384x1024 : Shape := ⟨2, ![16384, 1024]⟩
abbrev S2048x1024 : Shape := ⟨2, ![2048, 1024]⟩
abbrev S32768x1024 : Shape := ⟨2, ![32768, 1024]⟩
abbrev S51200x1024 : Shape := ⟨2, ![51200, 1024]⟩
abbrev S_ : Shape := ⟨0, ![]⟩

class Facts : Prop where
  shapeCasts_S1x2048x1024_S2048x1024 : S1x2048x1024.ShapeCasts S2048x1024
  shapeCasts_S1024x16384_S16384x1024 : S1024x16384.ShapeCasts S16384x1024
  shapeCasts_S1x2048x128x128_S32768x1024 : S1x2048x128x128.ShapeCasts S32768x1024
  concatenates_S2048x1024_S16384x1024_S32768x1024_S51200x1024_d0 : Shape.Concatenates [S2048x1024, S16384x1024, S32768x1024] S51200x1024 0
  bitsLt_bf16_f32 : FTy.bits .bf16 < FTy.bits .f32
  bcast_S_S51200x1024 : S_.BroadcastsInDim S51200x1024 (![] : Fin 0 → Fin S51200x1024.rank)

variable [Facts]

def fn {F : FTy → Type} [FloatOps F] (main_arg0 : FVec F S1x2048x1024 .bf16) (main_arg1 : FVec F S1024x16384 .bf16) (main_arg2 : FVec F S1x2048x128x128 .bf16) (main_arg3 : FVec F S1x2048x128x128 .bf16) (main_arg4 : FVec F S16384x1024 .bf16) : IVec S51200x1024 1 :=
  let main_v0 : FVec F S2048x1024 .bf16 := shapeCast S2048x1024 main_arg0 shapeCasts_S1x2048x1024_S2048x1024
  let main_v1 : FVec F S16384x1024 .bf16 := shapeCast S16384x1024 main_arg1 shapeCasts_S1024x16384_S16384x1024
  let main_v2 : FVec F S32768x1024 .bf16 := shapeCast S32768x1024 main_arg2 shapeCasts_S1x2048x128x128_S32768x1024
  let main_v3 : FVec F S51200x1024 .bf16 := concatenate S51200x1024 0 [⟨S2048x1024, main_v0⟩, ⟨S16384x1024, main_v1⟩, ⟨S32768x1024, main_v2⟩] concatenates_S2048x1024_S16384x1024_S32768x1024_S51200x1024_d0
  let main_v4 : FVec F S51200x1024 .f32 := (extf .f32 · bitsLt_bf16_f32) main_v3
  let main_v5 : FVec F S51200x1024 .f32 := Host.absf main_v4
  let main_cst : FVec F S_ .f32 := constant S_ .f32 0x7F800000#32
  let main_v6 : FVec F S51200x1024 .f32 := broadcastInDim S51200x1024 ![] bcast_S_S51200x1024 main_cst
  let main_v7 : IVec S51200x1024 1 := cmpf .olt main_v5 main_v6
  main_v7
-- ==== Pre_finite_call.lean ====
abbrev S2048x1024 : Shape := ⟨2, ![2048, 1024]⟩
abbrev S1024x1024 : Shape := ⟨2, ![1024, 1024]⟩
abbrev S5120x1024 : Shape := ⟨2, ![5120, 1024]⟩
abbrev S_ : Shape := ⟨0, ![]⟩

class Facts : Prop where
  concatenates_S2048x1024_S1024x1024_S2048x1024_S5120x1024_d0 : Shape.Concatenates [S2048x1024, S1024x1024, S2048x1024] S5120x1024 0
  bitsLt_bf16_f32 : FTy.bits .bf16 < FTy.bits .f32
  bcast_S_S5120x1024 : S_.BroadcastsInDim S5120x1024 (![] : Fin 0 → Fin S5120x1024.rank)

variable [Facts]

def fn {F : FTy → Type} [FloatOps F] (main_arg0 : FVec F S2048x1024 .bf16) (main_arg1 : FVec F S1024x1024 .bf16) (main_arg2 : FVec F S2048x1024 .bf16) (main_arg3 : FVec F S2048x1024 .bf16) (main_arg4 : FVec F S1024x1024 .bf16) : IVec S5120x1024 1 :=
  let main_v0 : FVec F S5120x1024 .bf16 := concatenate S5120x1024 0 [⟨S2048x1024, main_arg0⟩, ⟨S1024x1024, main_arg1⟩, ⟨S2048x1024, main_arg2⟩] concatenates_S2048x1024_S1024x1024_S2048x1024_S5120x1024_d0
  let main_v1 : FVec F S5120x1024 .f32 := (extf .f32 · bitsLt_bf16_f32) main_v0
  let main_v2 : FVec F S5120x1024 .f32 := Host.absf main_v1
  let main_cst : FVec F S_ .f32 := constant S_ .f32 0x7F800000#32
  let main_v3 : FVec F S5120x1024 .f32 := broadcastInDim S5120x1024 ![] bcast_S_S5120x1024 main_cst
  let main_v4 : IVec S5120x1024 1 := cmpf .olt main_v2 main_v3
  main_v4
-- ==== Kernel.lean ====
abbrev S1x2048x1024 : Shape := ⟨3, ![1, 2048, 1024]⟩
abbrev S1024x1024 : Shape := ⟨2, ![1024, 1024]⟩
abbrev S1x2048x128x128 : Shape := ⟨4, ![1, 2048, 128, 128]⟩
abbrev S_ : Shape := ⟨0, ![]⟩
abbrev S2048x1024 : Shape := ⟨2, ![2048, 1024]⟩
abbrev S2048x128x128 : Shape := ⟨3, ![2048, 128, 128]⟩
abbrev S2048x8x128 : Shape := ⟨3, ![2048, 8, 128]⟩
abbrev S128x1024 : Shape := ⟨2, ![128, 1024]⟩
abbrev S128x1 : Shape := ⟨2, ![128, 1]⟩
abbrev S128x2048 : Shape := ⟨2, ![128, 2048]⟩
abbrev S128x128 : Shape := ⟨2, ![128, 128]⟩
abbrev S2048x128 : Shape := ⟨2, ![2048, 128]⟩
abbrev S128 : Shape := ⟨1, ![128]⟩
abbrev S128x512 : Shape := ⟨2, ![128, 512]⟩
abbrev S512x128 : Shape := ⟨2, ![512, 128]⟩
abbrev S512x512 : Shape := ⟨2, ![512, 512]⟩
abbrev S3x512x512 : Shape := ⟨3, ![3, 512, 512]⟩
abbrev S3x128x512 : Shape := ⟨3, ![3, 128, 512]⟩
abbrev S4x128x512 : Shape := ⟨3, ![4, 128, 512]⟩
abbrev S4x512x512 : Shape := ⟨3, ![4, 512, 512]⟩
abbrev S3 : Shape := ⟨1, ![3]⟩
abbrev S1 : Shape := ⟨1, ![1]⟩
abbrev S1x512x512 : Shape := ⟨3, ![1, 512, 512]⟩
abbrev S1x128x512 : Shape := ⟨3, ![1, 128, 512]⟩

abbrev nBuf : Space → Nat
  | .hbm => 39
  | .vmem => 22
  | .smem => 0
  | _ => 0

abbrev bufTy : (tb : Table) → Fin (tcTables nBuf tb) → BufTy
  | .hbm, ⟨0, _⟩ => ⟨S1x2048x1024, .bf16⟩
  | .hbm, ⟨1, _⟩ => ⟨S1024x1024, .bf16⟩
  | .hbm, ⟨2, _⟩ => ⟨S1x2048x128x128, .bf16⟩
  | .hbm, ⟨3, _⟩ => ⟨S1x2048x128x128, .bf16⟩
  | .hbm, ⟨4, _⟩ => ⟨S1024x1024, .bf16⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S2048x1024, .bf16⟩
  | .hbm, ⟨12, _⟩ => ⟨S2048x128x128, .bf16⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S_, .i1⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S2048x8x128, .bf16⟩
  | .hbm, ⟨23, _⟩ => ⟨S2048x128x128, .bf16⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S_, .i1⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S2048x8x128, .bf16⟩
  | .hbm, ⟨34, _⟩ => ⟨S2048x1024, .bf16⟩
  | .hbm, ⟨35, _⟩ => ⟨S2048x1024, .bf16⟩
  | .hbm, ⟨36, _⟩ => ⟨S2048x1024, .f32⟩
  | .hbm, ⟨37, _⟩ => ⟨S2048x1024, .f32⟩
  | .hbm, ⟨38, _⟩ => ⟨S1x2048x1024, .f32⟩
  | .local _ .vmem, ⟨0, _⟩ => ⟨S128x1024, .bf16⟩
  | .local _ .vmem, ⟨1, _⟩ => ⟨S128x1024, .bf16⟩
  | .local _ .vmem, ⟨2, _⟩ => ⟨S1024x1024, .bf16⟩
  | .local _ .vmem, ⟨3, _⟩ => ⟨S2048x1024, .bf16⟩
  | .local _ .vmem, ⟨4, _⟩ => ⟨S2048x1024, .bf16⟩
  | .local _ .vmem, ⟨5, _⟩ => ⟨S1024x1024, .bf16⟩
  | .local _ .vmem, ⟨6, _⟩ => ⟨S128x1024, .f32⟩
  | .local _ .vmem, ⟨7, _⟩ => ⟨S128x1024, .f32⟩
  | .local _ .vmem, ⟨8, _⟩ => ⟨S2048x1024, .f32⟩
  | .local _ .vmem, ⟨9, _⟩ => ⟨S2048x1024, .f32⟩
  | .local _ .vmem, ⟨10, _⟩ => ⟨S512x512, .bf16⟩
  | .local _ .vmem, ⟨11, _⟩ => ⟨S512x512, .bf16⟩
  | .local _ .vmem, ⟨12, _⟩ => ⟨S128x512, .bf16⟩
  | .local _ .vmem, ⟨13, _⟩ => ⟨S128x512, .bf16⟩
  | .local _ .vmem, ⟨14, _⟩ => ⟨S3x512x512, .bf16⟩
  | .local _ .vmem, ⟨15, _⟩ => ⟨S3x512x512, .bf16⟩
  | .local _ .vmem, ⟨16, _⟩ => ⟨S3x128x512, .bf16⟩
  | .local _ .vmem, ⟨17, _⟩ => ⟨S3x128x512, .bf16⟩
  | .local _ .vmem, ⟨18, _⟩ => ⟨S4x128x512, .bf16⟩
  | .local _ .vmem, ⟨19, _⟩ => ⟨S4x128x512, .bf16⟩
  | .local _ .vmem, ⟨20, _⟩ => ⟨S4x512x512, .bf16⟩
  | .local _ .vmem, ⟨21, _⟩ => ⟨S4x512x512, .bf16⟩
  | _, _ => ⟨S1x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 1 → Bool
  | ⟨0, _⟩ => false
  | _ => false

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  (ofTc nBuf bufTy 1 36 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_1 : Ref sig .tc := ⟨.hbm, 13, rfl⟩
abbrev main_v7 : Ref sig .tc := ⟨.hbm, 14, rfl⟩
abbrev main_c_2 : Ref sig .tc := ⟨.hbm, 15, rfl⟩
abbrev main_v8 : Ref sig .tc := ⟨.hbm, 16, rfl⟩
abbrev main_c_3 : Ref sig .tc := ⟨.hbm, 17, rfl⟩
abbrev main_v9 : Ref sig .tc := ⟨.hbm, 18, rfl⟩
abbrev main_v10 : Ref sig .tc := ⟨.hbm, 19, rfl⟩
abbrev main_c_4 : Ref sig .tc := ⟨.hbm, 20, rfl⟩
abbrev main_c_5 : Ref sig .tc := ⟨.hbm, 21, rfl⟩
abbrev main_v11 : Ref sig .tc := ⟨.hbm, 22, rfl⟩
abbrev main_v12 : Ref sig .tc := ⟨.hbm, 23, rfl⟩
abbrev main_c_6 : Ref sig .tc := ⟨.hbm, 24, rfl⟩
abbrev main_v13 : Ref sig .tc := ⟨.hbm, 25, rfl⟩
abbrev main_c_7 : Ref sig .tc := ⟨.hbm, 26, rfl⟩
abbrev main_v14 : Ref sig .tc := ⟨.hbm, 27, rfl⟩
abbrev main_c_8 : Ref sig .tc := ⟨.hbm, 28, rfl⟩
abbrev main_v15 : Ref sig .tc := ⟨.hbm, 29, rfl⟩
abbrev main_v16 : Ref sig .tc := ⟨.hbm, 30, rfl⟩
abbrev main_c_9 : Ref sig .tc := ⟨.hbm, 31, rfl⟩
abbrev main_c_10 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg1_0 : Ref sig .tc := ⟨.vmem, 9, rfl⟩
abbrev cc1_scratch0 : Ref sig .tc := ⟨.vmem, 10, rfl⟩
abbrev cc1_scratch1 : Ref sig .tc := ⟨.vmem, 11, rfl⟩
abbrev cc1_scratch2 : Ref sig .tc := ⟨.vmem, 12, rfl⟩
abbrev cc1_scratch3 : Ref sig .tc := ⟨.vmem, 13, rfl⟩
abbrev cc1_scratch4 : Ref sig .tc := ⟨.vmem, 14, rfl⟩
abbrev cc1_scratch5 : Ref sig .tc := ⟨.vmem, 15, rfl⟩
abbrev cc1_scratch6 : Ref sig .tc := ⟨.vmem, 16, rfl⟩
abbrev cc1_scratch7 : Ref sig .tc := ⟨.vmem, 17, rfl⟩
abbrev cc1_scratch8 : Ref sig .tc := ⟨.vmem, 18, rfl⟩
abbrev cc1_scratch9 : Ref sig .tc := ⟨.vmem, 19, rfl⟩
abbrev cc1_scratch10 : Ref sig .tc := ⟨.vmem, 20, rfl⟩
abbrev cc1_scratch11 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem1_0 : DmaSem sig := 9
abbrev barrier0 : Sem sig := 0

abbrev nD : Nat := 16
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c0_i32_5 : BitVec 32 := 0#32
  let v15 : BitVec 1 := Scalar.cmpi .sgt arg0 c0_i32_5
  let v16 : BitVec 32 := Scalar.extui v15
  let c0_i32_6 : BitVec 32 := 0#32
  let v17 : BitVec 1 := Scalar.cmpi .ne v16 c0_i32_6
  v17

def k0_off1 (i : grid0.Coords) : Fin 2 → Nat :=
  let arg0 : BitVec 32 := BitVec.ofNat 32 (i 0).val
  let v18 : BitVec 32 := Scalar.subi arg0 arg0
  let c128_i32_35 : BitVec 32 := 128#32
  let v110 : BitVec 32 := Scalar.muli v18 c128_i32_35
  let v111 : Index := Scalar.indexCast v110
  let c0_36 : Index := 0#32
  ![v111.toNat, 0]
def k0_off2 (i : grid0.Coords) : Fin 2 → Nat :=
  let arg0 : BitVec 32 := BitVec.ofNat 32 (i 0).val
  let c1_i32 : BitVec 32 := 1#32
  let v19 : BitVec 32 := Scalar.subi arg0 c1_i32
  let c128_i32_40 : BitVec 32 := 128#32
  let v120 : BitVec 32 := Scalar.muli v19 c128_i32_40
  let v121 : Index := Scalar.indexCast v120
  let c0_41 : Index := 0#32
  ![v121.toNat, 0]
def k0_off3 (i : grid0.Coords) : Fin 2 → Nat :=
  let arg0 : BitVec 32 := BitVec.ofNat 32 (i 0).val
  let c128_i32_45 : BitVec 32 := 128#32
  let v130 : BitVec 32 := Scalar.muli arg0 c128_i32_45
  let v131 : Index := Scalar.indexCast v130
  let c0_46 : Index := 0#32
  ![v131.toNat, 0]
def k0_off4 (i : grid0.Coords) : Fin 2 → Nat :=
  let arg0 : BitVec 32 := BitVec.ofNat 32 (i 0).val
  let c1_i32_7 : BitVec 32 := 1#32
  let v20 : BitVec 32 := Scalar.addi arg0 c1_i32_7
  let c15_i32 : BitVec 32 := 15#32
  let v21 : BitVec 32 := Scalar.minsi v20 c15_i32
  let c128_i32_50 : BitVec 32 := 128#32
  let v140 : BitVec 32 := Scalar.muli v21 c128_i32_50
  let v141 : Index := Scalar.indexCast v140
  let c0_51 : Index := 0#32
  ![v141.toNat, 0]
def k0_off5 (i : grid0.Coords) : Fin 2 → Nat :=
  let arg0 : BitVec 32 := BitVec.ofNat 32 (i 0).val
  let v18 : BitVec 32 := Scalar.subi arg0 arg0
  let c128_i32_58 : BitVec 32 := 128#32
  let v163 : BitVec 32 := Scalar.muli v18 c128_i32_58
  let v164 : Index := Scalar.indexCast v163
  let c128 : Index := 128#32
  ![v164.toNat, 128]
def k0_off6 (i : grid0.Coords) : Fin 2 → Nat :=
  let arg0 : BitVec 32 := BitVec.ofNat 32 (i 0).val
  let c1_i32 : BitVec 32 := 1#32
  let v19 : BitVec 32 := Scalar.subi arg0 c1_i32
  let c128_i32_62 : BitVec 32 := 128#32
  let v173 : BitVec 32 := Scalar.muli v19 c128_i32_62
  let v174 : Index := Scalar.indexCast v173
  let c128_63 : Index := 128#32
  ![v174.toNat, 128]
def k0_off7 (i : grid0.Coords) : Fin 2 → Nat :=
  let arg0 : BitVec 32 := BitVec.ofNat 32 (i 0).val
  let c128_i32_67 : BitVec 32 := 128#32
  let v183 : BitVec 32 := Scalar.muli arg0 c128_i32_67
  let v184 : Index := Scalar.indexCast v183
  let c128_68 : Index := 128#32
  ![v184.toNat, 128]
def k0_off8 (i : grid0.Coords) : Fin 2 → Nat :=
  let arg0 : BitVec 32 := BitVec.ofNat 32 (i 0).val
  let c1_i32_7 : BitVec 32 := 1#32
  let v20 : BitVec 32 := Scalar.addi arg0 c1_i32_7
  let c15_i32 : BitVec 32 := 15#32
  let v21 : BitVec 32 := Scalar.minsi v20 c15_i32
  let c128_i32_72 : BitVec 32 := 128#32
  let v193 : BitVec 32 := Scalar.muli v21 c128_i32_72
  let v194 : Index := Scalar.indexCast v193
  let c128_73 : Index := 128#32
  ![v194.toNat, 128]
def k0_off9 (i : grid0.Coords) : Fin 2 → Nat :=
  let arg0 : BitVec 32 := BitVec.ofNat 32 (i 0).val
  let v18 : BitVec 32 := Scalar.subi arg0 arg0
  let c128_i32_80 : BitVec 32 := 128#32
  let v216 : BitVec 32 := Scalar.muli v18 c128_i32_80
  let v217 : Index := Scalar.indexCast v216
  let c256 : Index := 256#32
  ![v217.toNat, 256]
def k0_off10 (i : grid0.Coords) : Fin 2 → Nat :=
  let arg0 : BitVec 32 := BitVec.ofNat 32 (i 0).val
  let c1_i32 : BitVec 32 := 1#32
  let v19 : BitVec 32 := Scalar.subi arg0 c1_i32
  let c128_i32_84 : BitVec 32 := 128#32
  let v226 : BitVec 32 := Scalar.muli v19 c128_i32_84
  let v227 : Index := Scalar.indexCast v226
  let c256_85 : Index := 256#32
  ![v227.toNat, 256]
def k0_off11 (i : grid0.Coords) : Fin 2 → Nat :=
  let arg0 : BitVec 32 := BitVec.ofNat 32 (i 0).val
  let c128_i32_89 : BitVec 32 := 128#32
  let v236 : BitVec 32 := Scalar.muli arg0 c128_i32_89
  let v237 : Index := Scalar.indexCast v236
  let c256_90 : Index := 256#32
  ![v237.toNat, 256]
def k0_off12 (i : grid0.Coords) : Fin 2 → Nat :=
  let arg0 : BitVec 32 := BitVec.ofNat 32 (i 0).val
  let c1_i32_7 : BitVec 32 := 1#32
  let v20 : BitVec 32 := Scalar.addi arg0 c1_i32_7
  let c15_i32 : BitVec 32 := 15#32
  let v21 : BitVec 32 := Scalar.minsi v20 c15_i32
  let c128_i32_94 : BitVec 32 := 128#32
  let v246 : BitVec 32 := Scalar.muli v21 c128_i32_94
  let v247 : Index := Scalar.indexCast v246
  let c256_95 : Index := 256#32
  ![v247.toNat, 256]
def k0_off13 (i : grid0.Coords) : Fin 2 → Nat :=
  let arg0 : BitVec 32 := BitVec.ofNat 32 (i 0).val
  let v18 : BitVec 32 := Scalar.subi arg0 arg0
  let c128_i32_102 : BitVec 32 := 128#32
  let v269 : BitVec 32 := Scalar.muli v18 c128_i32_102
  let v270 : Index := Scalar.indexCast v269
  let c384 : Index := 384#32
  ![v270.toNat, 384]
def k0_off14 (i : grid0.Coords) : Fin 2 → Nat :=
  let arg0 : BitVec 32 := BitVec.ofNat 32 (i 0).val
  let c1_i32 : BitVec 32 := 1#32
  let v19 : BitVec 32 := Scalar.subi arg0 c1_i32
  let c128_i32_106 : BitVec 32 := 128#32
  let v279 : BitVec 32 := Scalar.muli v19 c128_i32_106
  let v280 : Index := Scalar.indexCast v279
  let c384_107 : Index := 384#32
  ![v280.toNat, 384]
def k0_off15 (i : grid0.Coords) : Fin 2 → Nat :=
  let arg0 : BitVec 32 := BitVec.ofNat 32 (i 0).val
  let c128_i32_111 : BitVec 32 := 128#32
  let v289 : BitVec 32 := Scalar.muli arg0 c128_i32_111
  let v290 : Index := Scalar.indexCast v289
  let c384_112 : Index := 384#32
  ![v290.toNat, 384]
def k0_off16 (i : grid0.Coords) : Fin 2 → Nat :=
  let arg0 : BitVec 32 := BitVec.ofNat 32 (i 0).val
  let c1_i32_7 : BitVec 32 := 1#32
  let v20 : BitVec 32 := Scalar.addi arg0 c1_i32_7
  let c15_i32 : BitVec 32 := 15#32
  let v21 : BitVec 32 := Scalar.minsi v20 c15_i32
  let c128_i32_116 : BitVec 32 := 128#32
  let v299 : BitVec 32 := Scalar.muli v21 c128_i32_116
  let v300 : Index := Scalar.indexCast v299
  let c384_117 : Index := 384#32
  ![v300.toNat, 384]
def k0_off17 (i : grid0.Coords) : Fin 2 → Nat :=
  let arg0 : BitVec 32 := BitVec.ofNat 32 (i 0).val
  let v18 : BitVec 32 := Scalar.subi arg0 arg0
  let c128_i32_124 : BitVec 32 := 128#32
  let v322 : BitVec 32 := Scalar.muli v18 c128_i32_124
  let v323 : Index := Scalar.indexCast v322
  let c512 : Index := 512#32
  ![v323.toNat, 512]
def k0_off18 (i : grid0.Coords) : Fin 2 → Nat :=
  let arg0 : BitVec 32 := BitVec.ofNat 32 (i 0).val
  let c1_i32 : BitVec 32 := 1#32
  let v19 : BitVec 32 := Scalar.subi arg0 c1_i32
  let c128_i32_128 : BitVec 32 := 128#32
  let v332 : BitVec 32 := Scalar.muli v19 c128_i32_128
  let v333 : Index := Scalar.indexCast v332
  let c512_129 : Index := 512#32
  ![v333.toNat, 512]
def k0_off19 (i : grid0.Coords) : Fin 2 → Nat :=
  let arg0 : BitVec 32 := BitVec.ofNat 32 (i 0).val
  let c128_i32_133 : BitVec 32 := 128#32
  let v342 : BitVec 32 := Scalar.muli arg0 c128_i32_133
  let v343 : Index := Scalar.indexCast v342
  let c512_134 : Index := 512#32
  ![v343.toNat, 512]
def k0_off20 (i : grid0.Coords) : Fin 2 → Nat :=
  let arg0 : BitVec 32 := BitVec.ofNat 32 (i 0).val
  let c1_i32_7 : BitVec 32 := 1#32
  let v20 : BitVec 32 := Scalar.addi arg0 c1_i32_7
  let c15_i32 : BitVec 32 := 15#32
  let v21 : BitVec 32 := Scalar.minsi v20 c15_i32
  let c128_i32_138 : BitVec 32 := 128#32
  let v352 : BitVec 32 := Scalar.muli v21 c128_i32_138
  let v353 : Index := Scalar.indexCast v352
  let c512_139 : Index := 512#32
  ![v353.toNat, 512]
def k0_off21 (i : grid0.Coords) : Fin 2 → Nat :=
  let arg0 : BitVec 32 := BitVec.ofNat 32 (i 0).val
  let v18 : BitVec 32 := Scalar.subi arg0 arg0
  let c128_i32_146 : BitVec 32 := 128#32
  let v375 : BitVec 32 := Scalar.muli v18 c128_i32_146
  let v376 : Index := Scalar.indexCast v375
  let c640 : Index := 640#32
  ![v376.toNat, 640]
def k0_off22 (i : grid0.Coords) : Fin 2 → Nat :=
  let arg0 : BitVec 32 := BitVec.ofNat 32 (i 0).val
  let c1_i32 : BitVec 32 := 1#32
  let v19 : BitVec 32 := Scalar.subi arg0 c1_i32
  let c128_i32_150 : BitVec 32 := 128#32
  let v385 : BitVec 32 := Scalar.muli v19 c128_i32_150
  let v386 : Index := Scalar.indexCast v385
  let c640_151 : Index := 640#32
  ![v386.toNat, 640]
def k0_off23 (i : grid0.Coords) : Fin 2 → Nat :=
  let arg0 : BitVec 32 := BitVec.ofNat 32 (i 0).val
  let c128_i32_155 : BitVec 32 := 128#32
  let v395 : BitVec 32 := Scalar.muli arg0 c128_i32_155
  let v396 : Index := Scalar.indexCast v395
  let c640_156 : Index := 640#32
  ![v396.toNat, 640]
def k0_off24 (i : grid0.Coords) : Fin 2 → Nat :=
  let arg0 : BitVec 32 := BitVec.ofNat 32 (i 0).val
  let c1_i32_7 : BitVec 32 := 1#32
  let v20 : BitVec 32 := Scalar.addi arg0 c1_i32_7
  let c15_i32 : BitVec 32 := 15#32
  let v21 : BitVec 32 := Scalar.minsi v20 c15_i32
  let c128_i32_160 : BitVec 32 := 128#32
  let v405 : BitVec 32 := Scalar.muli v21 c128_i32_160
  let v406 : Index := Scalar.indexCast v405
  let c640_161 : Index := 640#32
  ![v406.toNat, 640]
def k0_off25 (i : grid0.Coords) : Fin 2 → Nat :=
  let arg0 : BitVec 32 := BitVec.ofNat 32 (i 0).val
  let v18 : BitVec 32 := Scalar.subi arg0 arg0
  let c128_i32_168 : BitVec 32 := 128#32
  let v428 : BitVec 32 := Scalar.muli v18 c128_i32_168
  let v429 : Index := Scalar.indexCast v428
  let c768 : Index := 768#32
  ![v429.toNat, 768]
def k0_off26 (i : grid0.Coords) : Fin 2 → Nat :=
  let arg0 : BitVec 32 := BitVec.ofNat 32 (i 0).val
  let c1_i32 : BitVec 32 := 1#32
  let v19 : BitVec 32 := Scalar.subi arg0 c1_i32
  let c128_i32_172 : BitVec 32 := 128#32
  let v438 : BitVec 32 := Scalar.muli v19 c128_i32_172
  let v439 : Index := Scalar.indexCast v438
  let c768_173 : Index := 768#32
  ![v439.toNat, 768]
def k0_off27 (i : grid0.Coords) : Fin 2 → Nat :=
  let arg0 : BitVec 32 := BitVec.ofNat 32 (i 0).val
  let c128_i32_177 : BitVec 32 := 128#32
  let v448 : BitVec 32 := Scalar.muli arg0 c128_i32_177
  let v449 : Index := Scalar.indexCast v448
  let c768_178 : Index := 768#32
  ![v449.toNat, 768]
def k0_off28 (i : grid0.Coords) : Fin 2 → Nat :=
  let arg0 : BitVec 32 := BitVec.ofNat 32 (i 0).val
  let c1_i32_7 : BitVec 32 := 1#32
  let v20 : BitVec 32 := Scalar.addi arg0 c1_i32_7
  let c15_i32 : BitVec 32 := 15#32
  let v21 : BitVec 32 := Scalar.minsi v20 c15_i32
  let c128_i32_182 : BitVec 32 := 128#32
  let v458 : BitVec 32 := Scalar.muli v21 c128_i32_182
  let v459 : Index := Scalar.indexCast v458
  let c768_183 : Index := 768#32
  ![v459.toNat, 768]
def k0_off29 (i : grid0.Coords) : Fin 2 → Nat :=
  let arg0 : BitVec 32 := BitVec.ofNat 32 (i 0).val
  let v18 : BitVec 32 := Scalar.subi arg0 arg0
  let c128_i32_190 : BitVec 32 := 128#32
  let v481 : BitVec 32 := Scalar.muli v18 c128_i32_190
  let v482 : Index := Scalar.indexCast v481
  let c896 : Index := 896#32
  ![v482.toNat, 896]
def k0_off30 (i : grid0.Coords) : Fin 2 → Nat :=
  let arg0 : BitVec 32 := BitVec.ofNat 32 (i 0).val
  let c1_i32 : BitVec 32 := 1#32
  let v19 : BitVec 32 := Scalar.subi arg0 c1_i32
  let c128_i32_194 : BitVec 32 := 128#32
  let v491 : BitVec 32 := Scalar.muli v19 c128_i32_194
  let v492 : Index := Scalar.indexCast v491
  let c896_195 : Index := 896#32
  ![v492.toNat, 896]
def k0_off31 (i : grid0.Coords) : Fin 2 → Nat :=
  let arg0 : BitVec 32 := BitVec.ofNat 32 (i 0).val
  let c128_i32_199 : BitVec 32 := 128#32
  let v501 : BitVec 32 := Scalar.muli arg0 c128_i32_199
  let v502 : Index := Scalar.indexCast v501
  let c896_200 : Index := 896#32
  ![v502.toNat, 896]
def k0_off32 (i : grid0.Coords) : Fin 2 → Nat :=
  let arg0 : BitVec 32 := BitVec.ofNat 32 (i 0).val
  let c1_i32_7 : BitVec 32 := 1#32
  let v20 : BitVec 32 := Scalar.addi arg0 c1_i32_7
  let c15_i32 : BitVec 32 := 15#32
  let v21 : BitVec 32 := Scalar.minsi v20 c15_i32
  let c128_i32_204 : BitVec 32 := 128#32
  let v511 : BitVec 32 := Scalar.muli v21 c128_i32_204
  let v512 : Index := Scalar.indexCast v511
  let c896_205 : Index := 896#32
  ![v512.toNat, 896]
def k0_cond1 (i : grid0.Coords) : BitVec 1 :=
  let arg0 : BitVec 32 := BitVec.ofNat 32 (i 0).val
  let c0_i32 : BitVec 32 := 0#32
  let v12 : BitVec 1 := Scalar.cmpi .eq arg0 c0_i32
  let v13 : BitVec 32 := Scalar.extui v12
  let c0_i32_4 : BitVec 32 := 0#32
  let v14 : BitVec 1 := Scalar.cmpi .ne v13 c0_i32_4
  v14

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := .none

def k1_dev1 (d0 : Dev nD) : Nat :=
  let c0_i32_21 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c1_i32_6 : BitVec 32 := 1#32
  let v22 : BitVec 32 := Scalar.addi v3 c1_i32_6
  let c8_i32 : BitVec 32 := 8#32
  let v23 : BitVec 32 := Scalar.addi v22 c8_i32
  let c4_i32_7 : BitVec 32 := 4#32
  let v24 : BitVec 32 := Scalar.remsi v23 c4_i32_7
  let v25 : BitVec 32 := Scalar.addi v21 v24
  let c1_i32_20 : BitVec 32 := 1#32
  let v41 : BitVec 32 := Scalar.muli v25 c1_i32_20
  let v42 : BitVec 32 := Scalar.addi c0_i32_21 v41
  v42.toNat
def k1_dev2 (d0 : Dev nD) : Nat :=
  let c0_i32_24 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c1_i32_8 : BitVec 32 := 1#32
  let v26 : BitVec 32 := Scalar.subi v3 c1_i32_8
  let c8_i32_9 : BitVec 32 := 8#32
  let v27 : BitVec 32 := Scalar.addi v26 c8_i32_9
  let c4_i32_10 : BitVec 32 := 4#32
  let v28 : BitVec 32 := Scalar.remsi v27 c4_i32_10
  let v29 : BitVec 32 := Scalar.addi v21 v28
  let c1_i32_23 : BitVec 32 := 1#32
  let v43 : BitVec 32 := Scalar.muli v29 c1_i32_23
  let v44 : BitVec 32 := Scalar.addi c0_i32_24 v43
  v44.toNat
def k1_dev3 (d0 : Dev nD) : Nat :=
  let c0_i32_27 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_11 : BitVec 32 := 1#32
  let v30 : BitVec 32 := Scalar.addi v20 c1_i32_11
  let c8_i32_12 : BitVec 32 := 8#32
  let v31 : BitVec 32 := Scalar.addi v30 c8_i32_12
  let c4_i32_13 : BitVec 32 := 4#32
  let v32 : BitVec 32 := Scalar.remsi v31 c4_i32_13
  let c4_i32_14 : BitVec 32 := 4#32
  let v33 : BitVec 32 := Scalar.muli v32 c4_i32_14
  let c4_i32 : BitVec 32 := 4#32
  let v3 : BitVec 32 := Scalar.remsi v2 c4_i32
  let v34 : BitVec 32 := Scalar.addi v33 v3
  let c1_i32_26 : BitVec 32 := 1#32
  let v45 : BitVec 32 := Scalar.muli v34 c1_i32_26
  let v46 : BitVec 32 := Scalar.addi c0_i32_27 v45
  v46.toNat
def k1_dev4 (d0 : Dev nD) : Nat :=
  let c0_i32_30 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_15 : BitVec 32 := 1#32
  let v35 : BitVec 32 := Scalar.subi v20 c1_i32_15
  let c8_i32_16 : BitVec 32 := 8#32
  let v36 : BitVec 32 := Scalar.addi v35 c8_i32_16
  let c4_i32_17 : BitVec 32 := 4#32
  let v37 : BitVec 32 := Scalar.remsi v36 c4_i32_17
  let c4_i32_18 : BitVec 32 := 4#32
  let v38 : BitVec 32 := Scalar.muli v37 c4_i32_18
  let c4_i32 : BitVec 32 := 4#32
  let v3 : BitVec 32 := Scalar.remsi v2 c4_i32
  let v39 : BitVec 32 := Scalar.addi v38 v3
  let c1_i32_29 : BitVec 32 := 1#32
  let v47 : BitVec 32 := Scalar.muli v39 c1_i32_29
  let v48 : BitVec 32 := Scalar.addi c0_i32_30 v47
  v48.toNat
def k1_off1 (d0 : Dev nD) (c0_i32_49 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v70 : BitVec 32 := Scalar.subi v3 c0_i32_49
  let c8_i32_50 : BitVec 32 := 8#32
  let v71 : BitVec 32 := Scalar.addi v70 c8_i32_50
  let c4_i32_51 : BitVec 32 := 4#32
  let v72 : BitVec 32 := Scalar.remsi v71 c4_i32_51
  let c512_i32 : BitVec 32 := 512#32
  let v75 : BitVec 32 := Scalar.muli v72 c512_i32
  let v76 : Index := Scalar.indexCast v75
  let c0_54 : Index := 0#32
  ![v76.toNat, 0]
def k1_dev5 (d0 : Dev nD) : Nat :=
  let c0_i32_60 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c1_i32_35 : BitVec 32 := 1#32
  let v52 : BitVec 32 := Scalar.addi v3 c1_i32_35
  let c8_i32_36 : BitVec 32 := 8#32
  let v53 : BitVec 32 := Scalar.addi v52 c8_i32_36
  let c4_i32_37 : BitVec 32 := 4#32
  let v54 : BitVec 32 := Scalar.remsi v53 c4_i32_37
  let v55 : BitVec 32 := Scalar.addi v21 v54
  let c1_i32_59 : BitVec 32 := 1#32
  let v83 : BitVec 32 := Scalar.muli v55 c1_i32_59
  let v84 : BitVec 32 := Scalar.addi c0_i32_60 v83
  v84.toNat
def k1_off2 (d0 : Dev nD) (c0_i32_52 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v73 : BitVec 32 := Scalar.addi v3 c0_i32_52
  let c4_i32_53 : BitVec 32 := 4#32
  let v74 : BitVec 32 := Scalar.remsi v73 c4_i32_53
  let c512_i32_63 : BitVec 32 := 512#32
  let v89 : BitVec 32 := Scalar.muli v74 c512_i32_63
  let v90 : Index := Scalar.indexCast v89
  let c512 : Index := 512#32
  ![v90.toNat, 512]
def k1_dev6 (d0 : Dev nD) : Nat :=
  let c0_i32_69 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c1_i32_38 : BitVec 32 := 1#32
  let v56 : BitVec 32 := Scalar.subi v3 c1_i32_38
  let c8_i32_39 : BitVec 32 := 8#32
  let v57 : BitVec 32 := Scalar.addi v56 c8_i32_39
  let c4_i32_40 : BitVec 32 := 4#32
  let v58 : BitVec 32 := Scalar.remsi v57 c4_i32_40
  let v59 : BitVec 32 := Scalar.addi v21 v58
  let c1_i32_68 : BitVec 32 := 1#32
  let v97 : BitVec 32 := Scalar.muli v59 c1_i32_68
  let v98 : BitVec 32 := Scalar.addi c0_i32_69 v97
  v98.toNat
def k1_off3 (d0 : Dev nD) (c0_i32_94 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v119 : BitVec 32 := Scalar.subi v3 c0_i32_94
  let c1_i32_95 : BitVec 32 := 1#32
  let v120 : BitVec 32 := Scalar.subi v119 c1_i32_95
  let c8_i32_96 : BitVec 32 := 8#32
  let v121 : BitVec 32 := Scalar.addi v120 c8_i32_96
  let c4_i32_97 : BitVec 32 := 4#32
  let v122 : BitVec 32 := Scalar.remsi v121 c4_i32_97
  let c512_i32_101 : BitVec 32 := 512#32
  let v126 : BitVec 32 := Scalar.muli v122 c512_i32_101
  let v127 : Index := Scalar.indexCast v126
  let c0_102 : Index := 0#32
  ![v127.toNat, 0]
def k1_off4 (d0 : Dev nD) (c0_i32_98 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v123 : BitVec 32 := Scalar.addi v3 c0_i32_98
  let c1_i32_99 : BitVec 32 := 1#32
  let v124 : BitVec 32 := Scalar.addi v123 c1_i32_99
  let c4_i32_100 : BitVec 32 := 4#32
  let v125 : BitVec 32 := Scalar.remsi v124 c4_i32_100
  let c512_i32_108 : BitVec 32 := 512#32
  let v137 : BitVec 32 := Scalar.muli v125 c512_i32_108
  let v138 : Index := Scalar.indexCast v137
  let c512_109 : Index := 512#32
  ![v138.toNat, 512]
def k1_dev7 (d0 : Dev nD) : Nat :=
  let c0_i32_127 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c1_i32_35 : BitVec 32 := 1#32
  let v52 : BitVec 32 := Scalar.addi v3 c1_i32_35
  let c8_i32_36 : BitVec 32 := 8#32
  let v53 : BitVec 32 := Scalar.addi v52 c8_i32_36
  let c4_i32_37 : BitVec 32 := 4#32
  let v54 : BitVec 32 := Scalar.remsi v53 c4_i32_37
  let v55 : BitVec 32 := Scalar.addi v21 v54
  let c1_i32_126 : BitVec 32 := 1#32
  let v161 : BitVec 32 := Scalar.muli v55 c1_i32_126
  let v162 : BitVec 32 := Scalar.addi c0_i32_127 v161
  v162.toNat
def k1_dev8 (d0 : Dev nD) : Nat :=
  let c0_i32_137 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c1_i32_38 : BitVec 32 := 1#32
  let v56 : BitVec 32 := Scalar.subi v3 c1_i32_38
  let c8_i32_39 : BitVec 32 := 8#32
  let v57 : BitVec 32 := Scalar.addi v56 c8_i32_39
  let c4_i32_40 : BitVec 32 := 4#32
  let v58 : BitVec 32 := Scalar.remsi v57 c4_i32_40
  let v59 : BitVec 32 := Scalar.addi v21 v58
  let c1_i32_136 : BitVec 32 := 1#32
  let v175 : BitVec 32 := Scalar.muli v59 c1_i32_136
  let v176 : BitVec 32 := Scalar.addi c0_i32_137 v175
  v176.toNat
def k1_dev9 (d0 : Dev nD) : Nat :=
  let c0_i32_193 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c1_i32_35 : BitVec 32 := 1#32
  let v52 : BitVec 32 := Scalar.addi v3 c1_i32_35
  let c8_i32_36 : BitVec 32 := 8#32
  let v53 : BitVec 32 := Scalar.addi v52 c8_i32_36
  let c4_i32_37 : BitVec 32 := 4#32
  let v54 : BitVec 32 := Scalar.remsi v53 c4_i32_37
  let v55 : BitVec 32 := Scalar.addi v21 v54
  let c1_i32_192 : BitVec 32 := 1#32
  let v239 : BitVec 32 := Scalar.muli v55 c1_i32_192
  let v240 : BitVec 32 := Scalar.addi c0_i32_193 v239
  v240.toNat
def k1_dev10 (d0 : Dev nD) : Nat :=
  let c0_i32_203 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c1_i32_38 : BitVec 32 := 1#32
  let v56 : BitVec 32 := Scalar.subi v3 c1_i32_38
  let c8_i32_39 : BitVec 32 := 8#32
  let v57 : BitVec 32 := Scalar.addi v56 c8_i32_39
  let c4_i32_40 : BitVec 32 := 4#32
  let v58 : BitVec 32 := Scalar.remsi v57 c4_i32_40
  let v59 : BitVec 32 := Scalar.addi v21 v58
  let c1_i32_202 : BitVec 32 := 1#32
  let v253 : BitVec 32 := Scalar.muli v59 c1_i32_202
  let v254 : BitVec 32 := Scalar.addi c0_i32_203 v253
  v254.toNat
def k1_off5 (d0 : Dev nD) (c0_i32_253 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c1_i32_248 : BitVec 32 := 1#32
  let v304 : BitVec 32 := Scalar.addi v3 c1_i32_248
  let c4_i32_249 : BitVec 32 := 4#32
  let v305 : BitVec 32 := Scalar.remsi v304 c4_i32_249
  let c512_i32_250 : BitVec 32 := 512#32
  let v306 : BitVec 32 := Scalar.muli v305 c512_i32_250
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v310 : BitVec 32 := Scalar.subi v20 c0_i32_253
  let c8_i32_254 : BitVec 32 := 8#32
  let v311 : BitVec 32 := Scalar.addi v310 c8_i32_254
  let c4_i32_255 : BitVec 32 := 4#32
  let v312 : BitVec 32 := Scalar.remsi v311 c4_i32_255
  let c128_i32 : BitVec 32 := 128#32
  let v315 : BitVec 32 := Scalar.muli v312 c128_i32
  let v316 : BitVec 32 := Scalar.addi v306 v315
  let v317 : Index := Scalar.indexCast v316
  let c0_258 : Index := 0#32
  ![v317.toNat, 0]
def k1_dev11 (d0 : Dev nD) : Nat :=
  let c0_i32_264 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_41 : BitVec 32 := 1#32
  let v60 : BitVec 32 := Scalar.addi v20 c1_i32_41
  let c8_i32_42 : BitVec 32 := 8#32
  let v61 : BitVec 32 := Scalar.addi v60 c8_i32_42
  let c4_i32_43 : BitVec 32 := 4#32
  let v62 : BitVec 32 := Scalar.remsi v61 c4_i32_43
  let c4_i32_44 : BitVec 32 := 4#32
  let v63 : BitVec 32 := Scalar.muli v62 c4_i32_44
  let c4_i32 : BitVec 32 := 4#32
  let v3 : BitVec 32 := Scalar.remsi v2 c4_i32
  let v64 : BitVec 32 := Scalar.addi v63 v3
  let c1_i32_263 : BitVec 32 := 1#32
  let v324 : BitVec 32 := Scalar.muli v64 c1_i32_263
  let v325 : BitVec 32 := Scalar.addi c0_i32_264 v324
  v325.toNat
def k1_off6 (d0 : Dev nD) (c0_i32_256 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c3_i32 : BitVec 32 := 3#32
  let v307 : BitVec 32 := Scalar.addi v3 c3_i32
  let c4_i32_251 : BitVec 32 := 4#32
  let v308 : BitVec 32 := Scalar.remsi v307 c4_i32_251
  let c512_i32_252 : BitVec 32 := 512#32
  let v309 : BitVec 32 := Scalar.muli v308 c512_i32_252
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v313 : BitVec 32 := Scalar.addi v20 c0_i32_256
  let c4_i32_257 : BitVec 32 := 4#32
  let v314 : BitVec 32 := Scalar.remsi v313 c4_i32_257
  let c128_i32_267 : BitVec 32 := 128#32
  let v330 : BitVec 32 := Scalar.muli v314 c128_i32_267
  let v331 : BitVec 32 := Scalar.addi v309 v330
  let v332 : Index := Scalar.indexCast v331
  let c512_268 : Index := 512#32
  ![v332.toNat, 512]
def k1_dev12 (d0 : Dev nD) : Nat :=
  let c0_i32_274 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_45 : BitVec 32 := 1#32
  let v65 : BitVec 32 := Scalar.subi v20 c1_i32_45
  let c8_i32_46 : BitVec 32 := 8#32
  let v66 : BitVec 32 := Scalar.addi v65 c8_i32_46
  let c4_i32_47 : BitVec 32 := 4#32
  let v67 : BitVec 32 := Scalar.remsi v66 c4_i32_47
  let c4_i32_48 : BitVec 32 := 4#32
  let v68 : BitVec 32 := Scalar.muli v67 c4_i32_48
  let c4_i32 : BitVec 32 := 4#32
  let v3 : BitVec 32 := Scalar.remsi v2 c4_i32
  let v69 : BitVec 32 := Scalar.addi v68 v3
  let c1_i32_273 : BitVec 32 := 1#32
  let v339 : BitVec 32 := Scalar.muli v69 c1_i32_273
  let v340 : BitVec 32 := Scalar.addi c0_i32_274 v339
  v340.toNat
def k1_off7 (d0 : Dev nD) (c0_i32_299 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c1_i32_248 : BitVec 32 := 1#32
  let v304 : BitVec 32 := Scalar.addi v3 c1_i32_248
  let c4_i32_249 : BitVec 32 := 4#32
  let v305 : BitVec 32 := Scalar.remsi v304 c4_i32_249
  let c512_i32_250 : BitVec 32 := 512#32
  let v306 : BitVec 32 := Scalar.muli v305 c512_i32_250
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v361 : BitVec 32 := Scalar.subi v20 c0_i32_299
  let c1_i32_300 : BitVec 32 := 1#32
  let v362 : BitVec 32 := Scalar.subi v361 c1_i32_300
  let c8_i32_301 : BitVec 32 := 8#32
  let v363 : BitVec 32 := Scalar.addi v362 c8_i32_301
  let c4_i32_302 : BitVec 32 := 4#32
  let v364 : BitVec 32 := Scalar.remsi v363 c4_i32_302
  let c128_i32_306 : BitVec 32 := 128#32
  let v368 : BitVec 32 := Scalar.muli v364 c128_i32_306
  let v369 : BitVec 32 := Scalar.addi v306 v368
  let v370 : Index := Scalar.indexCast v369
  let c0_307 : Index := 0#32
  ![v370.toNat, 0]
def k1_off8 (d0 : Dev nD) (c0_i32_303 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c3_i32 : BitVec 32 := 3#32
  let v307 : BitVec 32 := Scalar.addi v3 c3_i32
  let c4_i32_251 : BitVec 32 := 4#32
  let v308 : BitVec 32 := Scalar.remsi v307 c4_i32_251
  let c512_i32_252 : BitVec 32 := 512#32
  let v309 : BitVec 32 := Scalar.muli v308 c512_i32_252
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v365 : BitVec 32 := Scalar.addi v20 c0_i32_303
  let c1_i32_304 : BitVec 32 := 1#32
  let v366 : BitVec 32 := Scalar.addi v365 c1_i32_304
  let c4_i32_305 : BitVec 32 := 4#32
  let v367 : BitVec 32 := Scalar.remsi v366 c4_i32_305
  let c128_i32_313 : BitVec 32 := 128#32
  let v381 : BitVec 32 := Scalar.muli v367 c128_i32_313
  let v382 : BitVec 32 := Scalar.addi v309 v381
  let v383 : Index := Scalar.indexCast v382
  let c512_314 : Index := 512#32
  ![v383.toNat, 512]
def k1_dev13 (d0 : Dev nD) : Nat :=
  let c0_i32_332 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_41 : BitVec 32 := 1#32
  let v60 : BitVec 32 := Scalar.addi v20 c1_i32_41
  let c8_i32_42 : BitVec 32 := 8#32
  let v61 : BitVec 32 := Scalar.addi v60 c8_i32_42
  let c4_i32_43 : BitVec 32 := 4#32
  let v62 : BitVec 32 := Scalar.remsi v61 c4_i32_43
  let c4_i32_44 : BitVec 32 := 4#32
  let v63 : BitVec 32 := Scalar.muli v62 c4_i32_44
  let c4_i32 : BitVec 32 := 4#32
  let v3 : BitVec 32 := Scalar.remsi v2 c4_i32
  let v64 : BitVec 32 := Scalar.addi v63 v3
  let c1_i32_331 : BitVec 32 := 1#32
  let v408 : BitVec 32 := Scalar.muli v64 c1_i32_331
  let v409 : BitVec 32 := Scalar.addi c0_i32_332 v408
  v409.toNat
def k1_dev14 (d0 : Dev nD) : Nat :=
  let c0_i32_342 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_45 : BitVec 32 := 1#32
  let v65 : BitVec 32 := Scalar.subi v20 c1_i32_45
  let c8_i32_46 : BitVec 32 := 8#32
  let v66 : BitVec 32 := Scalar.addi v65 c8_i32_46
  let c4_i32_47 : BitVec 32 := 4#32
  let v67 : BitVec 32 := Scalar.remsi v66 c4_i32_47
  let c4_i32_48 : BitVec 32 := 4#32
  let v68 : BitVec 32 := Scalar.muli v67 c4_i32_48
  let c4_i32 : BitVec 32 := 4#32
  let v3 : BitVec 32 := Scalar.remsi v2 c4_i32
  let v69 : BitVec 32 := Scalar.addi v68 v3
  let c1_i32_341 : BitVec 32 := 1#32
  let v423 : BitVec 32 := Scalar.muli v69 c1_i32_341
  let v424 : BitVec 32 := Scalar.addi c0_i32_342 v423
  v424.toNat
def k1_dev15 (d0 : Dev nD) : Nat :=
  let c0_i32_400 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_41 : BitVec 32 := 1#32
  let v60 : BitVec 32 := Scalar.addi v20 c1_i32_41
  let c8_i32_42 : BitVec 32 := 8#32
  let v61 : BitVec 32 := Scalar.addi v60 c8_i32_42
  let c4_i32_43 : BitVec 32 := 4#32
  let v62 : BitVec 32 := Scalar.remsi v61 c4_i32_43
  let c4_i32_44 : BitVec 32 := 4#32
  let v63 : BitVec 32 := Scalar.muli v62 c4_i32_44
  let c4_i32 : BitVec 32 := 4#32
  let v3 : BitVec 32 := Scalar.remsi v2 c4_i32
  let v64 : BitVec 32 := Scalar.addi v63 v3
  let c1_i32_399 : BitVec 32 := 1#32
  let v492 : BitVec 32 := Scalar.muli v64 c1_i32_399
  let v493 : BitVec 32 := Scalar.addi c0_i32_400 v492
  v493.toNat
def k1_dev16 (d0 : Dev nD) : Nat :=
  let c0_i32_410 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_45 : BitVec 32 := 1#32
  let v65 : BitVec 32 := Scalar.subi v20 c1_i32_45
  let c8_i32_46 : BitVec 32 := 8#32
  let v66 : BitVec 32 := Scalar.addi v65 c8_i32_46
  let c4_i32_47 : BitVec 32 := 4#32
  let v67 : BitVec 32 := Scalar.remsi v66 c4_i32_47
  let c4_i32_48 : BitVec 32 := 4#32
  let v68 : BitVec 32 := Scalar.muli v67 c4_i32_48
  let c4_i32 : BitVec 32 := 4#32
  let v3 : BitVec 32 := Scalar.remsi v2 c4_i32
  let v69 : BitVec 32 := Scalar.addi v68 v3
  let c1_i32_409 : BitVec 32 := 1#32
  let v507 : BitVec 32 := Scalar.muli v69 c1_i32_409
  let v508 : BitVec 32 := Scalar.addi c0_i32_410 v507
  v508.toNat
def k1_off9 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c1_i32_248 : BitVec 32 := 1#32
  let v304 : BitVec 32 := Scalar.addi v3 c1_i32_248
  let c4_i32_249 : BitVec 32 := 4#32
  let v305 : BitVec 32 := Scalar.remsi v304 c4_i32_249
  let c512_i32_250 : BitVec 32 := 512#32
  let v306 : BitVec 32 := Scalar.muli v305 c512_i32_250
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_456 : BitVec 32 := 1#32
  let v562 : BitVec 32 := Scalar.addi v20 c1_i32_456
  let c4_i32_457 : BitVec 32 := 4#32
  let v563 : BitVec 32 := Scalar.remsi v562 c4_i32_457
  let c128_i32_460 : BitVec 32 := 128#32
  let v566 : BitVec 32 := Scalar.muli v563 c128_i32_460
  let v567 : BitVec 32 := Scalar.addi v306 v566
  let v568 : Index := Scalar.indexCast v567
  let c0_461 : Index := 0#32
  ![v568.toNat, 0]
def k1_dev17 (d0 : Dev nD) : Nat :=
  let c0_i32_473 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_41 : BitVec 32 := 1#32
  let v60 : BitVec 32 := Scalar.addi v20 c1_i32_41
  let c8_i32_42 : BitVec 32 := 8#32
  let v61 : BitVec 32 := Scalar.addi v60 c8_i32_42
  let c4_i32_43 : BitVec 32 := 4#32
  let v62 : BitVec 32 := Scalar.remsi v61 c4_i32_43
  let c4_i32_44 : BitVec 32 := 4#32
  let v63 : BitVec 32 := Scalar.muli v62 c4_i32_44
  let c4_i32 : BitVec 32 := 4#32
  let v3 : BitVec 32 := Scalar.remsi v2 c4_i32
  let v64 : BitVec 32 := Scalar.addi v63 v3
  let c1_i32_472 : BitVec 32 := 1#32
  let v584 : BitVec 32 := Scalar.muli v64 c1_i32_472
  let v585 : BitVec 32 := Scalar.addi c0_i32_473 v584
  v585.toNat
def k1_dev18 (d0 : Dev nD) : Nat :=
  let c0_i32_482 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_45 : BitVec 32 := 1#32
  let v65 : BitVec 32 := Scalar.subi v20 c1_i32_45
  let c8_i32_46 : BitVec 32 := 8#32
  let v66 : BitVec 32 := Scalar.addi v65 c8_i32_46
  let c4_i32_47 : BitVec 32 := 4#32
  let v67 : BitVec 32 := Scalar.remsi v66 c4_i32_47
  let c4_i32_48 : BitVec 32 := 4#32
  let v68 : BitVec 32 := Scalar.muli v67 c4_i32_48
  let c4_i32 : BitVec 32 := 4#32
  let v3 : BitVec 32 := Scalar.remsi v2 c4_i32
  let v69 : BitVec 32 := Scalar.addi v68 v3
  let c1_i32_481 : BitVec 32 := 1#32
  let v592 : BitVec 32 := Scalar.muli v69 c1_i32_481
  let v593 : BitVec 32 := Scalar.addi c0_i32_482 v592
  v593.toNat
def k1_dev19 (d0 : Dev nD) : Nat :=
  let c0_i32_540 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_41 : BitVec 32 := 1#32
  let v60 : BitVec 32 := Scalar.addi v20 c1_i32_41
  let c8_i32_42 : BitVec 32 := 8#32
  let v61 : BitVec 32 := Scalar.addi v60 c8_i32_42
  let c4_i32_43 : BitVec 32 := 4#32
  let v62 : BitVec 32 := Scalar.remsi v61 c4_i32_43
  let c4_i32_44 : BitVec 32 := 4#32
  let v63 : BitVec 32 := Scalar.muli v62 c4_i32_44
  let c4_i32 : BitVec 32 := 4#32
  let v3 : BitVec 32 := Scalar.remsi v2 c4_i32
  let v64 : BitVec 32 := Scalar.addi v63 v3
  let c1_i32_539 : BitVec 32 := 1#32
  let v643 : BitVec 32 := Scalar.muli v64 c1_i32_539
  let v644 : BitVec 32 := Scalar.addi c0_i32_540 v643
  v644.toNat
def k1_dev20 (d0 : Dev nD) : Nat :=
  let c0_i32_549 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_45 : BitVec 32 := 1#32
  let v65 : BitVec 32 := Scalar.subi v20 c1_i32_45
  let c8_i32_46 : BitVec 32 := 8#32
  let v66 : BitVec 32 := Scalar.addi v65 c8_i32_46
  let c4_i32_47 : BitVec 32 := 4#32
  let v67 : BitVec 32 := Scalar.remsi v66 c4_i32_47
  let c4_i32_48 : BitVec 32 := 4#32
  let v68 : BitVec 32 := Scalar.muli v67 c4_i32_48
  let c4_i32 : BitVec 32 := 4#32
  let v3 : BitVec 32 := Scalar.remsi v2 c4_i32
  let v69 : BitVec 32 := Scalar.addi v68 v3
  let c1_i32_548 : BitVec 32 := 1#32
  let v651 : BitVec 32 := Scalar.muli v69 c1_i32_548
  let v652 : BitVec 32 := Scalar.addi c0_i32_549 v651
  v652.toNat
def k1_dev21 (d0 : Dev nD) : Nat :=
  let c0_i32_607 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_41 : BitVec 32 := 1#32
  let v60 : BitVec 32 := Scalar.addi v20 c1_i32_41
  let c8_i32_42 : BitVec 32 := 8#32
  let v61 : BitVec 32 := Scalar.addi v60 c8_i32_42
  let c4_i32_43 : BitVec 32 := 4#32
  let v62 : BitVec 32 := Scalar.remsi v61 c4_i32_43
  let c4_i32_44 : BitVec 32 := 4#32
  let v63 : BitVec 32 := Scalar.muli v62 c4_i32_44
  let c4_i32 : BitVec 32 := 4#32
  let v3 : BitVec 32 := Scalar.remsi v2 c4_i32
  let v64 : BitVec 32 := Scalar.addi v63 v3
  let c1_i32_606 : BitVec 32 := 1#32
  let v702 : BitVec 32 := Scalar.muli v64 c1_i32_606
  let v703 : BitVec 32 := Scalar.addi c0_i32_607 v702
  v703.toNat
def k1_dev22 (d0 : Dev nD) : Nat :=
  let c0_i32_616 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_45 : BitVec 32 := 1#32
  let v65 : BitVec 32 := Scalar.subi v20 c1_i32_45
  let c8_i32_46 : BitVec 32 := 8#32
  let v66 : BitVec 32 := Scalar.addi v65 c8_i32_46
  let c4_i32_47 : BitVec 32 := 4#32
  let v67 : BitVec 32 := Scalar.remsi v66 c4_i32_47
  let c4_i32_48 : BitVec 32 := 4#32
  let v68 : BitVec 32 := Scalar.muli v67 c4_i32_48
  let c4_i32 : BitVec 32 := 4#32
  let v3 : BitVec 32 := Scalar.remsi v2 c4_i32
  let v69 : BitVec 32 := Scalar.addi v68 v3
  let c1_i32_615 : BitVec 32 := 1#32
  let v710 : BitVec 32 := Scalar.muli v69 c1_i32_615
  let v711 : BitVec 32 := Scalar.addi c0_i32_616 v710
  v711.toNat
def k1_off10 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c1_i32_248 : BitVec 32 := 1#32
  let v304 : BitVec 32 := Scalar.addi v3 c1_i32_248
  let c4_i32_249 : BitVec 32 := 4#32
  let v305 : BitVec 32 := Scalar.remsi v304 c4_i32_249
  let c512_i32_250 : BitVec 32 := 512#32
  let v306 : BitVec 32 := Scalar.muli v305 c512_i32_250
  let v761 : Index := Scalar.indexCast v306
  let c0_670 : Index := 0#32
  ![v761.toNat, 0]
def k1_dev23 (d0 : Dev nD) : Nat :=
  let c0_i32_682 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c1_i32_35 : BitVec 32 := 1#32
  let v52 : BitVec 32 := Scalar.addi v3 c1_i32_35
  let c8_i32_36 : BitVec 32 := 8#32
  let v53 : BitVec 32 := Scalar.addi v52 c8_i32_36
  let c4_i32_37 : BitVec 32 := 4#32
  let v54 : BitVec 32 := Scalar.remsi v53 c4_i32_37
  let v55 : BitVec 32 := Scalar.addi v21 v54
  let c1_i32_681 : BitVec 32 := 1#32
  let v775 : BitVec 32 := Scalar.muli v55 c1_i32_681
  let v776 : BitVec 32 := Scalar.addi c0_i32_682 v775
  v776.toNat
def k1_dev24 (d0 : Dev nD) : Nat :=
  let c0_i32_691 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c1_i32_38 : BitVec 32 := 1#32
  let v56 : BitVec 32 := Scalar.subi v3 c1_i32_38
  let c8_i32_39 : BitVec 32 := 8#32
  let v57 : BitVec 32 := Scalar.addi v56 c8_i32_39
  let c4_i32_40 : BitVec 32 := 4#32
  let v58 : BitVec 32 := Scalar.remsi v57 c4_i32_40
  let v59 : BitVec 32 := Scalar.addi v21 v58
  let c1_i32_690 : BitVec 32 := 1#32
  let v783 : BitVec 32 := Scalar.muli v59 c1_i32_690
  let v784 : BitVec 32 := Scalar.addi c0_i32_691 v783
  v784.toNat
def k1_off11 (d0 : Dev nD) (c0_i32_731 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c1_i32_730 : BitVec 32 := 1#32
  let v815 : BitVec 32 := Scalar.addi v3 c1_i32_730
  let v816 : BitVec 32 := Scalar.subi v815 c0_i32_731
  let c1_i32_732 : BitVec 32 := 1#32
  let v817 : BitVec 32 := Scalar.subi v816 c1_i32_732
  let c8_i32_733 : BitVec 32 := 8#32
  let v818 : BitVec 32 := Scalar.addi v817 c8_i32_733
  let c4_i32_734 : BitVec 32 := 4#32
  let v819 : BitVec 32 := Scalar.remsi v818 c4_i32_734
  let c512_i32_735 : BitVec 32 := 512#32
  let v820 : BitVec 32 := Scalar.muli v819 c512_i32_735
  let v829 : Index := Scalar.indexCast v820
  let c0_744 : Index := 0#32
  ![v829.toNat, 0]
def k1_off12 (d0 : Dev nD) (c0_i32_737 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c3_i32_736 : BitVec 32 := 3#32
  let v821 : BitVec 32 := Scalar.addi v3 c3_i32_736
  let v822 : BitVec 32 := Scalar.addi v821 c0_i32_737
  let c1_i32_738 : BitVec 32 := 1#32
  let v823 : BitVec 32 := Scalar.addi v822 c1_i32_738
  let c4_i32_739 : BitVec 32 := 4#32
  let v824 : BitVec 32 := Scalar.remsi v823 c4_i32_739
  let c512_i32_740 : BitVec 32 := 512#32
  let v825 : BitVec 32 := Scalar.muli v824 c512_i32_740
  let v834 : Index := Scalar.indexCast v825
  let c512_748 : Index := 512#32
  ![v834.toNat, 512]
def k1_dev25 (d0 : Dev nD) : Nat :=
  let c0_i32_753 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c1_i32_35 : BitVec 32 := 1#32
  let v52 : BitVec 32 := Scalar.addi v3 c1_i32_35
  let c8_i32_36 : BitVec 32 := 8#32
  let v53 : BitVec 32 := Scalar.addi v52 c8_i32_36
  let c4_i32_37 : BitVec 32 := 4#32
  let v54 : BitVec 32 := Scalar.remsi v53 c4_i32_37
  let v55 : BitVec 32 := Scalar.addi v21 v54
  let c1_i32_752 : BitVec 32 := 1#32
  let v836 : BitVec 32 := Scalar.muli v55 c1_i32_752
  let v837 : BitVec 32 := Scalar.addi c0_i32_753 v836
  v837.toNat
def k1_dev26 (d0 : Dev nD) : Nat :=
  let c0_i32_762 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c1_i32_38 : BitVec 32 := 1#32
  let v56 : BitVec 32 := Scalar.subi v3 c1_i32_38
  let c8_i32_39 : BitVec 32 := 8#32
  let v57 : BitVec 32 := Scalar.addi v56 c8_i32_39
  let c4_i32_40 : BitVec 32 := 4#32
  let v58 : BitVec 32 := Scalar.remsi v57 c4_i32_40
  let v59 : BitVec 32 := Scalar.addi v21 v58
  let c1_i32_761 : BitVec 32 := 1#32
  let v844 : BitVec 32 := Scalar.muli v59 c1_i32_761
  let v845 : BitVec 32 := Scalar.addi c0_i32_762 v844
  v845.toNat
def k1_dev27 (d0 : Dev nD) : Nat :=
  let c0_i32_824 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c1_i32_35 : BitVec 32 := 1#32
  let v52 : BitVec 32 := Scalar.addi v3 c1_i32_35
  let c8_i32_36 : BitVec 32 := 8#32
  let v53 : BitVec 32 := Scalar.addi v52 c8_i32_36
  let c4_i32_37 : BitVec 32 := 4#32
  let v54 : BitVec 32 := Scalar.remsi v53 c4_i32_37
  let v55 : BitVec 32 := Scalar.addi v21 v54
  let c1_i32_823 : BitVec 32 := 1#32
  let v897 : BitVec 32 := Scalar.muli v55 c1_i32_823
  let v898 : BitVec 32 := Scalar.addi c0_i32_824 v897
  v898.toNat
def k1_dev28 (d0 : Dev nD) : Nat :=
  let c0_i32_833 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c1_i32_38 : BitVec 32 := 1#32
  let v56 : BitVec 32 := Scalar.subi v3 c1_i32_38
  let c8_i32_39 : BitVec 32 := 8#32
  let v57 : BitVec 32 := Scalar.addi v56 c8_i32_39
  let c4_i32_40 : BitVec 32 := 4#32
  let v58 : BitVec 32 := Scalar.remsi v57 c4_i32_40
  let v59 : BitVec 32 := Scalar.addi v21 v58
  let c1_i32_832 : BitVec 32 := 1#32
  let v905 : BitVec 32 := Scalar.muli v59 c1_i32_832
  let v906 : BitVec 32 := Scalar.addi c0_i32_833 v905
  v906.toNat
abbrev stage1_0 : Fin 1 → Memref sig .tc .vmem S2048x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S2048x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S1x2048x1024 : Shape := ⟨3, ![1, 2048, 1024]⟩
abbrev S1024x16384 : Shape := ⟨2, ![1024, 16384]⟩
abbrev S1x2048x128x128 : Shape := ⟨4, ![1, 2048, 128, 128]⟩
abbrev S16384x1024 : Shape := ⟨2, ![16384, 1024]⟩
abbrev S2048x1024 : Shape := ⟨2, ![2048, 1024]⟩
abbrev S2048x16384 : Shape := ⟨2, ![2048, 16384]⟩
abbrev S2048x128x128 : Shape := ⟨3, ![2048, 128, 128]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S_ : Shape := ⟨0, ![]⟩
abbrev S128x2048x2048 : Shape := ⟨3, ![128, 2048, 2048]⟩
abbrev S1x2048x2048 : Shape := ⟨3, ![1, 2048, 2048]⟩
abbrev S128x2048 : Shape := ⟨2, ![128, 2048]⟩
abbrev S128x2048x1 : Shape := ⟨3, ![128, 2048, 1]⟩
abbrev S1x2048x1 : Shape := ⟨3, ![1, 2048, 1]⟩
abbrev S128x128x2048 : Shape := ⟨3, ![128, 128, 2048]⟩

abbrev nBuf : Space → Nat
  | .hbm => 76
  | .vmem => 0
  | .smem => 0
  | _ => 0

abbrev bufTy : (tb : Table) → Fin (tcTables nBuf tb) → BufTy
  | .hbm, ⟨0, _⟩ => ⟨S1x2048x1024, .bf16⟩
  | .hbm, ⟨1, _⟩ => ⟨S1024x16384, .bf16⟩
  | .hbm, ⟨2, _⟩ => ⟨S1x2048x128x128, .bf16⟩
  | .hbm, ⟨3, _⟩ => ⟨S1x2048x128x128, .bf16⟩
  | .hbm, ⟨4, _⟩ => ⟨S16384x1024, .bf16⟩
  | .hbm, ⟨5, _⟩ => ⟨S2048x1024, .bf16⟩
  | .hbm, ⟨6, _⟩ => ⟨S2048x16384, .f32⟩
  | .hbm, ⟨7, _⟩ => ⟨S2048x16384, .bf16⟩
  | .hbm, ⟨8, _⟩ => ⟨S2048x128x128, .bf16⟩
  | .hbm, ⟨9, _⟩ => ⟨S2048x128x128, .bf16⟩
  | .hbm, ⟨10, _⟩ => ⟨S2048, .i32⟩
  | .hbm, ⟨11, _⟩ => ⟨S2048x1, .i32⟩
  | .hbm, ⟨12, _⟩ => ⟨S2048, .i32⟩
  | .hbm, ⟨13, _⟩ => ⟨S1x2048, .i32⟩
  | .hbm, ⟨14, _⟩ => ⟨S2048x2048, .i32⟩
  | .hbm, ⟨15, _⟩ => ⟨S2048x2048, .i32⟩
  | .hbm, ⟨16, _⟩ => ⟨S2048x2048, .i32⟩
  | .hbm, ⟨17, _⟩ => ⟨S2048x2048, .i32⟩
  | .hbm, ⟨18, _⟩ => ⟨S_, .i32⟩
  | .hbm, ⟨19, _⟩ => ⟨S2048x2048, .i32⟩
  | .hbm, ⟨20, _⟩ => ⟨S2048x2048, .i1⟩
  | .hbm, ⟨21, _⟩ => ⟨S_, .i32⟩
  | .hbm, ⟨22, _⟩ => ⟨S1x2048, .i32⟩
  | .hbm, ⟨23, _⟩ => ⟨S1x2048, .i1⟩
  | .hbm, ⟨24, _⟩ => ⟨S_, .i32⟩
  | .hbm, ⟨25, _⟩ => ⟨S2048x1, .i32⟩
  | .hbm, ⟨26, _⟩ => ⟨S2048x1, .i1⟩
  | .hbm, ⟨27, _⟩ => ⟨S2048x2048, .i1⟩
  | .hbm, ⟨28, _⟩ => ⟨S2048x2048, .i1⟩
  | .hbm, ⟨29, _⟩ => ⟨S2048x2048, .i1⟩
  | .hbm, ⟨30, _⟩ => ⟨S2048x2048, .i1⟩
  | .hbm, ⟨31, _⟩ => ⟨S128x2048x2048, .f32⟩
  | .hbm, ⟨32, _⟩ => ⟨S128x2048x2048, .bf16⟩
  | .hbm, ⟨33, _⟩ => ⟨S128x2048x2048, .f32⟩
  | .hbm, ⟨34, _⟩ => ⟨S_, .f32⟩
  | .hbm, ⟨35, _⟩ => ⟨S128x2048x2048, .f32⟩
  | .hbm, ⟨36, _⟩ => ⟨S128x2048x2048, .f32⟩
  | .hbm, ⟨37, _⟩ => ⟨S1x2048x2048, .i1⟩
  | .hbm, ⟨38, _⟩ => ⟨S_, .f32⟩
  | .hbm, ⟨39, _⟩ => ⟨S_, .f32⟩
  | .hbm, ⟨40, _⟩ => ⟨S128x2048x2048, .i1⟩
  | .hbm, ⟨41, _⟩ => ⟨S128x2048x2048, .f32⟩
  | .hbm, ⟨42, _⟩ => ⟨S128x2048x2048, .f32⟩
  | .hbm, ⟨43, _⟩ => ⟨S_, .f32⟩
  | .hbm, ⟨44, _⟩ => ⟨S128x2048, .f32⟩
  | .hbm, ⟨45, _⟩ => ⟨S128x2048x1, .f32⟩
  | .hbm, ⟨46, _⟩ => ⟨S128x2048x2048, .f32⟩
  | .hbm, ⟨47, _⟩ => ⟨S128x2048x2048, .f32⟩
  | .hbm, ⟨48, _⟩ => ⟨S128x2048x2048, .f32⟩
  | .hbm, ⟨49, _⟩ => ⟨S_, .i1⟩
  | .hbm, ⟨50, _⟩ => ⟨S2048, .i1⟩
  | .hbm, ⟨51, _⟩ => ⟨S1x2048x1, .i1⟩
  | .hbm, ⟨52, _⟩ => ⟨S_, .f32⟩
  | .hbm, ⟨53, _⟩ => ⟨S128x2048, .f32⟩
  | .hbm, ⟨54, _⟩ => ⟨S128x2048x1, .f32⟩
  | .hbm, ⟨55, _⟩ => ⟨S_, .f32⟩
  | .hbm, ⟨56, _⟩ => ⟨S_, .f32⟩
  | .hbm, ⟨57, _⟩ => ⟨S128x2048x1, .i1⟩
  | .hbm, ⟨58, _⟩ => ⟨S128x2048x1, .f32⟩
  | .hbm, ⟨59, _⟩ => ⟨S128x2048x1, .f32⟩
  | .hbm, ⟨60, _⟩ => ⟨S128x2048x2048, .f32⟩
  | .hbm, ⟨61, _⟩ => ⟨S128x2048x2048, .f32⟩
  | .hbm, ⟨62, _⟩ => ⟨S1x2048x1, .i1⟩
  | .hbm, ⟨63, _⟩ => ⟨S_, .f32⟩
  | .hbm, ⟨64, _⟩ => ⟨S_, .f32⟩
  | .hbm, ⟨65, _⟩ => ⟨S128x2048x2048, .i1⟩
  | .hbm, ⟨66, _⟩ => ⟨S128x2048x2048, .f32⟩
  | .hbm, ⟨67, _⟩ => ⟨S128x2048x2048, .f32⟩
  | .hbm, ⟨68, _⟩ => ⟨S2048x128x128, .bf16⟩
  | .hbm, ⟨69, _⟩ => ⟨S2048x128x128, .f32⟩
  | .hbm, ⟨70, _⟩ => ⟨S128x128x2048, .f32⟩
  | .hbm, ⟨71, _⟩ => ⟨S2048x128x128, .f32⟩
  | .hbm, ⟨72, _⟩ => ⟨S2048x16384, .f32⟩
  | .hbm, ⟨73, _⟩ => ⟨S16384x1024, .f32⟩
  | .hbm, ⟨74, _⟩ => ⟨S2048x1024, .f32⟩
  | .hbm, ⟨75, _⟩ => ⟨S1x2048x1024, .f32⟩
  | _, _ => ⟨S1x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_c : Ref sig .tc := ⟨.hbm, 18, rfl⟩
abbrev main_v13 : Ref sig .tc := ⟨.hbm, 19, rfl⟩
abbrev main_v14 : Ref sig .tc := ⟨.hbm, 20, rfl⟩
abbrev main_c_0 : Ref sig .tc := ⟨.hbm, 21, rfl⟩
abbrev main_v15 : Ref sig .tc := ⟨.hbm, 22, rfl⟩
abbrev main_v16 : Ref sig .tc := ⟨.hbm, 23, rfl⟩
abbrev main_c_1 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_2 : Ref sig .tc := ⟨.hbm, 38, rfl⟩
abbrev main_call0_v0 : Ref sig .tc := ⟨.hbm, 39, rfl⟩
abbrev main_call0_v1 : Ref sig .tc := ⟨.hbm, 40, rfl⟩
abbrev main_call0_v2 : Ref sig .tc := ⟨.hbm, 41, rfl⟩
abbrev main_v29 : Ref sig .tc := ⟨.hbm, 42, rfl⟩
abbrev main_cst_3 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_c_4 : Ref sig .tc := ⟨.hbm, 49, rfl⟩
abbrev main_v35 : Ref sig .tc := ⟨.hbm, 50, rfl⟩
abbrev main_v36 : Ref sig .tc := ⟨.hbm, 51, rfl⟩
abbrev main_cst_5 : Ref sig .tc := ⟨.hbm, 52, rfl⟩
abbrev main_v37 : Ref sig .tc := ⟨.hbm, 53, rfl⟩
abbrev main_v38 : Ref sig .tc := ⟨.hbm, 54, rfl⟩
abbrev main_cst_6 : Ref sig .tc := ⟨.hbm, 55, rfl⟩
abbrev main_call1_v0 : Ref sig .tc := ⟨.hbm, 56, rfl⟩
abbrev main_call1_v1 : Ref sig .tc := ⟨.hbm, 57, rfl⟩
abbrev main_call1_v2 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_7 : Ref sig .tc := ⟨.hbm, 63, rfl⟩
abbrev main_call2_v0 : Ref sig .tc := ⟨.hbm, 64, rfl⟩
abbrev main_call2_v1 : Ref sig .tc := ⟨.hbm, 65, rfl⟩
abbrev main_call2_v2 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩

abbrev nD : Nat := 1
abbrev τ : Topo := Topo.v7x

variable {F : FTy → Type} [FloatOps F]
-- ==== Attn.lean ====
abbrev S2048x1024 : Shape := ⟨2, ![2048, 1024]⟩
abbrev S1024x1024 : Shape := ⟨2, ![1024, 1024]⟩
abbrev S128x1024 : Shape := ⟨2, ![128, 1024]⟩
abbrev S128x1 : Shape := ⟨2, ![128, 1]⟩
abbrev S128x2048 : Shape := ⟨2, ![128, 2048]⟩
abbrev S128x128 : Shape := ⟨2, ![128, 128]⟩
abbrev S2048x128 : Shape := ⟨2, ![2048, 128]⟩
abbrev S128 : Shape := ⟨1, ![128]⟩
abbrev S128x512 : Shape := ⟨2, ![128, 512]⟩
abbrev S512x128 : Shape := ⟨2, ![512, 128]⟩

abbrev nBuf : Space → Nat
  | .hbm => 6
  | .vmem => 8
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .bf16⟩
  | .hbm, ⟨3, _⟩ => ⟨S2048x1024, .bf16⟩
  | .hbm, ⟨4, _⟩ => ⟨S1024x1024, .bf16⟩
  | .hbm, ⟨5, _⟩ => ⟨S2048x1024, .f32⟩
  | .local _ .vmem, ⟨0, _⟩ => ⟨S128x1024, .bf16⟩
  | .local _ .vmem, ⟨1, _⟩ => ⟨S128x1024, .bf16⟩
  | .local _ .vmem, ⟨2, _⟩ => ⟨S1024x1024, .bf16⟩
  | .local _ .vmem, ⟨3, _⟩ => ⟨S2048x1024, .bf16⟩
  | .local _ .vmem, ⟨4, _⟩ => ⟨S2048x1024, .bf16⟩
  | .local _ .vmem, ⟨5, _⟩ => ⟨S1024x1024, .bf16⟩
  | .local _ .vmem, ⟨6, _⟩ => ⟨S128x1024, .f32⟩
  | .local _ .vmem, ⟨7, _⟩ => ⟨S128x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c0_i32_5 : BitVec 32 := 0#32
  let v13 : BitVec 1 := Scalar.cmpi .sgt arg0 c0_i32_5
  let v14 : BitVec 32 := Scalar.extui v13
  let c0_i32_6 : BitVec 32 := 0#32
  let v15 : BitVec 1 := Scalar.cmpi .ne v14 c0_i32_6
  v15

def k0_off1 (i : grid0.Coords) : Fin 2 → Nat :=
  let arg0 : BitVec 32 := BitVec.ofNat 32 (i 0).val
  let v16 : BitVec 32 := Scalar.subi arg0 arg0
  let c128_i32_35 : BitVec 32 := 128#32
  let v108 : BitVec 32 := Scalar.muli v16 c128_i32_35
  let v109 : Index := Scalar.indexCast v108
  let c0_36 : Index := 0#32
  ![v109.toNat, 0]
def k0_off2 (i : grid0.Coords) : Fin 2 → Nat :=
  let arg0 : BitVec 32 := BitVec.ofNat 32 (i 0).val
  let c1_i32 : BitVec 32 := 1#32
  let v17 : BitVec 32 := Scalar.subi arg0 c1_i32
  let c128_i32_40 : BitVec 32 := 128#32
  let v116 : BitVec 32 := Scalar.muli v17 c128_i32_40
  let v117 : Index := Scalar.indexCast v116
  let c0_41 : Index := 0#32
  ![v117.toNat, 0]
def k0_off3 (i : grid0.Coords) : Fin 2 → Nat :=
  let arg0 : BitVec 32 := BitVec.ofNat 32 (i 0).val
  let c128_i32_45 : BitVec 32 := 128#32
  let v124 : BitVec 32 := Scalar.muli arg0 c128_i32_45
  let v125 : Index := Scalar.indexCast v124
  let c0_46 : Index := 0#32
  ![v125.toNat, 0]
def k0_off4 (i : grid0.Coords) : Fin 2 → Nat :=
  let arg0 : BitVec 32 := BitVec.ofNat 32 (i 0).val
  let c1_i32_7 : BitVec 32 := 1#32
  let v18 : BitVec 32 := Scalar.addi arg0 c1_i32_7
  let c15_i32 : BitVec 32 := 15#32
  let v19 : BitVec 32 := Scalar.minsi v18 c15_i32
  let c128_i32_50 : BitVec 32 := 128#32
  let v132 : BitVec 32 := Scalar.muli v19 c128_i32_50
  let v133 : Index := Scalar.indexCast v132
  let c0_51 : Index := 0#32
  ![v133.toNat, 0]
def k0_off5 (i : grid0.Coords) : Fin 2 → Nat :=
  let arg0 : BitVec 32 := BitVec.ofNat 32 (i 0).val
  let v16 : BitVec 32 := Scalar.subi arg0 arg0
  let c128_i32_58 : BitVec 32 := 128#32
  let v153 : BitVec 32 := Scalar.muli v16 c128_i32_58
  let v154 : Index := Scalar.indexCast v153
  let c128 : Index := 128#32
  ![v154.toNat, 128]
def k0_off6 (i : grid0.Coords) : Fin 2 → Nat :=
  let arg0 : BitVec 32 := BitVec.ofNat 32 (i 0).val
  let c1_i32 : BitVec 32 := 1#32
  let v17 : BitVec 32 := Scalar.subi arg0 c1_i32
  let c128_i32_62 : BitVec 32 := 128#32
  let v161 : BitVec 32 := Scalar.muli v17 c128_i32_62
  let v162 : Index := Scalar.indexCast v161
  let c128_63 : Index := 128#32
  ![v162.toNat, 128]
def k0_off7 (i : grid0.Coords) : Fin 2 → Nat :=
  let arg0 : BitVec 32 := BitVec.ofNat 32 (i 0).val
  let c128_i32_67 : BitVec 32 := 128#32
  let v169 : BitVec 32 := Scalar.muli arg0 c128_i32_67
  let v170 : Index := Scalar.indexCast v169
  let c128_68 : Index := 128#32
  ![v170.toNat, 128]
def k0_off8 (i : grid0.Coords) : Fin 2 → Nat :=
  let arg0 : BitVec 32 := BitVec.ofNat 32 (i 0).val
  let c1_i32_7 : BitVec 32 := 1#32
  let v18 : BitVec 32 := Scalar.addi arg0 c1_i32_7
  let c15_i32 : BitVec 32 := 15#32
  let v19 : BitVec 32 := Scalar.minsi v18 c15_i32
  let c128_i32_72 : BitVec 32 := 128#32
  let v177 : BitVec 32 := Scalar.muli v19 c128_i32_72
  let v178 : Index := Scalar.indexCast v177
  let c128_73 : Index := 128#32
  ![v178.toNat, 128]
def k0_off9 (i : grid0.Coords) : Fin 2 → Nat :=
  let arg0 : BitVec 32 := BitVec.ofNat 32 (i 0).val
  let v16 : BitVec 32 := Scalar.subi arg0 arg0
  let c128_i32_80 : BitVec 32 := 128#32
  let v198 : BitVec 32 := Scalar.muli v16 c128_i32_80
  let v199 : Index := Scalar.indexCast v198
  let c256 : Index := 256#32
  ![v199.toNat, 256]
def k0_off10 (i : grid0.Coords) : Fin 2 → Nat :=
  let arg0 : BitVec 32 := BitVec.ofNat 32 (i 0).val
  let c1_i32 : BitVec 32 := 1#32
  let v17 : BitVec 32 := Scalar.subi arg0 c1_i32
  let c128_i32_84 : BitVec 32 := 128#32
  let v206 : BitVec 32 := Scalar.muli v17 c128_i32_84
  let v207 : Index := Scalar.indexCast v206
  let c256_85 : Index := 256#32
  ![v207.toNat, 256]
def k0_off11 (i : grid0.Coords) : Fin 2 → Nat :=
  let arg0 : BitVec 32 := BitVec.ofNat 32 (i 0).val
  let c128_i32_89 : BitVec 32 := 128#32
  let v214 : BitVec 32 := Scalar.muli arg0 c128_i32_89
  let v215 : Index := Scalar.indexCast v214
  let c256_90 : Index := 256#32
  ![v215.toNat, 256]
def k0_off12 (i : grid0.Coords) : Fin 2 → Nat :=
  let arg0 : BitVec 32 := BitVec.ofNat 32 (i 0).val
  let c1_i32_7 : BitVec 32 := 1#32
  let v18 : BitVec 32 := Scalar.addi arg0 c1_i32_7
  let c15_i32 : BitVec 32 := 15#32
  let v19 : BitVec 32 := Scalar.minsi v18 c15_i32
  let c128_i32_94 : BitVec 32 := 128#32
  let v222 : BitVec 32 := Scalar.muli v19 c128_i32_94
  let v223 : Index := Scalar.indexCast v222
  let c256_95 : Index := 256#32
  ![v223.toNat, 256]
def k0_off13 (i : grid0.Coords) : Fin 2 → Nat :=
  let arg0 : BitVec 32 := BitVec.ofNat 32 (i 0).val
  let v16 : BitVec 32 := Scalar.subi arg0 arg0
  let c128_i32_102 : BitVec 32 := 128#32
  let v243 : BitVec 32 := Scalar.muli v16 c128_i32_102
  let v244 : Index := Scalar.indexCast v243
  let c384 : Index := 384#32
  ![v244.toNat, 384]
def k0_off14 (i : grid0.Coords) : Fin 2 → Nat :=
  let arg0 : BitVec 32 := BitVec.ofNat 32 (i 0).val
  let c1_i32 : BitVec 32 := 1#32
  let v17 : BitVec 32 := Scalar.subi arg0 c1_i32
  let c128_i32_106 : BitVec 32 := 128#32
  let v251 : BitVec 32 := Scalar.muli v17 c128_i32_106
  let v252 : Index := Scalar.indexCast v251
  let c384_107 : Index := 384#32
  ![v252.toNat, 384]
def k0_off15 (i : grid0.Coords) : Fin 2 → Nat :=
  let arg0 : BitVec 32 := BitVec.ofNat 32 (i 0).val
  let c128_i32_111 : BitVec 32 := 128#32
  let v259 : BitVec 32 := Scalar.muli arg0 c128_i32_111
  let v260 : Index := Scalar.indexCast v259
  let c384_112 : Index := 384#32
  ![v260.toNat, 384]
def k0_off16 (i : grid0.Coords) : Fin 2 → Nat :=
  let arg0 : BitVec 32 := BitVec.ofNat 32 (i 0).val
  let c1_i32_7 : BitVec 32 := 1#32
  let v18 : BitVec 32 := Scalar.addi arg0 c1_i32_7
  let c15_i32 : BitVec 32 := 15#32
  let v19 : BitVec 32 := Scalar.minsi v18 c15_i32
  let c128_i32_116 : BitVec 32 := 128#32
  let v267 : BitVec 32 := Scalar.muli v19 c128_i32_116
  let v268 : Index := Scalar.indexCast v267
  let c384_117 : Index := 384#32
  ![v268.toNat, 384]
def k0_off17 (i : grid0.Coords) : Fin 2 → Nat :=
  let arg0 : BitVec 32 := BitVec.ofNat 32 (i 0).val
  let v16 : BitVec 32 := Scalar.subi arg0 arg0
  let c128_i32_124 : BitVec 32 := 128#32
  let v288 : BitVec 32 := Scalar.muli v16 c128_i32_124
  let v289 : Index := Scalar.indexCast v288
  let c512 : Index := 512#32
  ![v289.toNat, 512]
def k0_off18 (i : grid0.Coords) : Fin 2 → Nat :=
  let arg0 : BitVec 32 := BitVec.ofNat 32 (i 0).val
  let c1_i32 : BitVec 32 := 1#32
  let v17 : BitVec 32 := Scalar.subi arg0 c1_i32
  let c128_i32_128 : BitVec 32 := 128#32
  let v296 : BitVec 32 := Scalar.muli v17 c128_i32_128
  let v297 : Index := Scalar.indexCast v296
  let c512_129 : Index := 512#32
  ![v297.toNat, 512]
def k0_off19 (i : grid0.Coords) : Fin 2 → Nat :=
  let arg0 : BitVec 32 := BitVec.ofNat 32 (i 0).val
  let c128_i32_133 : BitVec 32 := 128#32
  let v304 : BitVec 32 := Scalar.muli arg0 c128_i32_133
  let v305 : Index := Scalar.indexCast v304
  let c512_134 : Index := 512#32
  ![v305.toNat, 512]
def k0_off20 (i : grid0.Coords) : Fin 2 → Nat :=
  let arg0 : BitVec 32 := BitVec.ofNat 32 (i 0).val
  let c1_i32_7 : BitVec 32 := 1#32
  let v18 : BitVec 32 := Scalar.addi arg0 c1_i32_7
  let c15_i32 : BitVec 32 := 15#32
  let v19 : BitVec 32 := Scalar.minsi v18 c15_i32
  let c128_i32_138 : BitVec 32 := 128#32
  let v312 : BitVec 32 := Scalar.muli v19 c128_i32_138
  let v313 : Index := Scalar.indexCast v312
  let c512_139 : Index := 512#32
  ![v313.toNat, 512]
def k0_off21 (i : grid0.Coords) : Fin 2 → Nat :=
  let arg0 : BitVec 32 := BitVec.ofNat 32 (i 0).val
  let v16 : BitVec 32 := Scalar.subi arg0 arg0
  let c128_i32_146 : BitVec 32 := 128#32
  let v333 : BitVec 32 := Scalar.muli v16 c128_i32_146
  let v334 : Index := Scalar.indexCast v333
  let c640 : Index := 640#32
  ![v334.toNat, 640]
def k0_off22 (i : grid0.Coords) : Fin 2 → Nat :=
  let arg0 : BitVec 32 := BitVec.ofNat 32 (i 0).val
  let c1_i32 : BitVec 32 := 1#32
  let v17 : BitVec 32 := Scalar.subi arg0 c1_i32
  let c128_i32_150 : BitVec 32 := 128#32
  let v341 : BitVec 32 := Scalar.muli v17 c128_i32_150
  let v342 : Index := Scalar.indexCast v341
  let c640_151 : Index := 640#32
  ![v342.toNat, 640]
def k0_off23 (i : grid0.Coords) : Fin 2 → Nat :=
  let arg0 : BitVec 32 := BitVec.ofNat 32 (i 0).val
  let c128_i32_155 : BitVec 32 := 128#32
  let v349 : BitVec 32 := Scalar.muli arg0 c128_i32_155
  let v350 : Index := Scalar.indexCast v349
  let c640_156 : Index := 640#32
  ![v350.toNat, 640]
def k0_off24 (i : grid0.Coords) : Fin 2 → Nat :=
  let arg0 : BitVec 32 := BitVec.ofNat 32 (i 0).val
  let c1_i32_7 : BitVec 32 := 1#32
  let v18 : BitVec 32 := Scalar.addi arg0 c1_i32_7
  let c15_i32 : BitVec 32 := 15#32
  let v19 : BitVec 32 := Scalar.minsi v18 c15_i32
  let c128_i32_160 : BitVec 32 := 128#32
  let v357 : BitVec 32 := Scalar.muli v19 c128_i32_160
  let v358 : Index := Scalar.indexCast v357
  let c640_161 : Index := 640#32
  ![v358.toNat, 640]
def k0_off25 (i : grid0.Coords) : Fin 2 → Nat :=
  let arg0 : BitVec 32 := BitVec.ofNat 32 (i 0).val
  let v16 : BitVec 32 := Scalar.subi arg0 arg0
  let c128_i32_168 : BitVec 32 := 128#32
  let v378 : BitVec 32 := Scalar.muli v16 c128_i32_168
  let v379 : Index := Scalar.indexCast v378
  let c768 : Index := 768#32
  ![v379.toNat, 768]
def k0_off26 (i : grid0.Coords) : Fin 2 → Nat :=
  let arg0 : BitVec 32 := BitVec.ofNat 32 (i 0).val
  let c1_i32 : BitVec 32 := 1#32
  let v17 : BitVec 32 := Scalar.subi arg0 c1_i32
  let c128_i32_172 : BitVec 32 := 128#32
  let v386 : BitVec 32 := Scalar.muli v17 c128_i32_172
  let v387 : Index := Scalar.indexCast v386
  let c768_173 : Index := 768#32
  ![v387.toNat, 768]
def k0_off27 (i : grid0.Coords) : Fin 2 → Nat :=
  let arg0 : BitVec 32 := BitVec.ofNat 32 (i 0).val
  let c128_i32_177 : BitVec 32 := 128#32
  let v394 : BitVec 32 := Scalar.muli arg0 c128_i32_177
  let v395 : Index := Scalar.indexCast v394
  let c768_178 : Index := 768#32
  ![v395.toNat, 768]
def k0_off28 (i : grid0.Coords) : Fin 2 → Nat :=
  let arg0 : BitVec 32 := BitVec.ofNat 32 (i 0).val
  let c1_i32_7 : BitVec 32 := 1#32
  let v18 : BitVec 32 := Scalar.addi arg0 c1_i32_7
  let c15_i32 : BitVec 32 := 15#32
  let v19 : BitVec 32 := Scalar.minsi v18 c15_i32
  let c128_i32_182 : BitVec 32 := 128#32
  let v402 : BitVec 32 := Scalar.muli v19 c128_i32_182
  let v403 : Index := Scalar.indexCast v402
  let c768_183 : Index := 768#32
  ![v403.toNat, 768]
def k0_off29 (i : grid0.Coords) : Fin 2 → Nat :=
  let arg0 : BitVec 32 := BitVec.ofNat 32 (i 0).val
  let v16 : BitVec 32 := Scalar.subi arg0 arg0
  let c128_i32_190 : BitVec 32 := 128#32
  let v423 : BitVec 32 := Scalar.muli v16 c128_i32_190
  let v424 : Index := Scalar.indexCast v423
  let c896 : Index := 896#32
  ![v424.toNat, 896]
def k0_off30 (i : grid0.Coords) : Fin 2 → Nat :=
  let arg0 : BitVec 32 := BitVec.ofNat 32 (i 0).val
  let c1_i32 : BitVec 32 := 1#32
  let v17 : BitVec 32 := Scalar.subi arg0 c1_i32
  let c128_i32_194 : BitVec 32 := 128#32
  let v431 : BitVec 32 := Scalar.muli v17 c128_i32_194
  let v432 : Index := Scalar.indexCast v431
  let c896_195 : Index := 896#32
  ![v432.toNat, 896]
def k0_off31 (i : grid0.Coords) : Fin 2 → Nat :=
  let arg0 : BitVec 32 := BitVec.ofNat 32 (i 0).val
  let c128_i32_199 : BitVec 32 := 128#32
  let v439 : BitVec 32 := Scalar.muli arg0 c128_i32_199
  let v440 : Index := Scalar.indexCast v439
  let c896_200 : Index := 896#32
  ![v440.toNat, 896]
def k0_off32 (i : grid0.Coords) : Fin 2 → Nat :=
  let arg0 : BitVec 32 := BitVec.ofNat 32 (i 0).val
  let c1_i32_7 : BitVec 32 := 1#32
  let v18 : BitVec 32 := Scalar.addi arg0 c1_i32_7
  let c15_i32 : BitVec 32 := 15#32
  let v19 : BitVec 32 := Scalar.minsi v18 c15_i32
  let c128_i32_204 : BitVec 32 := 128#32
  let v447 : BitVec 32 := Scalar.muli v19 c128_i32_204
  let v448 : Index := Scalar.indexCast v447
  let c896_205 : Index := 896#32
  ![v448.toNat, 896]
def k0_cond1 (i : grid0.Coords) : BitVec 1 :=
  let arg0 : BitVec 32 := BitVec.ofNat 32 (i 0).val
  let c0_i32 : BitVec 32 := 0#32
  let v10 : BitVec 1 := Scalar.cmpi .eq arg0 c0_i32
  let v11 : BitVec 32 := Scalar.extui v10
  let c0_i32_4 : BitVec 32 := 0#32
  let v12 : BitVec 1 := Scalar.cmpi .ne v11 c0_i32_4
  v12

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== AttnIdeal.lean ====
variable {F : FTy → Type} [FloatOps F] [Named F]
def κ : String → Option EReal := fun
  | "mask" => some ⊥
  | _ => none
-- ==== AttnRefIdeal.lean ====
abbrev S2048x1024 : Shape := ⟨2, ![2048, 1024]⟩
abbrev S1024x1024 : Shape := ⟨2, ![1024, 1024]⟩
abbrev S2048x8x128 : Shape := ⟨3, ![2048, 8, 128]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S_ : Shape := ⟨0, ![]⟩
abbrev S8x2048x2048 : Shape := ⟨3, ![8, 2048, 2048]⟩
abbrev S1x2048x2048 : Shape := ⟨3, ![1, 2048, 2048]⟩
abbrev S8x2048 : Shape := ⟨2, ![8, 2048]⟩
abbrev S8x2048x1 : Shape := ⟨3, ![8, 2048, 1]⟩
abbrev S1x2048x1 : Shape := ⟨3, ![1, 2048, 1]⟩
abbrev S8x128x2048 : Shape := ⟨3, ![8, 128, 2048]⟩

abbrev nBuf : Space → Nat
  | .hbm => 74
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .bf16⟩
  | .hbm, ⟨3, _⟩ => ⟨S2048x1024, .bf16⟩
  | .hbm, ⟨4, _⟩ => ⟨S1024x1024, .bf16⟩
  | .hbm, ⟨5, _⟩ => ⟨S2048x1024, .f32⟩
  | .hbm, ⟨6, _⟩ => ⟨S2048x1024, .bf16⟩
  | .hbm, ⟨7, _⟩ => ⟨S2048x8x128, .bf16⟩
  | .hbm, ⟨8, _⟩ => ⟨S2048x8x128, .bf16⟩
  | .hbm, ⟨9, _⟩ => ⟨S2048x8x128, .bf16⟩
  | .hbm, ⟨10, _⟩ => ⟨S2048x8x128, .f32⟩
  | .hbm, ⟨11, _⟩ => ⟨S2048, .i32⟩
  | .hbm, ⟨12, _⟩ => ⟨S2048x1, .i32⟩
  | .hbm, ⟨13, _⟩ => ⟨S2048, .i32⟩
  | .hbm, ⟨14, _⟩ => ⟨S1x2048, .i32⟩
  | .hbm, ⟨15, _⟩ => ⟨S2048x2048, .i32⟩
  | .hbm, ⟨16, _⟩ => ⟨S2048x2048, .i32⟩
  | .hbm, ⟨17, _⟩ => ⟨S2048x2048, .i32⟩
  | .hbm, ⟨18, _⟩ => ⟨S2048x2048, .i32⟩
  | .hbm, ⟨19, _⟩ => ⟨S_, .i32⟩
  | .hbm, ⟨20, _⟩ => ⟨S2048x2048, .i32⟩
  | .hbm, ⟨21, _⟩ => ⟨S2048x2048, .i1⟩
  | .hbm, ⟨22, _⟩ => ⟨S_, .i32⟩
  | .hbm, ⟨23, _⟩ => ⟨S1x2048, .i32⟩
  | .hbm, ⟨24, _⟩ => ⟨S1x2048, .i1⟩
  | .hbm, ⟨25, _⟩ => ⟨S_, .i32⟩
  | .hbm, ⟨26, _⟩ => ⟨S2048x1, .i32⟩
  | .hbm, ⟨27, _⟩ => ⟨S2048x1, .i1⟩
  | .hbm, ⟨28, _⟩ => ⟨S2048x2048, .i1⟩
  | .hbm, ⟨29, _⟩ => ⟨S2048x2048, .i1⟩
  | .hbm, ⟨30, _⟩ => ⟨S2048x2048, .i1⟩
  | .hbm, ⟨31, _⟩ => ⟨S2048x2048, .i1⟩
  | .hbm, ⟨32, _⟩ => ⟨S8x2048x2048, .f32⟩
  | .hbm, ⟨33, _⟩ => ⟨S8x2048x2048, .bf16⟩
  | .hbm, ⟨34, _⟩ => ⟨S8x2048x2048, .f32⟩
  | .hbm, ⟨35, _⟩ => ⟨S_, .f32⟩
  | .hbm, ⟨36, _⟩ => ⟨S8x2048x2048, .f32⟩
  | .hbm, ⟨37, _⟩ => ⟨S8x2048x2048, .f32⟩
  | .hbm, ⟨38, _⟩ => ⟨S1x2048x2048, .i1⟩
  | .hbm, ⟨39, _⟩ => ⟨S_, .f32⟩
  | .hbm, ⟨40, _⟩ => ⟨S_, .f32⟩
  | .hbm, ⟨41, _⟩ => ⟨S8x2048x2048, .i1⟩
  | .hbm, ⟨42, _⟩ => ⟨S8x2048x2048, .f32⟩
  | .hbm, ⟨43, _⟩ => ⟨S8x2048x2048, .f32⟩
  | .hbm, ⟨44, _⟩ => ⟨S_, .f32⟩
  | .hbm, ⟨45, _⟩ => ⟨S8x2048, .f32⟩
  | .hbm, ⟨46, _⟩ => ⟨S8x2048x1, .f32⟩
  | .hbm, ⟨47, _⟩ => ⟨S8x2048x2048, .f32⟩
  | .hbm, ⟨48, _⟩ => ⟨S8x2048x2048, .f32⟩
  | .hbm, ⟨49, _⟩ => ⟨S8x2048x2048, .f32⟩
  | .hbm, ⟨50, _⟩ => ⟨S_, .i1⟩
  | .hbm, ⟨51, _⟩ => ⟨S2048, .i1⟩
  | .hbm, ⟨52, _⟩ => ⟨S1x2048x1, .i1⟩
  | .hbm, ⟨53, _⟩ => ⟨S_, .f32⟩
  | .hbm, ⟨54, _⟩ => ⟨S8x2048, .f32⟩
  | .hbm, ⟨55, _⟩ => ⟨S8x2048x1, .f32⟩
  | .hbm, ⟨56, _⟩ => ⟨S_, .f32⟩
  | .hbm, ⟨57, _⟩ => ⟨S_, .f32⟩
  | .hbm, ⟨58, _⟩ => ⟨S8x2048x1, .i1⟩
  | .hbm, ⟨59, _⟩ => ⟨S8x2048x1, .f32⟩
  | .hbm, ⟨60, _⟩ => ⟨S8x2048x1, .f32⟩
  | .hbm, ⟨61, _⟩ => ⟨S8x2048x2048, .f32⟩
  | .hbm, ⟨62, _⟩ => ⟨S8x2048x2048, .f32⟩
  | .hbm, ⟨63, _⟩ => ⟨S1x2048x1, .i1⟩
  | .hbm, ⟨64, _⟩ => ⟨S_, .f32⟩
  | .hbm, ⟨65, _⟩ => ⟨S_, .f32⟩
  | .hbm, ⟨66, _⟩ => ⟨S8x2048x2048, .i1⟩
  | .hbm, ⟨67, _⟩ => ⟨S8x2048x2048, .f32⟩
  | .hbm, ⟨68, _⟩ => ⟨S8x2048x2048, .f32⟩
  | .hbm, ⟨69, _⟩ => ⟨S8x128x2048, .f32⟩
  | .hbm, ⟨70, _⟩ => ⟨S2048x8x128, .f32⟩
  | .hbm, ⟨71, _⟩ => ⟨S2048x1024, .f32⟩
  | .hbm, ⟨72, _⟩ => ⟨S1024x1024, .f32⟩
  | .hbm, ⟨73, _⟩ => ⟨S2048x1024, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_c : Ref sig .tc := ⟨.hbm, 19, rfl⟩
abbrev main_v14 : Ref sig .tc := ⟨.hbm, 20, rfl⟩
abbrev main_v15 : Ref sig .tc := ⟨.hbm, 21, rfl⟩
abbrev main_c_0 : Ref sig .tc := ⟨.hbm, 22, rfl⟩
abbrev main_v16 : Ref sig .tc := ⟨.hbm, 23, rfl⟩
abbrev main_v17 : Ref sig .tc := ⟨.hbm, 24, rfl⟩
abbrev main_c_1 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_2 : Ref sig .tc := ⟨.hbm, 39, rfl⟩
abbrev main_call0_v0 : Ref sig .tc := ⟨.hbm, 40, rfl⟩
abbrev main_call0_v1 : Ref sig .tc := ⟨.hbm, 41, rfl⟩
abbrev main_call0_v2 : Ref sig .tc := ⟨.hbm, 42, rfl⟩
abbrev main_v30 : Ref sig .tc := ⟨.hbm, 43, rfl⟩
abbrev main_cst_3 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_c_4 : Ref sig .tc := ⟨.hbm, 50, rfl⟩
abbrev main_v36 : Ref sig .tc := ⟨.hbm, 51, rfl⟩
abbrev main_v37 : Ref sig .tc := ⟨.hbm, 52, rfl⟩
abbrev main_cst_5 : Ref sig .tc := ⟨.hbm, 53, rfl⟩
abbrev main_v38 : Ref sig .tc := ⟨.hbm, 54, rfl⟩
abbrev main_v39 : Ref sig .tc := ⟨.hbm, 55, rfl⟩
abbrev main_cst_6 : Ref sig .tc := ⟨.hbm, 56, rfl⟩
abbrev main_call1_v0 : Ref sig .tc := ⟨.hbm, 57, rfl⟩
abbrev main_call1_v1 : Ref sig .tc := ⟨.hbm, 58, rfl⟩
abbrev main_call1_v2 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_7 : Ref sig .tc := ⟨.hbm, 64, rfl⟩
abbrev main_call2_v0 : Ref sig .tc := ⟨.hbm, 65, rfl⟩
abbrev main_call2_v1 : Ref sig .tc := ⟨.hbm, 66, rfl⟩
abbrev main_call2_v2 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩

abbrev nD : Nat := 1
abbrev τ : Topo := Topo.v7x

variable {F : FTy → Type} [FloatOps F]
-- ==== Proof.KernelIdeal.Mesh.lean ====
/-
# The mesh, the buffers and the offsets

Sixteen devices, device `4·z + p`: a ring of four on `p` inside a plane, a ring of four on `z` across planes. A step of
the all-reduce is named by its phase (`0`: reduce-scatter in the plane, `1`: across planes, `2`: all-gather across
planes, `3`: in the plane), its number within the phase, and the half of the columns it moves (`false`: the first 512,
travelling to the right or up; `true`: the last 512, travelling to the left or down).
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Pipeline.Value
public import Idealize.ShloMosaic.Lib.VecWindow
public import Idealize.ShloMosaic.Lib.Ring.FamCut
public import Idealize.ShloMosaic.Lib.Tactic

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

/-! ## Neighbours -/

/-- A device's place in its plane. -/
def pin (c : Dev nD) : Fin 4 := ⟨c.val % 4, Nat.mod_lt _ (by decide)⟩
/-- A device's plane. -/
def zi (c : Dev nD) : Fin 4 := ⟨c.val / 4 % 4, Nat.mod_lt _ (by decide)⟩

/-- The device at place `p` of plane `z`. -/
def at_ (z p : Fin 4) : Dev nD := ⟨(4 * z.val + p.val) % 16, Nat.mod_lt _ (by decide)⟩

/-- The neighbour in direction `d`: `0` right, `1` left (in the plane), `2` up, `3` down (across planes). -/
def nbr (d : Fin 4) (c : Dev nD) : Dev nD := match d with
  | 0 => at_ (zi c) (pin c + 1)
  | 1 => at_ (zi c) (pin c + 3)
  | 2 => at_ (zi c + 1) (pin c)
  | 3 => at_ (zi c + 3) (pin c)

/-- The direction back. -/
def opp (d : Fin 4) : Fin 4 := match d with | 0 => 1 | 1 => 0 | 2 => 3 | 3 => 2

theorem nbr_opp (d : Fin 4) (c : Dev nD) : nbr d (nbr (opp d) c) = c := by revert c d; decide +kernel
theorem opp_opp (d : Fin 4) : opp (opp d) = d := by revert d; decide
theorem opp_nbr (d : Fin 4) (c : Dev nD) : nbr (opp d) (nbr d c) = c := by revert c d; decide +kernel

/-- The direction a step's copy travels in. -/
def dir (ph : Fin 4) (h : Bool) : Fin 4 := match ph, h with
  | 0, false => 0 | 0, true => 1 | 3, false => 0 | 3, true => 1
  | 1, false => 2 | 1, true => 3 | 2, false => 2 | 2, true => 3

/-- The device a step's copy arrives from. -/
abbrev src (ph : Fin 4) (h : Bool) (c : Dev nD) : Dev nD := nbr (opp (dir ph h)) c
/-- The device a step's copy goes to. -/
abbrev dst (ph : Fin 4) (h : Bool) (c : Dev nD) : Dev nD := nbr (dir ph h) c

theorem src_dst (ph : Fin 4) (h : Bool) (c : Dev nD) : src ph h (dst ph h c) = c := opp_nbr _ _

theorem dev1_eq (c : Dev nD) : (⟨k1_dev1 c, k1_dev1_lt c⟩ : Dev nD) = nbr 0 c := by revert c; decide +kernel
theorem dev2_eq (c : Dev nD) : (⟨k1_dev2 c, k1_dev2_lt c⟩ : Dev nD) = nbr 1 c := by revert c; decide +kernel
theorem dev3_eq (c : Dev nD) : (⟨k1_dev3 c, k1_dev3_lt c⟩ : Dev nD) = nbr 2 c := by revert c; decide +kernel
theorem dev4_eq (c : Dev nD) : (⟨k1_dev4 c, k1_dev4_lt c⟩ : Dev nD) = nbr 3 c := by revert c; decide +kernel
theorem dev5_eq (c : Dev nD) : (⟨k1_dev5 c, k1_dev5_lt c⟩ : Dev nD) = nbr 0 c := by revert c; decide +kernel
theorem dev6_eq (c : Dev nD) : (⟨k1_dev6 c, k1_dev6_lt c⟩ : Dev nD) = nbr 1 c := by revert c; decide +kernel
theorem dev7_eq (c : Dev nD) : (⟨k1_dev7 c, k1_dev7_lt c⟩ : Dev nD) = nbr 0 c := by revert c; decide +kernel
theorem dev8_eq (c : Dev nD) : (⟨k1_dev8 c, k1_dev8_lt c⟩ : Dev nD) = nbr 1 c := by revert c; decide +kernel
theorem dev9_eq (c : Dev nD) : (⟨k1_dev9 c, k1_dev9_lt c⟩ : Dev nD) = nbr 0 c := by revert c; decide +kernel
theorem dev10_eq (c : Dev nD) : (⟨k1_dev10 c, k1_dev10_lt c⟩ : Dev nD) = nbr 1 c := by revert c; decide +kernel
theorem dev11_eq (c : Dev nD) : (⟨k1_dev11 c, k1_dev11_lt c⟩ : Dev nD) = nbr 2 c := by revert c; decide +kernel
theorem dev12_eq (c : Dev nD) : (⟨k1_dev12 c, k1_dev12_lt c⟩ : Dev nD) = nbr 3 c := by revert c; decide +kernel
theorem dev13_eq (c : Dev nD) : (⟨k1_dev13 c, k1_dev13_lt c⟩ : Dev nD) = nbr 2 c := by revert c; decide +kernel
theorem dev14_eq (c : Dev nD) : (⟨k1_dev14 c, k1_dev14_lt c⟩ : Dev nD) = nbr 3 c := by revert c; decide +kernel
theorem dev15_eq (c : Dev nD) : (⟨k1_dev15 c, k1_dev15_lt c⟩ : Dev nD) = nbr 2 c := by revert c; decide +kernel
theorem dev16_eq (c : Dev nD) : (⟨k1_dev16 c, k1_dev16_lt c⟩ : Dev nD) = nbr 3 c := by revert c; decide +kernel
theorem dev17_eq (c : Dev nD) : (⟨k1_dev17 c, k1_dev17_lt c⟩ : Dev nD) = nbr 2 c := by revert c; decide +kernel
theorem dev18_eq (c : Dev nD) : (⟨k1_dev18 c, k1_dev18_lt c⟩ : Dev nD) = nbr 3 c := by revert c; decide +kernel
theorem dev19_eq (c : Dev nD) : (⟨k1_dev19 c, k1_dev19_lt c⟩ : Dev nD) = nbr 2 c := by revert c; decide +kernel
theorem dev20_eq (c : Dev nD) : (⟨k1_dev20 c, k1_dev20_lt c⟩ : Dev nD) = nbr 3 c := by revert c; decide +kernel
theorem dev21_eq (c : Dev nD) : (⟨k1_dev21 c, k1_dev21_lt c⟩ : Dev nD) = nbr 2 c := by revert c; decide +kernel
theorem dev22_eq (c : Dev nD) : (⟨k1_dev22 c, k1_dev22_lt c⟩ : Dev nD) = nbr 3 c := by revert c; decide +kernel
theorem dev23_eq (c : Dev nD) : (⟨k1_dev23 c, k1_dev23_lt c⟩ : Dev nD) = nbr 0 c := by revert c; decide +kernel
theorem dev24_eq (c : Dev nD) : (⟨k1_dev24 c, k1_dev24_lt c⟩ : Dev nD) = nbr 1 c := by revert c; decide +kernel
theorem dev25_eq (c : Dev nD) : (⟨k1_dev25 c, k1_dev25_lt c⟩ : Dev nD) = nbr 0 c := by revert c; decide +kernel
theorem dev26_eq (c : Dev nD) : (⟨k1_dev26 c, k1_dev26_lt c⟩ : Dev nD) = nbr 1 c := by revert c; decide +kernel
theorem dev27_eq (c : Dev nD) : (⟨k1_dev27 c, k1_dev27_lt c⟩ : Dev nD) = nbr 0 c := by revert c; decide +kernel
theorem dev28_eq (c : Dev nD) : (⟨k1_dev28 c, k1_dev28_lt c⟩ : Dev nD) = nbr 1 c := by revert c; decide +kernel

/-! ## Offsets in the result buffer -/

/-- Rows `512·a + 128·b` on, columns of half `h`. -/
def off (h : Bool) (a b : Fin 4) : Fin 2 → ℕ := ![512 * a.val + 128 * b.val, if h then 512 else 0]

theorem inbQ (h : Bool) (a : Fin 4) : ∀ x, off h a 0 x + S512x512.size x ≤ S2048x1024.size x := by revert a h; decide +kernel
theorem inbC (h : Bool) (a b : Fin 4) : ∀ x, off h a b x + S128x512.size x ≤ S2048x1024.size x := by revert a b h; decide +kernel

/-- The step's number as a place on a ring of four. -/
abbrev f4 (s : Fin 3) : Fin 4 := s.castSucc

theorem off1_eq (c : Dev nD) (s : Fin 3) : k1_off1 c (BitVec.ofNat 32 s.val) = off false (pin c - f4 s) 0 := by revert s c; decide +kernel
theorem off2_eq (c : Dev nD) (s : Fin 4) : k1_off2 c (BitVec.ofNat 32 s.val) = off true (pin c + s) 0 := by revert s c; decide +kernel
theorem off3_eq (c : Dev nD) (s : Fin 3) : k1_off3 c (BitVec.ofNat 32 s.val) = off false (pin c - f4 s - 1) 0 := by revert s c; decide +kernel
theorem off4_eq (c : Dev nD) (s : Fin 3) : k1_off4 c (BitVec.ofNat 32 s.val) = off true (pin c + f4 s + 1) 0 := by revert s c; decide +kernel
theorem off5_eq (c : Dev nD) (s : Fin 3) : k1_off5 c (BitVec.ofNat 32 s.val) = off false (pin c + 1) (zi c - f4 s) := by revert s c; decide +kernel
theorem off6_eq (c : Dev nD) (s : Fin 4) : k1_off6 c (BitVec.ofNat 32 s.val) = off true (pin c + 3) (zi c + s) := by revert s c; decide +kernel
theorem off7_eq (c : Dev nD) (s : Fin 3) : k1_off7 c (BitVec.ofNat 32 s.val) = off false (pin c + 1) (zi c - f4 s - 1) := by revert s c; decide +kernel
theorem off8_eq (c : Dev nD) (s : Fin 3) : k1_off8 c (BitVec.ofNat 32 s.val) = off true (pin c + 3) (zi c + f4 s + 1) := by revert s c; decide +kernel
theorem off9_eq (c : Dev nD) : k1_off9 c = off false (pin c + 1) (zi c + 1) := by revert c; decide +kernel
theorem off10_eq (c : Dev nD) : k1_off10 c = off false (pin c + 1) 0 := by revert c; decide +kernel
theorem off11_eq (c : Dev nD) (s : Fin 3) : k1_off11 c (BitVec.ofNat 32 s.val) = off false (pin c - f4 s) 0 := by revert s c; decide +kernel
theorem off12_eq (c : Dev nD) (s : Fin 3) : k1_off12 c (BitVec.ofNat 32 s.val) = off true (pin c + f4 s) 0 := by revert s c; decide +kernel

/-! ## The buffers -/

abbrev xM : Memref sig .tc .vmem S2048x1024 .f32 := Memref.whole cc1_stg0_0
abbrev oM : Memref sig .tc .vmem S2048x1024 .f32 := Memref.whole cc1_stg1_0

/-- The send buffers of the two reduce-scatters, -/
abbrev s1 (h : Bool) : Memref sig .tc .vmem S512x512 .bf16 := match h with | false => Memref.whole cc1_scratch0 | true => Memref.whole cc1_scratch1
abbrev s2 (h : Bool) : Memref sig .tc .vmem S128x512 .bf16 := match h with | false => Memref.whole cc1_scratch2 | true => Memref.whole cc1_scratch3
/-- their landing buffers, -/
abbrev p1 (h : Bool) : Memref sig .tc .vmem S3x512x512 .bf16 := match h with | false => Memref.whole cc1_scratch4 | true => Memref.whole cc1_scratch5
abbrev p2 (h : Bool) : Memref sig .tc .vmem S3x128x512 .bf16 := match h with | false => Memref.whole cc1_scratch6 | true => Memref.whole cc1_scratch7
/-- the gather buffers: three landing slots and the device's own piece in the last. -/
abbrev g2 (h : Bool) : Memref sig .tc .vmem S4x128x512 .bf16 := match h with | false => Memref.whole cc1_scratch8 | true => Memref.whole cc1_scratch9
abbrev g1 (h : Bool) : Memref sig .tc .vmem S4x512x512 .bf16 := match h with | false => Memref.whole cc1_scratch10 | true => Memref.whole cc1_scratch11

theorem p1_whole (h : Bool) : (p1 h).IsWhole := match h with | false => Memref.isWhole_whole _ | true => Memref.isWhole_whole _
theorem p2_whole (h : Bool) : (p2 h).IsWhole := match h with | false => Memref.isWhole_whole _ | true => Memref.isWhole_whole _
theorem g2_whole (h : Bool) : (g2 h).IsWhole := match h with | false => Memref.isWhole_whole _ | true => Memref.isWhole_whole _
theorem g1_whole (h : Bool) : (g1 h).IsWhole := match h with | false => Memref.isWhole_whole _ | true => Memref.isWhole_whole _
theorem s1_whole (h : Bool) : (s1 h).IsWhole := match h with | false => Memref.isWhole_whole _ | true => Memref.isWhole_whole _
theorem s2_whole (h : Bool) : (s2 h).IsWhole := match h with | false => Memref.isWhole_whole _ | true => Memref.isWhole_whole _

theorem inb3_512 (s : Fin 3) : ∀ a, (![s.val, 0, 0] : Fin 3 → ℕ) a + S1x512x512.size a ≤ S3x512x512.size a := by revert s; decide +kernel
theorem inb3_128 (s : Fin 3) : ∀ a, (![s.val, 0, 0] : Fin 3 → ℕ) a + S1x128x512.size a ≤ S3x128x512.size a := by revert s; decide +kernel
theorem inb4_512 (s : Fin 4) : ∀ a, (![s.val, 0, 0] : Fin 3 → ℕ) a + S1x512x512.size a ≤ S4x512x512.size a := by revert s; decide +kernel
theorem inb4_128 (s : Fin 4) : ∀ a, (![s.val, 0, 0] : Fin 3 → ℕ) a + S1x128x512.size a ≤ S4x128x512.size a := by revert s; decide +kernel

/-- The rectangle of slot `s`. -/
abbrev r3Q (s : Fin 3) : Rect S3x512x512 := Rect.unit (s := S3x512x512) ![s.val, 0, 0] S1x512x512.size (inb3_512 s)
abbrev r3C (s : Fin 3) : Rect S3x128x512 := Rect.unit (s := S3x128x512) ![s.val, 0, 0] S1x128x512.size (inb3_128 s)
abbrev r4Q (s : Fin 4) : Rect S4x512x512 := Rect.unit (s := S4x512x512) ![s.val, 0, 0] S1x512x512.size (inb4_512 s)
abbrev r4C (s : Fin 4) : Rect S4x128x512 := Rect.unit (s := S4x128x512) ![s.val, 0, 0] S1x128x512.size (inb4_128 s)

/-- The slots, their leading axis dropped. -/
abbrev l0 (h : Bool) (s : Fin 3) : Memref sig .tc .vmem S512x512 .bf16 := ((p1 h).slice (r3Q s) (fun _ => rfl)).squeeze S512x512 squeezes_S1x512x512_S512x512
abbrev l1 (h : Bool) (s : Fin 3) : Memref sig .tc .vmem S128x512 .bf16 := ((p2 h).slice (r3C s) (fun _ => rfl)).squeeze S128x512 squeezes_S1x128x512_S128x512
abbrev l2 (h : Bool) (s : Fin 4) : Memref sig .tc .vmem S128x512 .bf16 := ((g2 h).slice (r4C s) (fun _ => rfl)).squeeze S128x512 squeezes_S1x128x512_S128x512
abbrev l3 (h : Bool) (s : Fin 4) : Memref sig .tc .vmem S512x512 .bf16 := ((g1 h).slice (r4Q s) (fun _ => rfl)).squeeze S512x512 squeezes_S1x512x512_S512x512

/-! ## The semaphores -/

/-- A copy: phase, number within the phase, half. -/
abbrev RX : Type := Fin 4 × Fin 3 × Bool

abbrev bnat (h : Bool) : ℕ := if h then 1 else 0

/-- The runtime's barrier semaphore, -/
abbrev barS : Sem sig := (SemArray.scalar (sig.barrier 0 rfl) : Sems sig S_).sem
/-- the send semaphore of half `h`, -/
def sndS (h : Bool) : DmaSem sig := ⟨10 + bnat h, by cases h <;> decide⟩
/-- the receive semaphore of a copy. -/
def rcvS (q : RX) : DmaSem sig := ⟨12 + 6 * q.1.val + 3 * bnat q.2.2 + q.2.1.val, by revert q; decide +kernel⟩

/-- The copy whose receive semaphore this is. -/
def dec (q : DmaSem sig) : RX := (⟨(q.val - 12) / 6 % 4, Nat.mod_lt _ (by decide)⟩, ⟨(q.val - 12) % 3, Nat.mod_lt _ (by decide)⟩, decide ((q.val - 12) / 3 % 2 = 1))
theorem dec_rcvS (q : RX) : dec (rcvS q) = q := by revert q; decide +kernel
theorem rcvS_ge (q : RX) : 12 ≤ (rcvS q).val := by revert q; decide +kernel
theorem sndS_lt (h : Bool) : (sndS h).val < 12 := by revert h; decide +kernel
theorem sndS_ge (h : Bool) : 10 ≤ (sndS h).val := by revert h; decide +kernel
theorem sndS_inj (h h' : Bool) (e : sndS h = sndS h') : h = h' := by revert h h'; decide +kernel

theorem sem_sndA : (cc1_scratch12 : DmaSems sig S_).sem = sndS false := by decide +kernel
theorem sem_sndB : (cc1_scratch13 : DmaSems sig S_).sem = sndS true := by decide +kernel

theorem N512_l0 (h : Bool) (s : Fin 3) : (l0 h s).view.dmaCredit = (s1 false).view.dmaCredit := by revert h s; decide +kernel
end Cert.KernelIdealProof

end
-- ==== Proof.KernelIdeal.Contents.lean ====
/-
# What the buffers hold at each step

The result buffer of every device before each of the twelve steps, and what each step's copy carries, as plain
functions of the devices' inputs.
-/
module

public import proofs.«01_k».proof.Proof.KernelIdeal.Mesh

@[expose] public section

noncomputable section

namespace Cert.KernelIdealProof

open Cert.KernelIdeal Cert.KernelIdeal.Gen

open Idealize.ShloMosaic
open Idealize.ShloMosaic.TcCoe
open Idealize.ShloMosaic.VecWindow

variable {F : FTy → Type} [FloatOps F] [Named F]

/-- The result buffer. -/
abbrev OV (F : FTy → Type) : Type := Vec F S2048x1024 .f32
abbrev Q32 (F : FTy → Type) : Type := Vec F S512x512 .f32
abbrev C32 (F : FTy → Type) : Type := Vec F S128x512 .f32
abbrev Q16 (F : FTy → Type) : Type := Vec F S512x512 .bf16
abbrev C16 (F : FTy → Type) : Type := Vec F S128x512 .bf16

/-- Quarter `a` of half `h`, and chunk `b` of that quarter: read, -/
def rdQ (h : Bool) (a : Fin 4) (V : OV F) : Q32 F := window V (off h a 0) S512x512.size (inbQ h a)
def rdC (h : Bool) (a b : Fin 4) (V : OV F) : C32 F := window V (off h a b) S128x512.size (inbC h a b)
/-- and overwritten. -/
def wrQ (h : Bool) (a : Fin 4) (w : Q32 F) (V : OV F) : OV F := put V (off h a 0) S512x512.size w
def wrC (h : Bool) (a b : Fin 4) (w : C32 F) (V : OV F) : OV F := put V (off h a b) S128x512.size w

/-- Rounded for travelling, widened on arrival, added on arrival. -/
def trQ (v : Q32 F) : Q16 F := truncf (F := F) .bf16 v bitsLt_bf16_f32
def trC (v : C32 F) : C16 F := truncf (F := F) .bf16 v bitsLt_bf16_f32
def exQ (v : Q16 F) : Q32 F := extf (F := F) .f32 v bitsLt_bf16_f32
def exC (v : C16 F) : C32 F := extf (F := F) .f32 v bitsLt_bf16_f32
def adQ (v : Q32 F) (w : Q16 F) : Q32 F := addf (F := F) v (exQ w)
def adC (v : C32 F) (w : C16 F) : C32 F := addf (F := F) v (exC w)

variable (x : Dev nD → OV F)

/-! ## Phase 0: reduce-scatter in the plane -/

/-- What the copy of half `h` in step `s` carries, off result buffer `V` of device `c`. -/
def ms0 (s : Fin 3) (h : Bool) (V : OV F) (c : Dev nD) : Q16 F := trQ (rdQ h (if h then pin c + f4 s else pin c - f4 s) V)
/-- The quarter that step adds into. -/
def ac0 (s : Fin 3) (h : Bool) (c : Dev nD) : Fin 4 := if h then pin c + f4 s + 1 else pin c - f4 s - 1
/-- The addition. -/
def up0 (s : Fin 3) (h : Bool) (c : Dev nD) (w : Q16 F) (V : OV F) : OV F := wrQ h (ac0 s h c) (adQ (rdQ h (ac0 s h c) V) w) V
def st0 (s : Fin 3) (V : Dev nD → OV F) (c : Dev nD) : OV F :=
  up0 s true c (ms0 s true (V (src 0 true c)) (src 0 true c)) (up0 s false c (ms0 s false (V (src 0 false c)) (src 0 false c)) (V c))

/-! ## Phase 1: reduce-scatter across planes -/

/-- The quarter of half `h` a device is left with after phase 0. -/
def qt (h : Bool) (c : Dev nD) : Fin 4 := if h then pin c + 3 else pin c + 1
def ms1 (s : Fin 3) (h : Bool) (V : OV F) (c : Dev nD) : C16 F := trC (rdC h (qt h c) (if h then zi c + f4 s else zi c - f4 s) V)
def ac1 (s : Fin 3) (h : Bool) (c : Dev nD) : Fin 4 := if h then zi c + f4 s + 1 else zi c - f4 s - 1
def up1 (s : Fin 3) (h : Bool) (c : Dev nD) (w : C16 F) (V : OV F) : OV F :=
  wrC h (qt h c) (ac1 s h c) (adC (rdC h (qt h c) (ac1 s h c) V) w) V
def st1 (s : Fin 3) (V : Dev nD → OV F) (c : Dev nD) : OV F :=
  up1 s true c (ms1 s true (V (src 1 true c)) (src 1 true c)) (up1 s false c (ms1 s false (V (src 1 false c)) (src 1 false c)) (V c))

/-! ## Phases 2 and 3: the all-gathers -/

/-- A device's own piece, and what travels in step `t`: that piece of the device `t` places back. -/
def own2 (h : Bool) (V : OV F) (c : Dev nD) : C16 F := trC (rdC h (qt h c) (if h then zi c + 3 else zi c + 1) V)
def ms2 (h : Bool) (V : Dev nD → OV F) : ℕ → Dev nD → C16 F
  | 0, c => own2 h (V c) c
  | t + 1, c => ms2 h V t (src 2 h c)
def up2 (t : Fin 3) (h : Bool) (c : Dev nD) (w : C16 F) (V : OV F) : OV F :=
  wrC h (qt h c) (if h then zi c + f4 t else zi c - f4 t) (exC w) V
/-- Step `t` on buffers `V`, the travelling pieces being those of buffers `V₀`. -/
def st2 (V₀ : Dev nD → OV F) (t : Fin 3) (V : Dev nD → OV F) (c : Dev nD) : OV F :=
  up2 t true c (ms2 true V₀ t.val (src 2 true c)) (up2 t false c (ms2 false V₀ t.val (src 2 false c)) (V c))

def own3 (h : Bool) (V : OV F) (c : Dev nD) : Q16 F := trQ (rdQ h (qt h c) V)
def ms3 (h : Bool) (V : Dev nD → OV F) : ℕ → Dev nD → Q16 F
  | 0, c => own3 h (V c) c
  | t + 1, c => ms3 h V t (src 3 h c)
def up3 (t : Fin 3) (h : Bool) (c : Dev nD) (w : Q16 F) (V : OV F) : OV F :=
  wrQ h (if h then pin c + f4 t else pin c - f4 t) (exQ w) V
def st3 (V₀ : Dev nD → OV F) (t : Fin 3) (V : Dev nD → OV F) (c : Dev nD) : OV F :=
  up3 t true c (ms3 true V₀ t.val (src 3 true c)) (up3 t false c (ms3 false V₀ t.val (src 3 false c)) (V c))

/-! ## The whole run -/

/-- The step of that number. -/
abbrev f3 (n : ℕ) : Fin 3 := ⟨n % 3, Nat.mod_lt _ (by decide)⟩

/-- The result buffers before step `n` of each phase; the last phase's third is the result. -/
def O0 : ℕ → Dev nD → OV F
  | 0 => x
  | n + 1 => st0 (f3 n) (O0 n)
def O1 : ℕ → Dev nD → OV F
  | 0 => O0 x 3
  | n + 1 => st1 (f3 n) (O1 n)
def O2 : ℕ → Dev nD → OV F
  | 0 => O1 x 3
  | n + 1 => st2 (O1 x 3) (f3 n) (O2 n)
def O3 : ℕ → Dev nD → OV F
  | 0 => O2 x 3
  | n + 1 => st3 (O2 x 3) (f3 n) (O3 n)

/-- What the copy of phase `1`…, step `s`, half `h` carries away from device `c`. -/
def M0 (s : Fin 3) (h : Bool) (c : Dev nD) : Q16 F := ms0 s h (O0 x s.val c) c
def M1 (s : Fin 3) (h : Bool) (c : Dev nD) : C16 F := ms1 s h (O1 x s.val c) c
def M2 (t : ℕ) (h : Bool) (c : Dev nD) : C16 F := ms2 h (O1 x 3) t c
def M3 (t : ℕ) (h : Bool) (c : Dev nD) : Q16 F := ms3 h (O2 x 3) t c

/-! ## Loads, stores and payloads in these terms -/

theorem ld_o (V : OV F) (o size : Fin 2 → ℕ) (inb : ∀ a, o a + size a ≤ S2048x1024.size a) :
    oM.view.readAt (Elt F) (Rect.unit (s := S2048x1024) o size inb).toLoadRect V = window V o size inb := rfl

theorem st_o (V : OV F) (o size : Fin 2 → ℕ) (inb : ∀ a, o a + size a ≤ S2048x1024.size a)
    (w : (Rect.unit (s := S2048x1024) o size inb).shape.Idx → Elt F .f32) :
    (oM.access (Rect.unit (s := S2048x1024) o size inb)).write (Elt F) V w Finset.univ = put V o size w :=
  View.read_writes_cons_put (Val := Elt F) oM.view V inb w [] rfl

theorem pay1_eq (v : OV F) : k1_pay1 v = v := shapeCast_self _ _

/-- A store's payload that is the region read, rounded. -/
theorem trQ_eq (v : Q32 F) : k1_pay2 v = trQ v := by
  unfold k1_pay2 trQ; simp only [shapeCast_self]
theorem trC_eq (v : C32 F) : k1_pay15 v = trC v := by
  unfold k1_pay15 trC; simp only [shapeCast_self]
theorem trQ2_eq (v : Q32 F) : k1_pay4 (k1_pay3 v) = trQ v := by
  unfold k1_pay4 k1_pay3 trQ; simp only [shapeCast_self]
theorem trC2_eq (v : C32 F) : k1_pay17 (k1_pay16 v) = trC v := by
  unfold k1_pay17 k1_pay16 trC; simp only [shapeCast_self]
theorem adQ_eq (v : Q32 F) (w : Vec F S1x512x512 .bf16) : k1_pay5 v w = adQ v (shapeCast S512x512 w shapeCasts_S1x512x512_S512x512) := by
  unfold k1_pay5 adQ exQ; simp only [shapeCast_self]
theorem adC_eq (v : C32 F) (w : Vec F S1x128x512 .bf16) : k1_pay18 v w = adC v (shapeCast S128x512 w shapeCasts_S1x128x512_S128x512) := by
  unfold k1_pay18 adC exC; simp only [shapeCast_self]
theorem ownC_eq (v : C32 F) : k1_pay28 v = shapeCast S1x128x512 (trC v) shapeCasts_S128x512_S1x128x512 := by
  unfold k1_pay28 trC; simp only [shapeCast_self]
theorem ownQ_eq (v : Q32 F) : k1_pay36 v = shapeCast S1x512x512 (trQ v) shapeCasts_S512x512_S1x512x512 := by
  unfold k1_pay36 trQ; simp only [shapeCast_self]
theorem ownQ2_eq (v : Q32 F) : k1_pay38 (k1_pay37 v) = shapeCast S1x512x512 (trQ v) shapeCasts_S512x512_S1x512x512 := by
  unfold k1_pay38 k1_pay37 trQ; simp only [shapeCast_self]
theorem exC_eq (w : Vec F S1x128x512 .bf16) : k1_pay30 w = exC (shapeCast S128x512 w shapeCasts_S1x128x512_S128x512) := by
  unfold k1_pay30 exC; simp only [shapeCast_self]
theorem exQ_eq (w : Vec F S1x512x512 .bf16) : k1_pay39 w = exQ (shapeCast S512x512 w shapeCasts_S1x512x512_S512x512) := by
  unfold k1_pay39 exQ; simp only [shapeCast_self]

end Cert.KernelIdealProof

end
-- ==== Proof.KernelIdeal.Protocol.lean ====
/-
# The protocol

Every device signals its four neighbours' barrier semaphores once and waits for four units on its own: the signal hands
a neighbour the slots of this device that the neighbour's copies land in. A copy's receive semaphore, one per copy, then
hands its device the slot holding what was sent; the send semaphore of a half takes twelve copies in turn, each handing
the source buffer back.
-/
module

public import proofs.«01_k».proof.Proof.KernelIdeal.Contents

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

abbrev UB : Type := URounds (GSem nD τ sig) (Fin 4)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Cells -/

abbrev barCell (c : Dev nD) : GSem nD τ sig := ((c : Thread nD τ), .reg barS)
abbrev sndCell (h : Bool) (c : Dev nD) : GSem nD τ sig := ((c : Thread nD τ), .dma (sndS h))
abbrev rcvCell (q : RX) (c : Dev nD) : GSem nD τ sig := ((c : Thread nD τ), .dma (rcvS q))

/-- The copy's place in the order of the program. -/
abbrev rank (q : Fin 4 × Fin 3) : ℕ := 3 * q.1.val + q.2.val

/-- The units of a copy: of a quarter's half, of a chunk's. -/
def NQ : ℕ := (s1 false).view.dmaCredit
def NC : ℕ := (s2 false).view.dmaCredit
def NN (ph : Fin 4) : ℕ := match ph with | 0 => NQ | 1 => NC | 2 => NC | 3 => NQ

theorem NQ_pos : 0 < NQ := View.dmaCredit_pos _ (by decide)
theorem NC_pos : 0 < NC := View.dmaCredit_pos _ (by decide)
theorem NN_pos (ph : Fin 4) : 0 < NN ph := match ph with | 0 => NQ_pos | 1 => NC_pos | 2 => NC_pos | 3 => NQ_pos

theorem cr_l0 (h : Bool) (s : Fin 3) : (l0 h s).view.dmaCredit = NQ := by revert h s; decide +kernel
theorem cr_l1 (h : Bool) (s : Fin 3) : (l1 h s).view.dmaCredit = NC := by revert h s; decide +kernel
theorem cr_l2 (h : Bool) (s : Fin 4) : (l2 h s).view.dmaCredit = NC := by revert h s; decide +kernel
theorem cr_l3 (h : Bool) (s : Fin 4) : (l3 h s).view.dmaCredit = NQ := by revert h s; decide +kernel
theorem cr_s1 (h : Bool) : (s1 h).view.dmaCredit = NQ := by revert h; decide +kernel
theorem cr_s2 (h : Bool) : (s2 h).view.dmaCredit = NC := by revert h; decide +kernel

/-! ## Payloads -/

/-- A device's elements under a memref, at any contents. -/
def anyAt (c : Dev nD) {sh : Shape} {e : EltTy} (m : Memref sig .tc .vmem sh e) : sProp 𝕄 :=
  iprop(∃ f : Buf (Elt F) (m.view.loc (c : Thread nD τ)), m.view.loc (c : Thread nD τ) ↦[m.view.set]{fullShare} f)
/-- The same, read as `X`. -/
def holds (c : Dev nD) {sh : Shape} {e : EltTy} (m : Memref sig .tc .vmem sh e) (X : sh.Idx → Elt F e) : sProp 𝕄 :=
  iprop(∃ f : Buf (Elt F) (m.view.loc (c : Thread nD τ)), ⌜m.view.read (Elt F) f = X⌝ ∗ (m.view.loc (c : Thread nD τ) ↦[m.view.set]{fullShare} f))

instance anyAt_storable (c : Dev nD) {sh : Shape} {e : EltTy} (m : Memref sig .tc .vmem sh e) : BI.Storable (upEmb : UEmb _ 𝕄) (anyAt (F := F) c m) := by
  unfold anyAt; infer_instance
instance holds_storable (c : Dev nD) {sh : Shape} {e : EltTy} (m : Memref sig .tc .vmem sh e) (X) : BI.Storable (upEmb : UEmb _ 𝕄) (holds (F := F) c m X) := by
  unfold holds; infer_instance

theorem holds_any (c : Dev nD) {sh : Shape} {e : EltTy} (m : Memref sig .tc .vmem sh e) (X : sh.Idx → Elt F e) : holds c m X ⊢ anyAt c m := by
  unfold holds anyAt; iintro ⟨%f, -, H⟩; iexists f; iexact H

/-- The slot before slot `t` of a gather buffer: where step `t` sends from. -/
abbrev prev (t : Fin 3) : Fin 4 := match t with | 0 => 3 | 1 => 0 | 2 => 1

/-- A copy's landing slot on device `c`, at any contents, -/
def lAny (q : RX) (c : Dev nD) : sProp 𝕄 := match q with
  | (0, s, h) => anyAt c (l0 h s) | (1, s, h) => anyAt c (l1 h s) | (2, s, h) => anyAt c (l2 h (f4 s)) | (3, s, h) => anyAt c (l3 h (f4 s))
/-- and its source buffer. -/
def sAny (q : RX) (c : Dev nD) : sProp 𝕄 := match q with
  | (0, s, h) => anyAt c (s1 h) | (1, s, h) => anyAt c (s2 h) | (2, s, h) => anyAt c (l2 h (prev s)) | (3, s, h) => anyAt c (l3 h (prev s))

variable (x : Dev nD → OV F)

/-- A copy's landing slot holding what the sender sent. -/
def land (q : RX) (c : Dev nD) : sProp 𝕄 := match q with
  | (0, s, h) => holds c (l0 h s) (M0 x s h (src 0 h c)) | (1, s, h) => holds c (l1 h s) (M1 x s h (src 1 h c))
  | (2, s, h) => holds c (l2 h (f4 s)) (M2 x s.val h (src 2 h c)) | (3, s, h) => holds c (l3 h (f4 s)) (M3 x s.val h (src 3 h c))

/-- A landing slot handed over, with the word that its copy's receive semaphore is in use. -/
def door (q : RX) (c : Dev nD) : sProp 𝕄 := iprop(lAny q c ∗ reached ER (rcvCell q c) 0)

/-- What the neighbour in direction `e` hands device `c` with its signal: its slots that `c`'s copies land in. -/
def barPay (e : Fin 4) (c : Dev nD) : sProp 𝕄 := bigSep (Finset.univ.filter fun q : RX => dir q.1 q.2.2 = e) fun q => door q (nbr e c)

instance lAny_storable (q : RX) (c : Dev nD) : BI.Storable (upEmb : UEmb _ 𝕄) (lAny (F := F) q c) := by
  obtain ⟨p, s, h⟩ := q; fin_cases p <;> (dsimp only [lAny]; infer_instance)
instance sAny_storable (q : RX) (c : Dev nD) : BI.Storable (upEmb : UEmb _ 𝕄) (sAny (F := F) q c) := by
  obtain ⟨p, s, h⟩ := q; fin_cases p <;> (dsimp only [sAny]; infer_instance)
instance land_storable (q : RX) (c : Dev nD) : BI.Storable (upEmb : UEmb _ 𝕄) (land x q c) := by
  obtain ⟨p, s, h⟩ := q; fin_cases p <;> (dsimp only [land]; infer_instance)
instance door_storable (q : RX) (c : Dev nD) : BI.Storable (upEmb : UEmb _ 𝕄) (door (F := F) q c) := by
  unfold door; infer_instance
instance barPay_storable (e : Fin 4) (c : Dev nD) : BI.Storable (upEmb : UEmb _ 𝕄) (barPay (F := F) e c) := by
  unfold barPay; infer_instance

/-! ## The schedule -/

/-- The phase and the step of a send semaphore's round. -/
abbrev rph (r : ℕ) : Fin 4 := ⟨r / 3 % 4, Nat.mod_lt _ (by decide)⟩

def dutiesOf (sm : SemLoc sig) (r : ℕ) : Finset (Fin 4) := match sm with
  | .reg s => if s = barS ∧ r = 0 then Finset.univ else ∅
  | .dma q => if q.val < 10 then ∅ else if q.val < 12 then (if r < 12 then {0} else ∅) else if r = 0 then {0} else ∅
def amountOf (sm : SemLoc sig) (r : ℕ) : ℕ := match sm with
  | .reg _ => 1
  | .dma q => NN (if q.val < 12 then rph r else (dec q).1)
def payOf (sm : SemLoc sig) (r : ℕ) (d : Fin 4) (c : Dev nD) : sProp 𝕄 := match sm with
  | .reg _ => barPay d c
  | .dma q => if q.val < 12 then sAny (rph r, f3 r, decide (q.val = 11)) c else land x (dec q) c

def Rd : Rounds.Schedule (GSem nD τ sig) (Fin 4) 𝕄 where
  duties g r := if g.1.2 = .tc then dutiesOf g.2 r else ∅
  unitless _ := False
  amount g r _ := amountOf g.2 r
  payload g r d := payOf x g.2 r d g.1.1
  amount_pos g r d _ := by
    obtain ⟨t, sm⟩ := g
    cases sm with
    | reg s => exact Nat.one_pos
    | dma q => exact NN_pos _

instance Rd_storable (g : GSem nD τ sig) (r : ℕ) (d : Fin 4) : BI.Storable (upEmb : UEmb _ 𝕄) ((Rd x).payload g r d) := by
  obtain ⟨t, sm⟩ := g
  cases sm with
  | reg s => show BI.Storable _ (barPay d t.1); infer_instance
  | dma q =>
    show BI.Storable _ (if q.val < 12 then sAny (rph r, f3 r, decide (q.val = 11)) t.1 else land x (dec q) t.1)
    split <;> infer_instance

section Tables

variable (c : Dev nD)

theorem duties_bar : (Rd x).duties (barCell c) 0 = Finset.univ := rfl
theorem duties_snd (h : Bool) (r : ℕ) (hr : r < 12) : (Rd x).duties (sndCell h c) r = {0} := by
  show (if (sndS h).val < 10 then (∅ : Finset (Fin 4)) else if (sndS h).val < 12 then (if r < 12 then {0} else ∅) else if r = 0 then {0} else ∅) = {0}
  rw [if_neg (not_lt.mpr (sndS_ge h)), if_pos (sndS_lt h), if_pos hr]
theorem duties_rcv (q : RX) : (Rd x).duties (rcvCell q c) 0 = {0} := by
  show (if (rcvS q).val < 10 then (∅ : Finset (Fin 4)) else if (rcvS q).val < 12 then (if 0 < 12 then {0} else ∅) else if 0 = 0 then {0} else ∅) = {0}
  have := rcvS_ge q
  rw [if_neg (by omega), if_neg (by omega), if_pos rfl]
theorem later_bar (r : ℕ) (hr : 1 ≤ r) : (Rd x).duties (barCell c) r = ∅ := by
  show (if barS = barS ∧ r = 0 then (Finset.univ : Finset (Fin 4)) else ∅) = ∅
  rw [if_neg (by omega)]
theorem later_snd (h : Bool) (r : ℕ) (hr : 12 ≤ r) : (Rd x).duties (sndCell h c) r = ∅ := by
  show (if (sndS h).val < 10 then (∅ : Finset (Fin 4)) else if (sndS h).val < 12 then (if r < 12 then {0} else ∅) else if r = 0 then {0} else ∅) = ∅
  rw [if_neg (not_lt.mpr (sndS_ge h)), if_pos (sndS_lt h), if_neg (by omega)]
theorem later_rcv (q : RX) (r : ℕ) (hr : 1 ≤ r) : (Rd x).duties (rcvCell q c) r = ∅ := by
  show (if (rcvS q).val < 10 then (∅ : Finset (Fin 4)) else if (rcvS q).val < 12 then (if r < 12 then {0} else ∅) else if r = 0 then {0} else ∅) = ∅
  have := rcvS_ge q
  rw [if_neg (by omega), if_neg (by omega), if_neg (by omega)]

theorem rph_rank (ph : Fin 4) (s : Fin 3) : rph (rank (ph, s)) = ph := by revert ph s; decide
theorem f3_rank (ph : Fin 4) (s : Fin 3) : f3 (rank (ph, s)) = s := by revert ph s; decide
theorem rank_lt (p : Fin 4 × Fin 3) : rank p < 12 := by have := p.1.isLt; have := p.2.isLt; simp only [rank]; omega

theorem amount_bar (d : Fin 4) : (Rd x).amount (barCell c) 0 d = 1 := rfl
theorem amount_snd (ph : Fin 4) (s : Fin 3) (h : Bool) (d : Fin 4) : (Rd x).amount (sndCell h c) (rank (ph, s)) d = NN ph := by
  show NN (if (sndS h).val < 12 then rph (rank (ph, s)) else _) = NN ph
  rw [if_pos (sndS_lt h), rph_rank]
theorem amount_rcv (q : RX) (d : Fin 4) : (Rd x).amount (rcvCell q c) 0 d = NN q.1 := by
  show NN (if (rcvS q).val < 12 then _ else (dec (rcvS q)).1) = NN q.1
  rw [if_neg (not_lt.mpr (rcvS_ge q)), dec_rcvS]

theorem payload_bar (d : Fin 4) : (Rd x).payload (barCell c) 0 d = barPay d c := rfl
theorem sndS_half (h : Bool) : decide ((sndS h).val = 11) = h := by revert h; decide +kernel
theorem payload_snd (ph : Fin 4) (s : Fin 3) (h : Bool) (d : Fin 4) : (Rd x).payload (sndCell h c) (rank (ph, s)) d = sAny (ph, s, h) c := by
  show (if (sndS h).val < 12 then sAny (rph (rank (ph, s)), f3 (rank (ph, s)), decide ((sndS h).val = 11)) c else _) = _
  rw [if_pos (sndS_lt h), rph_rank, f3_rank, sndS_half]
theorem payload_rcv (q : RX) (d : Fin 4) : (Rd x).payload (rcvCell q c) 0 d = land x q c := by
  show (if (rcvS q).val < 12 then _ else land x (dec (rcvS q)) c) = _
  rw [if_neg (not_lt.mpr (rcvS_ge q)), dec_rcvS]

theorem expect_bar : (Rd x).expect (barCell c) 0 = 4 := by
  unfold Schedule.expect Schedule.amountOf
  rw [duties_bar, Finset.sum_congr rfl fun d _ => amount_bar x c d]; rfl
theorem expect_snd (ph : Fin 4) (s : Fin 3) (h : Bool) : (Rd x).expect (sndCell h c) (rank (ph, s)) = NN ph := by
  unfold Schedule.expect Schedule.amountOf; rw [duties_snd x c h _ (rank_lt _), Finset.sum_singleton, amount_snd]
theorem expect_rcv (q : RX) : (Rd x).expect (rcvCell q c) 0 = NN q.1 := by
  unfold Schedule.expect Schedule.amountOf; rw [duties_rcv, Finset.sum_singleton, amount_rcv]

theorem rest_bar : bigSep ((Rd x).duties (barCell c) 0 \ ∅) (fun d => (Rd x).payload (barCell c) 0 d) = bigSep Finset.univ fun d : Fin 4 => barPay (F := F) d c := by
  rw [Finset.sdiff_empty, duties_bar]; rfl
theorem rest_snd (ph : Fin 4) (s : Fin 3) (h : Bool) :
    bigSep ((Rd x).duties (sndCell h c) (rank (ph, s)) \ ∅) (fun d => (Rd x).payload (sndCell h c) (rank (ph, s)) d) = sAny (ph, s, h) c := by
  rw [Finset.sdiff_empty, duties_snd x c h _ (rank_lt _), bigSep_singleton, payload_snd]
theorem rest_rcv (q : RX) : bigSep ((Rd x).duties (rcvCell q c) 0 \ ∅) (fun d => (Rd x).payload (rcvCell q c) 0 d) = land x q c := by
  rw [Finset.sdiff_empty, duties_rcv, bigSep_singleton, payload_rcv]

end Tables

/-! ## What a device owes, and the levels -/

/-- The credit of a step's copy of one half at its destination. -/
def tl (p : Fin 4 × Fin 3) (h : Bool) (c : Dev nD) : CellTallies nD τ sig Unit := tallyAt (rcvCell (p.1, p.2, h) (dst p.1 h c)) () (NN p.1)
/-- What the steps of a list owe. -/
def owesL : List (Fin 4 × Fin 3) → Dev nD → CellTallies nD τ sig Unit
  | [], _ => 0
  | p :: l, c => owesL l c + tl p true c + tl p false c

/-- The steps in program order. -/
abbrev steps : List (Fin 4 × Fin 3) := [(0, 0), (0, 1), (0, 2), (1, 0), (1, 1), (1, 2), (2, 0), (2, 1), (2, 2), (3, 0), (3, 1), (3, 2)]

/-- At launch: every copy's credit, and a unit to every neighbour's barrier. -/
def bt (d : Fin 4) (c : Dev nD) : CellTallies nD τ sig Unit := tallyAt (barCell (nbr d c)) () 1
def Ostart (c : Dev nD) : CellTallies nD τ sig Unit := owesL steps c + bt 3 c + bt 2 c + bt 1 c + bt 0 c

def L (g : GSem nD τ sig) : Finset Unit := if g.1.2 = .tc then {()} else ∅
/-- Barriers at `1`, receive cells above in program order, everything else at `0`. -/
def lv (g : GSem nD τ sig) (_ : Unit) : ℕ := match g.2 with
  | .reg _ => 1
  | .dma q => if q.val < 12 then 0 else 2 + rank ((dec q).1, (dec q).2.1)

theorem L_of_ne (g : GSem nD τ sig) (h : g.1.2 ≠ .tc) : L g = ∅ := if_neg h
theorem L_tc (c : Dev nD) (sm : SemLoc sig) : L ((c : Thread nD τ), sm) = {()} := if_pos rfl
theorem lv_rcv (q : RX) (c : Dev nD) (u : Unit) : lv (rcvCell q c) u = 2 + rank (q.1, q.2.1) := by
  show (if (rcvS q).val < 12 then 0 else 2 + rank ((dec (rcvS q)).1, (dec (rcvS q)).2.1)) = _
  rw [if_neg (not_lt.mpr (rcvS_ge q)), dec_rcvS]
theorem lv_snd (q : DmaSem sig) (hq : q.val < 12) (c : Dev nD) (u : Unit) : lv ((c : Thread nD τ), .dma q) u = 0 := if_pos hq

theorem tally_pos {g g' : GSem nD τ sig} {n : ℕ} {u : Unit} (h : 0 < tallyAt (sig := sig) g' () n g u) : g = g' := by
  rw [tallyAt_apply] at h
  by_contra hn
  rw [if_neg (fun h' => hn h'.1)] at h
  exact Nat.lt_irrefl 0 h

theorem owesL_pos {l : List (Fin 4 × Fin 3)} {c : Dev nD} {g : GSem nD τ sig} {u : Unit} (h : 0 < owesL l c g u) :
    ∃ p ∈ l, ∃ (b : Bool) (d : Dev nD), g = rcvCell (p.1, p.2, b) d := by
  induction l with
  | nil => exact absurd h (Nat.lt_irrefl 0)
  | cons p l ih =>
    unfold owesL at h
    rw [Pi.add_apply, Finsupp.add_apply, Pi.add_apply, Finsupp.add_apply] at h
    rcases Nat.eq_zero_or_pos (owesL l c g u) with h1 | h1
    · rcases Nat.eq_zero_or_pos (tl p true c g u) with h2 | h2
      · rw [h1, h2] at h
        exact ⟨p, List.mem_cons_self .., false, _, tally_pos (by simpa [tl] using h)⟩
      · exact ⟨p, List.mem_cons_self .., true, _, tally_pos h2⟩
    · obtain ⟨p', hp', b, d, e⟩ := ih h1
      exact ⟨p', List.mem_cons_of_mem _ hp', b, d, e⟩

theorem Ostart_pos {c : Dev nD} {g : GSem nD τ sig} {u : Unit} (h : 0 < Ostart c g u) :
    (∃ d, g = barCell d) ∨ ∃ (q : RX) (d : Dev nD), g = rcvCell q d := by
  unfold Ostart at h
  simp only [Pi.add_apply, Finsupp.add_apply] at h
  by_contra hn
  rw [not_or] at hn
  have e : ∀ d, bt d c g u = 0 := fun d => Nat.eq_zero_of_not_pos fun hp => hn.1 ⟨_, tally_pos hp⟩
  rw [e, e, e, e] at h
  simp only [Nat.add_zero] at h
  obtain ⟨p, _, b, d, hg⟩ := owesL_pos h
  exact hn.2 ⟨_, _, hg⟩

/-- A wait of level at most `b` is allowed while only steps above `b` are owed. -/
theorem mayWait_of (c : Dev nD) (sm : SemLoc sig) (b : ℕ) (hb : lv ((c : Thread nD τ), sm) () ≤ b) (l : List (Fin 4 × Fin 3))
    (hl : ∀ p ∈ l, b < 2 + rank p) : (levAts L lv : sProp 𝕄) ⊢ MayWait (c : Thread nD τ) sm () (owesL l c) :=
  MayOwe.of_cut (L := L) (lev := lv) b (fun p hp => by rw [Finset.mem_singleton.mp hp, L_tc]; exact Finset.mem_singleton_self _)
    (fun g u hg => by obtain ⟨p, _, h, d, rfl⟩ := owesL_pos hg; exact Finset.mem_singleton_self _)
    (fun p hp => by rw [Finset.mem_singleton.mp hp]; exact hb)
    (fun g u hg => by obtain ⟨p, hp, h, d, rfl⟩ := owesL_pos hg; rw [lv_rcv]; exact hl p hp)

/-- The pipeline's own waits are allowed throughout. -/
theorem mayWait_stage (c : Dev nD) (q : DmaSem sig) (hq : q.val < 12) (O : CellTallies nD τ sig Unit) (hO : O = Ostart c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases Ostart_pos hg with ⟨d, rfl⟩ | ⟨q, d, rfl⟩ <;> exact Finset.mem_singleton_self _)
      (fun p hp => by rw [Finset.mem_singleton.mp hp]; exact le_of_eq (lv_snd q hq c _))
      (fun g u hg => by
        rcases Ostart_pos hg with ⟨d, rfl⟩ | ⟨q, d, rfl⟩
        · exact Nat.one_pos
        · rw [lv_rcv]; omega)
  · rw [MayWait_zero]; iintro -; iempintro

end Cert.KernelIdealProof

end
-- ==== Proof.KernelIdeal.Blocks.lean ====
/-
# The operations a step is made of

Loads and stores of a send buffer or a slot, a copy to a neighbour, the two waits of a copy: each as one rule over what
the device holds.
-/
module

public import proofs.«01_k».proof.Proof.KernelIdeal.Protocol

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

abbrev 𝒱₀ : Variants := Variants.none

variable (c : Dev nD)

/-! ## Loads and stores -/

theorem any_intro {sh : Shape} {e : EltTy} (m : Memref sig .tc .vmem sh e) (f : Buf (Elt F) (m.view.loc (c : Thread nD τ))) :
    (m.view.loc (c : Thread nD τ) ↦[m.view.set]{fullShare} f : sProp 𝕄) ⊢ anyAt c m := by
  unfold anyAt; iintro H; iexists f; iexact H
theorem holds_intro {sh : Shape} {e : EltTy} (m : Memref sig .tc .vmem sh e) (X : sh.Idx → Elt F e) (f : Buf (Elt F) (m.view.loc (c : Thread nD τ)))
    (hf : m.view.read (Elt F) f = X) : (m.view.loc (c : Thread nD τ) ↦[m.view.set]{fullShare} f : sProp 𝕄) ⊢ holds c m X := by
  unfold holds; iintro H; iexists f; isplitr
  · ipureintro; exact hf
  iexact H

section Mem

variable {sh S : Shape} {e : EltTy}

/-- A load whose value is not used. -/
theorem wp_dead {α : Type} {Q : α → sProp 𝕄} (m : Memref sig .tc .vmem sh e) (r : Rect sh) {hl : m.view.LoadsAt r.toLoadRect} {k : (r.toLoadRect.shape.Idx → Elt F e) → Prog (TpuEff nD τ sig (Elt F) Λ₀ .tc) α} :
    anyAt c m ⊢ iprop((∀ v, anyAt c m -∗ wp frame (wpE (defs₀ (F := F)) 𝒱₀ (c : Thread nD τ) none) Set.univ (k v) Q)
      -∗ wp frame (wpE (defs₀ (F := F)) 𝒱₀ (c : Thread nD τ) none) Set.univ (.op (.load m r.toLoadRect hl) k) Q) := by
  unfold anyAt
  iintro ⟨%f, H⟩ Hk
  iapply (wp_load 𝒱₀ (c : Thread nD τ) none Set.univ (m := m) (m.view.setOn_subset_set _)) $$ H; iintro H
  iapply Hk; iexists f; iexact H

/-- A store over a whole buffer. -/
theorem wp_fill {α : Type} {Q : α → sProp 𝕄} (m : Memref sig .tc .vmem sh e) (o : Fin sh.rank → ℕ) (ho : o = fun _ => 0) (inb : ∀ a, o a + sh.size a ≤ sh.size a)
    (w : (Rect.unit o sh.size inb).shape.Idx → Elt F e) {hx : (m.access (Rect.unit o sh.size inb)).Stores Finset.univ} {hm}
    {k : PUnit → Prog (TpuEff nD τ sig (Elt F) Λ₀ .tc) α} :
    anyAt c m ⊢ iprop((holds c m w -∗ wp frame (wpE (defs₀ (F := F)) 𝒱₀ (c : Thread nD τ) none) Set.univ (k ⟨⟩) Q)
      -∗ wp frame (wpE (defs₀ (F := F)) 𝒱₀ (c : Thread nD τ) none) Set.univ (.op (.store m (Rect.unit o sh.size inb) w Finset.univ hx hm) k) Q) := by
  subst ho
  unfold anyAt holds
  iintro ⟨%f, H⟩ Hk
  iapply (wp_store 𝒱₀ (c : Thread nD τ) none Set.univ (m := m) (r := Rect.unit (fun _ => 0) sh.size inb) (Mk := Finset.univ) (S := m.view.set) (f := f) (Memref.setOn_access_subset m _ _)) $$ H; iintro H
  iapply Hk; iexists _; isplitr
  swap; · iexact H
  ipureintro
  funext j
  refine (congrArg (m.view.read (Elt F) _) (?_ : j = (Rect.unit (fun _ => 0) sh.size inb).emb j)).trans
    (congrFun (View.read_write_univ (Val := Elt F) (v := m.access (Rect.unit (fun _ => 0) sh.size inb)) f w) j)
  funext a; apply Fin.ext; show (j a).val = 0 + 1 * (j a).val; omega

variable (g : Memref sig .tc .vmem S e) (r : Rect S) (hr : ∀ a, r.stride a = 1) (hsq : r.shape.Squeezes sh)

/-- A load of a slot through its whole buffer. -/
theorem wp_slot_load {α : Type} {Q : α → sProp 𝕄} (X : sh.Idx → Elt F e) {hl : g.view.LoadsAt r.toLoadRect} {k : (r.toLoadRect.shape.Idx → Elt F e) → Prog (TpuEff nD τ sig (Elt F) Λ₀ .tc) α} :
    holds c ((g.slice r hr).squeeze sh hsq) X
      ⊢ iprop((∀ v, ⌜(fun j => v (Shape.reshapeEquiv hsq.numel_eq j)) = X⌝ -∗ holds c ((g.slice r hr).squeeze sh hsq) X
          -∗ wp frame (wpE (defs₀ (F := F)) 𝒱₀ (c : Thread nD τ) none) Set.univ (k v) Q)
      -∗ wp frame (wpE (defs₀ (F := F)) 𝒱₀ (c : Thread nD τ) none) Set.univ (.op (.load g r.toLoadRect hl) k) Q) := by
  unfold holds
  iintro ⟨%f, %hf, H⟩ Hk
  iapply (wp_load_rect 𝒱₀ (c : Thread nD τ) none Set.univ (m := g) (r := r) (S := ((g.slice r hr).squeeze sh hsq).view.set)
    (f := f) (q := fullShare) (View.set_reshape (v := g.view.slice r) hsq.numel_eq).ge) $$ H; iintro H
  iapply Hk $$ %_ %hf
  iexists f; isplitr; · ipureintro; exact hf
  iexact H

/-- A load of a slot whose value is not used. -/
theorem wp_slot_dead {α : Type} {Q : α → sProp 𝕄} {hl : g.view.LoadsAt r.toLoadRect} {k : (r.toLoadRect.shape.Idx → Elt F e) → Prog (TpuEff nD τ sig (Elt F) Λ₀ .tc) α} :
    anyAt c ((g.slice r hr).squeeze sh hsq)
      ⊢ iprop((∀ v, anyAt c ((g.slice r hr).squeeze sh hsq) -∗ wp frame (wpE (defs₀ (F := F)) 𝒱₀ (c : Thread nD τ) none) Set.univ (k v) Q)
      -∗ wp frame (wpE (defs₀ (F := F)) 𝒱₀ (c : Thread nD τ) none) Set.univ (.op (.load g r.toLoadRect hl) k) Q) := by
  unfold anyAt
  iintro ⟨%f, H⟩ Hk
  iapply (wp_load_rect 𝒱₀ (c : Thread nD τ) none Set.univ (m := g) (r := r) (S := ((g.slice r hr).squeeze sh hsq).view.set)
    (f := f) (q := fullShare) (View.set_reshape (v := g.view.slice r) hsq.numel_eq).ge) $$ H; iintro H
  iapply Hk; iexists f; iexact H

/-- A store to a slot through its whole buffer. -/
theorem wp_slot_fill {α : Type} {Q : α → sProp 𝕄} (w : r.shape.Idx → Elt F e) {hx : (g.access r).Stores Finset.univ} {hm} {k : PUnit → Prog (TpuEff nD τ sig (Elt F) Λ₀ .tc) α} :
    anyAt c ((g.slice r hr).squeeze sh hsq)
      ⊢ iprop((holds c ((g.slice r hr).squeeze sh hsq) (fun j => w (Shape.reshapeEquiv hsq.numel_eq j))
          -∗ wp frame (wpE (defs₀ (F := F)) 𝒱₀ (c : Thread nD τ) none) Set.univ (k ⟨⟩) Q)
      -∗ wp frame (wpE (defs₀ (F := F)) 𝒱₀ (c : Thread nD τ) none) Set.univ (.op (.store g r w Finset.univ hx hm) k) Q) := by
  unfold anyAt holds
  iintro ⟨%f, H⟩ Hk
  iapply (wp_store 𝒱₀ (c : Thread nD τ) none Set.univ (m := g) (r := r) (Mk := Finset.univ) (S := ((g.slice r hr).squeeze sh hsq).view.set) (f := f)
    (View.set_reshape (v := g.view.slice r) hsq.numel_eq).ge) $$ H; iintro H
  iapply Hk; iexists _; isplitr
  swap; · iexact H
  ipureintro
  funext j
  exact congrFun (View.read_write_univ (Val := Elt F) (v := g.access r) f w) (Shape.reshapeEquiv hsq.numel_eq j)

end Mem

/-! ## The result buffer -/

/-- The result buffer of device `c` at contents `V`. -/
def oPts (V : OV F) : sProp 𝕄 := ((c : Thread nD τ).loc cc1_stg1_0) ↦{fullShare} V

theorem wp_o_load {α : Type} {Q : α → sProp 𝕄} (V : OV F) (o : Fin 2 → ℕ) (sz : Fin 2 → ℕ) (inb : ∀ a, o a + sz a ≤ S2048x1024.size a) {hl}
    {k : ((Rect.unit (s := S2048x1024) o sz inb).toLoadRect.shape.Idx → Elt F .f32) → Prog (TpuEff nD τ sig (Elt F) Λ₀ .tc) α} :
    oPts c V ⊢ iprop((oPts c V -∗ wp frame (wpE (defs₀ (F := F)) 𝒱₀ (c : Thread nD τ) none) Set.univ (k (VecWindow.window V o sz inb)) Q)
      -∗ wp frame (wpE (defs₀ (F := F)) 𝒱₀ (c : Thread nD τ) none) Set.univ (.op (.load oM (Rect.unit (s := S2048x1024) o sz inb).toLoadRect hl) k) Q) := by
  unfold oPts
  exact wp_load 𝒱₀ (c : Thread nD τ) none Set.univ (m := oM) (S := Finset.univ) (f := V) (Finset.subset_univ _)

theorem wp_o_store {α : Type} {Q : α → sProp 𝕄} (V : OV F) (o : Fin 2 → ℕ) (sz : Fin 2 → ℕ) (inb : ∀ a, o a + sz a ≤ S2048x1024.size a)
    (w : (Rect.unit (s := S2048x1024) o sz inb).shape.Idx → Elt F .f32) {hx} {hm} {k : PUnit → Prog (TpuEff nD τ sig (Elt F) Λ₀ .tc) α} :
    oPts c V ⊢ iprop((oPts c (VecWindow.put V o sz w) -∗ wp frame (wpE (defs₀ (F := F)) 𝒱₀ (c : Thread nD τ) none) Set.univ (k ⟨⟩) Q)
      -∗ wp frame (wpE (defs₀ (F := F)) 𝒱₀ (c : Thread nD τ) none) Set.univ (.op (.store oM (Rect.unit (s := S2048x1024) o sz inb) w Finset.univ hx hm) k) Q) := by
  unfold oPts
  rw [← st_o V o sz inb w]
  exact wp_store 𝒱₀ (c : Thread nD τ) none Set.univ (m := oM) (r := Rect.unit (s := S2048x1024) o sz inb) (S := Finset.univ) (f := V) (Finset.subset_univ _)

/-! ## Records, and what a device owes -/

/-- The semaphores of a device that carry rounds: the barrier, then the DMA semaphores from the eleventh on. -/
def csem (i : Fin 27) : SemLoc sig := if i.val = 0 then .reg barS else .dma ⟨i.val + 9, by have := i.isLt; show i.val + 9 < 36; omega⟩
abbrev kcell (p : Dev nD × Fin 27) : GSem nD τ sig := ((p.1 : Thread nD τ), csem p.2)
/-- A DMA semaphore's place among them. -/
def ki (q : DmaSem sig) : Fin 27 := ⟨(q.val - 9) % 27, Nat.mod_lt _ (by decide)⟩
theorem csem_zero : csem 0 = .reg barS := rfl
theorem csem_ki (q : DmaSem sig) (h : 10 ≤ q.val) : csem (ki q) = .dma q := by
  have hq : q.val < 36 := q.isLt
  have hk : (ki q).val = q.val - 9 := Nat.mod_eq_of_lt (by omega)
  unfold csem
  rw [if_neg (by rw [hk]; omega)]
  exact congrArg SemLoc.dma (Fin.ext (by show (ki q).val + 9 = q.val; rw [hk]; omega))

variable (x : Dev nD → OV F) (K : Dev nD × Fin 27 → ℕ)

/-- Every cell's protocol is in force, and the barriers' first round open. -/
def records : sProp 𝕄 :=
  iprop((bigSep Finset.univ fun p : Dev nD × Fin 27 => cellInv ER (Rd x) (K p) (kcell p)) ∗ bigSep Finset.univ fun d : Dev nD => reached ER (barCell d) 0)

instance records_persistent : BI.Persistent (records x K) := by unfold records; infer_instance

theorem inv_at (p : Dev nD × Fin 27) : records x K ⊢ (cellInv ER (Rd x) (K p) (kcell p) : sProp 𝕄) := by
  unfold records; refine sep_elim_left.trans ?_
  exact bigSep_elim (Finset.mem_univ p) (Φ := fun p : Dev nD × Fin 27 => cellInv ER (Rd x) (K p) (kcell p))
theorem reached_bar (d : Dev nD) : records x K ⊢ (reached ER (barCell d) 0 : sProp 𝕄) := by
  unfold records; refine sep_elim_right.trans ?_
  exact bigSep_elim (Finset.mem_univ d) (Φ := fun d : Dev nD => reached ER (barCell d) 0)

theorem inv_dma (q : DmaSem sig) (h : 10 ≤ q.val) (d : Dev nD) : records x K ⊢ (cellInv ER (Rd x) (K (d, ki q)) ((d : Thread nD τ), .dma q) : sProp 𝕄) := by
  have := inv_at x K (d, ki q); rwa [show kcell (d, ki q) = ((d : Thread nD τ), .dma q) from by unfold kcell; rw [csem_ki q h]] at this

theorem rcvS_ge2 (q : RX) : 10 ≤ (rcvS q).val := le_trans (by decide) (rcvS_ge q)

/-- What a device owes, whatever it has waited for. -/
def ow (O : CellTallies nD τ sig Unit) : sProp 𝕄 := iprop(∃ W, owes (c : Thread nD τ) O W)

/-! ## Copies and their waits -/

/-- Send copy `q`: the source's contents go to the neighbour's slot, for the credit of the send semaphore's round. -/
theorem wp_copy_out {α : Type} {Q : α → sProp 𝕄} (q : RX) {sh : Shape} (m : Memref sig .tc .vmem sh .bf16) (d : Memref sig .tc .vmem sh .bf16) (X : sh.Idx → Elt F .bf16)
    (n : Dev nD) (hn : n = dst q.1 q.2.2 c) (hcr : d.view.dmaCredit = NN q.1)
    (hs : anyAt (F := F) c m ⊢ sAny q c) (hd : holds n d X ⊢ land x q n)
    (sS sR : DmaSem sig) (hS : sS = sndS q.2.2) (hR : sR = rcvS q) (O : CellTallies nD τ sig Unit)
    {hsc : (d : Memref sig (Dev.tc n : Thread nD τ).2.kind .vmem sh .bf16).view.ref.isScScratch = false}
    {h1 : m.view.WordExact} {h2 : d.view.WordExact} {h3 : DmaTarget.Typed .vmem (.dma sR) (.remote (Dev.tc n : Thread nD τ) (d : Memref sig (Dev.tc n : Thread nD τ).2.kind .vmem sh .bf16) (.dma sS) hsc)}
    {k : PUnit → Prog (TpuEff nD τ sig (Elt F) Λ₀ .tc) α} :
    iprop(records x K ∗ holds c m X ∗ anyAt n d ∗ ow c (O + tl (q.1, q.2.1) q.2.2 c)
        ∗ dutyTok ER (sndCell q.2.2 c) (rank (q.1, q.2.1)) 0 ∗ reached ER (sndCell q.2.2 c) (rank (q.1, q.2.1)) ∗ dutyTok ER (rcvCell q (dst q.1 q.2.2 c)) 0 0 ∗ reached ER (rcvCell q (dst q.1 q.2.2 c)) 0)
      ⊢ iprop(((cred (tallyAt (sndCell q.2.2 c) () (NN q.1)) ∗ ow c O) -∗ wp frame (wpE (defs₀ (F := F)) 𝒱₀ (c : Thread nD τ) none) Set.univ (k ⟨⟩) Q)
        -∗ wp frame (wpE (defs₀ (F := F)) 𝒱₀ (c : Thread nD τ) none) Set.univ
            (.op (.enqueueDma m (.remote (Dev.tc n : Thread nD τ) d (.dma sS) hsc) (.dma sR) h1 h2 h3) k) Q) := by
  subst hn hS hR
  obtain ⟨ph, s, h⟩ := q
  dsimp only at hcr ⊢
  unfold holds anyAt ow tl
  iintro ⟨#HR, ⟨%f, %hf, Hs⟩, ⟨%fd, Hd⟩, ⟨%W, HO⟩, Ht1, #Hr1, Ht2, #Hr2⟩ Hk
  iapply (Rounds.wp_send_pointsTo 𝒱₀ ER (Rd x) (c : Thread nD τ) none (κ₁ := K (c, ki (sndS h))) (κ₂ := K (dst ph h c, ki (rcvS (ph, s, h))))
    (r₁ := rank (ph, s)) (r₂ := 0) (d₁ := 0) (d₂ := 0) (fs := f) (fd := fd)
    (by rw [duties_snd x c h _ (rank_lt _)]; exact Finset.mem_singleton_self _) (by rw [duties_rcv]; exact Finset.mem_singleton_self _)
    () () (NN ph) (show d.view.amount (.dma (rcvS (ph, s, h))) = NN ph from hcr) (amount_snd x c ph s h 0) (amount_rcv x (dst ph h c) (ph, s, h) 0) O rfl (W := W)
    (by
      rw [payload_snd]
      exact (any_intro c m f).trans hs)
    (by
      rw [payload_rcv]
      exact (holds_intro (dst ph h c) d X _ (by rw [View.read_write_univ]; exact hf)).trans hd)) $$ [Hs Hd HO Ht1 Ht2]
  · isplitr; · iapply (inv_dma x K (sndS h) (sndS_ge h) c); iexact HR
    isplitr; · iapply (inv_dma x K (rcvS (ph, s, h)) (rcvS_ge2 _) (dst ph h c)); iexact HR
    isplitl [Hs]; · iexact Hs
    isplitl [Hd]; · iexact Hd
    isplitl [HO]; · iexact HO
    isplitl [Ht1]; · iexact Ht1
    isplitr; · iexact Hr1
    isplitl [Ht2]; · iexact Ht2
    iexact Hr2
  iintro ⟨Hc, HO⟩
  iapply Hk
  isplitl [Hc]; · iexact Hc
  iexists W; iexact HO

/-- The wait for the send semaphore: the source buffer back, the semaphore's next round open. -/
theorem wp_wait_out {α : Type} {Q : α → sProp 𝕄} (q : RX) {sp sp' : Space} {s s' : Shape} {e e' : EltTy} (m : Memref sig .tc sp' s' e') {κ' : Kind} (d : Memref sig κ' sp s e)
    (hcr : d.view.dmaCredit = NN q.1) (sS : DmaSem sig) (hS : sS = sndS q.2.2) (l : List (Fin 4 × Fin 3))
    {h1 : m.view.WordExact} {h2 : d.view.WordExact} {k : PUnit → Prog (TpuEff nD τ sig (Elt F) Λ₀ .tc) α} :
    iprop(records x K ∗ levAts L lv ∗ cred (tallyAt (sndCell q.2.2 c) () (NN q.1)) ∗ ow c (owesL l c) ∗ atPos ER (sndCell q.2.2 c) (rank (q.1, q.2.1)) ∅ 0)
      ⊢ iprop(((ow c (owesL l c) ∗ atPos ER (sndCell q.2.2 c) (rank (q.1, q.2.1) + 1) ∅ 0 ∗ reached ER (sndCell q.2.2 c) (rank (q.1, q.2.1) + 1) ∗ sAny q c)
          -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 sS m d h1 h2) k) Q) := by
  subst hS
  obtain ⟨ph, st, h⟩ := q
  dsimp only at hcr ⊢
  rw [← hcr]
  unfold ow
  iintro ⟨#HR, #Hlev, Hc, ⟨%W, HO⟩, Hat⟩ Hk
  iapply (Rounds.wp_wait_rest_token 𝒱₀ ER (Rd x) (c : Thread nD τ) none (κ := K (c, ki (sndS h)))
    (wpE_waitDma2_eq 𝒱₀ (c : Thread nD τ) none Set.univ) (Set.mem_univ _) () (O := owesL l c) (W := W) (R := rank (ph, st)) (m := 0) (T := ∅)
    (by rw [Nat.zero_add, expect_snd, hcr])) $$ [Hc HO Hat]
  · isplitr; · iapply (inv_dma x K (sndS h) (sndS_ge h) c); iexact HR
    isplitl [Hc]; · iexact Hc
    isplitl [HO]; · iexact HO
    isplitr
    · iapply (mayWait_of (F := F) c (.dma (sndS h)) 0 (le_of_eq (lv_snd (sndS h) (sndS_lt h) c ())) l (fun p _ => by omega)); iexact Hlev
    iexact Hat
  iintro ⟨HO, Hat, Hr, Hp⟩
  ihave Hp := (Entails.of_eq (rest_snd x c ph st h)) $$ Hp
  iapply Hk
  isplitl [HO]; · iexists _; iexact HO
  isplitl [Hat]; · iexact Hat
  isplitl [Hr]; · iexact Hr
  iexact Hp

/-- The wait for a receive semaphore: the landing slot at what was sent; the semaphore is done with. -/
theorem wp_wait_in {α : Type} {Q : α → sProp 𝕄} (q : RX) {sp sp' : Space} {s s' : Shape} {e e' : EltTy} (m : Memref sig .tc sp' s' e') {κ' : Kind} (d : Memref sig κ' sp s e)
    (hcr : d.view.dmaCredit = NN q.1) (sR : DmaSem sig) (hR : sR = rcvS q) (l : List (Fin 4 × Fin 3)) (hl : ∀ p ∈ l, rank (q.1, q.2.1) < rank p)
    {h1 : m.view.WordExact} {h2 : d.view.WordExact} {k : PUnit → Prog (TpuEff nD τ sig (Elt F) Λ₀ .tc) α} :
    iprop(records x K ∗ levAts L lv ∗ cred (tallyAt (rcvCell q c) () (NN q.1)) ∗ ow c (owesL l c) ∗ atPos ER (rcvCell q c) 0 ∅ 0)
      ⊢ iprop(((ow c (owesL l c) ∗ semVal (rcvCell q c) 0 ∗ land x q c) -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 sR m d h1 h2) k) Q) := by
  subst hR
  rw [← hcr]
  unfold ow
  iintro ⟨#HR, #Hlev, Hc, ⟨%W, HO⟩, Hat⟩ Hk
  iapply (Rounds.wp_wait_rest_token 𝒱₀ ER (Rd x) (c : Thread nD τ) none (κ := K (c, ki (rcvS q)))
    (wpE_waitDma2_eq 𝒱₀ (c : Thread nD τ) none Set.univ) (Set.mem_univ _) () (O := owesL l c) (W := W) (R := 0) (m := 0) (T := ∅)
    (by rw [Nat.zero_add, expect_rcv, hcr])) $$ [Hc HO Hat]
  · isplitr; · iapply (inv_dma x K (rcvS q) (rcvS_ge2 q) c); iexact HR
    isplitl [Hc]; · iexact Hc
    isplitl [HO]; · iexact HO
    isplitr
    · iapply (mayWait_of (F := F) c (.dma (rcvS q)) (2 + rank (q.1, q.2.1)) (le_of_eq (lv_rcv q c ())) l (fun p hp => by have := hl p hp; omega)); iexact Hlev
    iexact Hat
  iintro ⟨HO, Hat, -, Hp⟩
  ihave Hp := (Entails.of_eq (rest_rcv x c q)) $$ Hp
  imod (Rounds.cell_close ER (Rd x) (Set.mem_univ (K (c, ki (rcvS q)))) (fun h => h) (R := 0 + 1) (later_rcv x c q)) $$ [Hat] with Hz
  · isplitr; · iapply (inv_dma x K (rcvS q) (rcvS_ge2 q) c); iexact HR
    iexact Hat
  iapply Hk
  isplitl [HO]; · iexists _; iexact HO
  isplitl [Hz]; · iexact Hz
  iexact Hp

end Cert.KernelIdealProof

end
-- ==== Proof.KernelIdeal.Steps.lean ====
/-
# A step of a reduce-scatter, a step of an all-gather

Both reduce-scatters run the same step at different shapes and neighbours, and so do both all-gathers. What one of them
is made of is a record; the step's rule is proved once over the record. The program of a step is stated over variables
for its offsets, buffers, semaphores and payloads, with equations saying which of the record's they are.
-/
module

public import proofs.«01_k».proof.Proof.KernelIdeal.Blocks

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.VecWindow

variable {F : FTy → Type} [FloatOps F] [Named F]

local notation "𝕄" => MT nD τ sig Unit (Elt F) ℕ UU ℕ

variable (x : Dev nD → OV F) (K : Dev nD × Fin 27 → ℕ) (c : Dev nD)

/-! ## What a device holds for a step -/

/-- For copy `q`: the two duties of the copy it sends, the slot it lands in, and the wait for the copy it receives. -/
def pk (q : RX) : sProp 𝕄 :=
  iprop(dutyTok ER (sndCell q.2.2 c) (rank (q.1, q.2.1)) 0 ∗ dutyTok ER (rcvCell q (dst q.1 q.2.2 c)) 0 0 ∗ door q (dst q.1 q.2.2 c)
    ∗ cred (tallyAt (rcvCell q c) () (NN q.1)) ∗ atPos ER (rcvCell q c) 0 ∅ 0)
/-- The send semaphore of half `h` at round `k`. -/
def at1 (h : Bool) (k : ℕ) : sProp 𝕄 := iprop(atPos ER (sndCell h c) k ∅ 0 ∗ reached ER (sndCell h c) k)
def at2 (k : ℕ) : sProp 𝕄 := iprop(at1 c false k ∗ at1 c true k)

/-- The wait for a copy sent and the wait for the one received in its step. -/
theorem wp_waits {α : Type} {Q : α → sProp 𝕄} (q : RX) {sp sp' sq sq' : Space} {s s' u u' : Shape} {e e' v v' : EltTy} {κ' κ'' : Kind}
    (m : Memref sig .tc sp' s' e') (d : Memref sig κ' sp s e) (m' : Memref sig .tc sq' u' v') (d' : Memref sig κ'' sq u v)
    (hcr : d.view.dmaCredit = NN q.1) (hcr' : d'.view.dmaCredit = NN q.1) (sS sR : DmaSem sig) (hS : sS = sndS q.2.2) (hR : sR = rcvS q)
    (l : List (Fin 4 × Fin 3)) (hl : ∀ p ∈ l, rank (q.1, q.2.1) < rank p)
    {h1 : m.view.WordExact} {h2 : d.view.WordExact} {h3 : m'.view.WordExact} {h4 : d'.view.WordExact} {k : Prog (TpuEff nD τ sig (Elt F) Λ₀ .tc) α} :
    iprop(records x K ∗ levAts L lv ∗ cred (tallyAt (sndCell q.2.2 c) () (NN q.1)) ∗ ow c (owesL l c) ∗ atPos ER (sndCell q.2.2 c) (rank (q.1, q.2.1)) ∅ 0
        ∗ cred (tallyAt (rcvCell q c) () (NN q.1)) ∗ atPos ER (rcvCell q c) 0 ∅ 0)
      ⊢ iprop(((ow c (owesL l c) ∗ at1 c q.2.2 (rank (q.1, q.2.1) + 1) ∗ sAny q c ∗ semVal (rcvCell q c) 0 ∗ land x q c)
          -∗ wp frame (wpE (defs₀ (F := F)) 𝒱₀ (c : Thread nD τ) none) Set.univ k Q)
        -∗ wp frame (wpE (defs₀ (F := F)) 𝒱₀ (c : Thread nD τ) none) Set.univ (.op (.waitDma2 sS m d h1 h2) fun _ => .op (.waitDma2 sR m' d' h3 h4) fun _ => k) Q) := by
  unfold at1
  iintro ⟨#HR, #Hlev, Hc, HO, Hat, Hc', Hat'⟩ Hk
  iapply (wp_wait_out (Q := Q) c x K q m d hcr sS hS l) $$ [Hc HO Hat]
  · isplitr; · iexact HR
    isplitr; · iexact Hlev
    isplitl [Hc]; · iexact Hc
    isplitl [HO] <;> iassumption
  iintro ⟨HO, Hat, Hr, Hs⟩
  iapply (wp_wait_in (Q := Q) c x K q m' d' hcr' sR hR l hl) $$ [Hc' HO Hat']
  · isplitr; · iexact HR
    isplitr; · iexact Hlev
    isplitl [Hc']; · iexact Hc'
    isplitl [HO] <;> iassumption
  iintro ⟨HO, Hz, Hl⟩
  iapply Hk
  isplitl [HO]; · iexact HO
  isplitl [Hat Hr]; · isplitl [Hat] <;> iassumption
  isplitl [Hs]; · iexact Hs
  isplitl [Hz] <;> iassumption

/-! ## Reduce-scatter -/

/-- What a reduce-scatter is made of: its shapes, buffers, offsets and arithmetic, and what its copies are in the protocol. -/
structure RedPhase where
  ph : Fin 4
  sz : Fin 2 → ℕ
  S : Shape
  buf : Bool → Memref sig .tc .vmem ⟨2, sz⟩ .bf16
  arr : Bool → Memref sig .tc .vmem S .bf16
  rect : Fin 3 → Rect S
  one : ∀ s a, (rect s).stride a = 1
  sq : ∀ s, (rect s).shape.Squeezes ⟨2, sz⟩
  out : Bool → Fin 3 → Dev nD → Fin 2 → ℕ
  into : Bool → Fin 3 → Dev nD → Fin 2 → ℕ
  oin : ∀ h s c a, out h s c a + sz a ≤ S2048x1024.size a
  iin : ∀ h s c a, into h s c a + sz a ≤ S2048x1024.size a
  tr : Vec F ⟨2, sz⟩ .f32 → Vec F ⟨2, sz⟩ .bf16
  ad : Vec F ⟨2, sz⟩ .f32 → Vec F ⟨2, sz⟩ .bf16 → Vec F ⟨2, sz⟩ .f32
  O : ℕ → Dev nD → OV F
  src_any : ∀ s h c, sAny (F := F) (ph, s, h) c = anyAt c (buf h)
  slot_any : ∀ s h c, lAny (F := F) (ph, s, h) c = anyAt c (((arr h).slice (rect s) (one s)).squeeze ⟨2, sz⟩ (sq s))
  slot_holds : ∀ s h c, land x (ph, s, h) c = holds c (((arr h).slice (rect s) (one s)).squeeze ⟨2, sz⟩ (sq s))
    (tr (window (O s.val (src ph h c)) (out h s (src ph h c)) sz (oin h s (src ph h c))))
  cr_buf : ∀ h, (buf h).view.dmaCredit = NN ph
  cr_slot : ∀ h s, (((arr h).slice (rect s) (one s)).squeeze ⟨2, sz⟩ (sq s)).view.dmaCredit = NN ph

namespace RedPhase

variable {x} (D : RedPhase x)

/-- What the copy of half `h` in step `s` carries away from device `c`. -/
def msg (s : Fin 3) (h : Bool) (c : Dev nD) : Vec F ⟨2, D.sz⟩ .bf16 := D.tr (window (D.O s.val c) (D.out h s c) D.sz (D.oin h s c))
/-- The addition of what half `h` brings. -/
def upd (s : Fin 3) (h : Bool) (c : Dev nD) (V : OV F) : OV F :=
  put V (D.into h s c) D.sz (D.ad (window V (D.into h s c) D.sz (D.iin h s c)) (D.msg s h (src D.ph h c)))
abbrev slot (s : Fin 3) (h : Bool) : Memref sig .tc .vmem ⟨2, D.sz⟩ .bf16 := ((D.arr h).slice (D.rect s) (D.one s)).squeeze ⟨2, D.sz⟩ (D.sq s)

/-- One half's send: the region read, rounded into the send buffer, and copied to the neighbour's slot. -/
theorem wp_send {α : Type} {Q : α → sProp 𝕄} (s : Fin 3) (h : Bool) (l : CellTallies nD τ sig Unit)
    {o o0 : Fin 2 → ℕ} (ho : o = D.out h s c) (ho0 : o0 = fun _ => 0) {inb : ∀ a, o a + D.sz a ≤ S2048x1024.size a} {inb0 : ∀ a, o0 a + D.sz a ≤ D.sz a}
    {b d : Memref sig .tc .vmem ⟨2, D.sz⟩ .bf16} (hb : b = D.buf h) (hd : d = D.slot s h)
    {P : Vec F ⟨2, D.sz⟩ .f32 → Vec F ⟨2, D.sz⟩ .bf16} (hP : ∀ v, P v = D.tr v)
    {n : Dev nD} (hn : n = dst D.ph h c) {sS sR : DmaSem sig} (hS : sS = sndS h) (hR : sR = rcvS (D.ph, s, h))
    {hl hl' hx hm}
    {hsc : (d : Memref sig (Dev.tc n : Thread nD τ).2.kind .vmem ⟨2, D.sz⟩ .bf16).view.ref.isScScratch = false}
    {h1 : b.view.WordExact} {h2 : d.view.WordExact} {h3 : DmaTarget.Typed .vmem (.dma sR) (.remote (Dev.tc n : Thread nD τ) (d : Memref sig (Dev.tc n : Thread nD τ).2.kind .vmem ⟨2, D.sz⟩ .bf16) (.dma sS) hsc)}
    {k : Prog (TpuEff nD τ sig (Elt F) Λ₀ .tc) α} :
    iprop(records x K ∗ oPts c (D.O s.val c) ∗ sAny (D.ph, s, h) c ∗ door (D.ph, s, h) (dst D.ph h c) ∗ ow c (l + tl (D.ph, s) h c)
        ∗ dutyTok ER (sndCell h c) (rank (D.ph, s)) 0 ∗ reached ER (sndCell h c) (rank (D.ph, s)) ∗ dutyTok ER (rcvCell (D.ph, s, h) (dst D.ph h c)) 0 0)
      ⊢ iprop(((oPts c (D.O s.val c) ∗ cred (tallyAt (sndCell h c) () (NN D.ph)) ∗ ow c l) -∗ wp frame (wpE (defs₀ (F := F)) 𝒱₀ (c : Thread nD τ) none) Set.univ k Q)
        -∗ wp frame (wpE (defs₀ (F := F)) 𝒱₀ (c : Thread nD τ) none) Set.univ
          (.op (.load oM (Rect.unit (s := S2048x1024) o D.sz inb).toLoadRect hl) fun v =>
            .op (.load b (Rect.unit (s := ⟨2, D.sz⟩) o0 D.sz inb0).toLoadRect hl') fun _ =>
            .op (.store b (Rect.unit (s := ⟨2, D.sz⟩) o0 D.sz inb0) (P v) Finset.univ hx hm) fun _ =>
            .op (.enqueueDma b (.remote (Dev.tc n : Thread nD τ) d (.dma sS) hsc) (.dma sR) h1 h2 h3) fun _ => k) Q) := by
  subst ho hb hd hn
  unfold door
  rw [D.src_any, D.slot_any]
  iintro ⟨#HR, Ho, Hb, ⟨Hd, #Hr2⟩, HO, Ht1, Hr, Ht2⟩ Hk
  iapply (wp_o_load (Q := Q) c (D.O s.val c) (D.out h s c) D.sz (D.oin h s c)) $$ Ho; iintro Ho
  iapply (wp_dead (Q := Q) c (D.buf h) (Rect.unit (s := ⟨2, D.sz⟩) o0 D.sz inb0)) $$ Hb; iintro %_ Hb
  iapply (wp_fill (Q := Q) c (D.buf h) o0 ho0 inb0) $$ Hb; iintro Hb
  iapply (wp_copy_out (Q := Q) c x K (D.ph, s, h) (D.buf h) (D.slot s h) (D.msg s h c) (dst D.ph h c) rfl (D.cr_slot h s)
    (Entails.of_eq (D.src_any s h c).symm) (by rw [D.slot_holds, src_dst]; exact BI.Entails.refl _) sS sR hS hR l) $$ [Hb Hd HO Ht1 Hr Ht2]
  · isplitr; · iexact HR
    isplitl [Hb]; · rw [hP]; unfold msg; iexact Hb
    isplitl [Hd]; · iexact Hd
    isplitl [HO]; · iexact HO
    isplitl [Ht1]; · iexact Ht1
    isplitl [Hr]; · iexact Hr
    isplitl [Ht2]; · iexact Ht2
    iexact Hr2
  iintro ⟨Hc, HO⟩
  iapply Hk
  isplitl [Ho]; · iexact Ho
  isplitl [Hc] <;> iassumption

/-- One half's addition of what arrived. -/
theorem wp_add {α : Type} {Q : α → sProp 𝕄} (s : Fin 3) (h : Bool) (V : OV F)
    {o : Fin 2 → ℕ} (ho : o = D.into h s c) {inb inb' inb'' : ∀ a, o a + D.sz a ≤ S2048x1024.size a}
    {g : Memref sig .tc .vmem D.S .bf16} (hg : g = D.arr h) {r : Rect D.S} (hr : r = D.rect s)
    {P : Vec F ⟨2, D.sz⟩ .f32 → Vec F r.shape .bf16 → Vec F ⟨2, D.sz⟩ .f32}
    (hP : ∀ v w, P v w = D.ad v (fun j => w (Shape.reshapeEquiv (hr ▸ D.sq s : r.shape.Squeezes ⟨2, D.sz⟩).numel_eq j)))
    {hl hl' hl'' hx hm} {k : Prog (TpuEff nD τ sig (Elt F) Λ₀ .tc) α} :
    iprop(oPts c V ∗ land x (D.ph, s, h) c)
      ⊢ iprop(((oPts c (D.upd s h c V) ∗ lAny (D.ph, s, h) c) -∗ wp frame (wpE (defs₀ (F := F)) 𝒱₀ (c : Thread nD τ) none) Set.univ k Q)
        -∗ wp frame (wpE (defs₀ (F := F)) 𝒱₀ (c : Thread nD τ) none) Set.univ
          (.op (.load oM (Rect.unit (s := S2048x1024) o D.sz inb).toLoadRect hl) fun v =>
            .op (.load g r.toLoadRect hl') fun w =>
            .op (.load oM (Rect.unit (s := S2048x1024) o D.sz inb').toLoadRect hl'') fun _ =>
            .op (.store oM (Rect.unit (s := S2048x1024) o D.sz inb'') (P v w) Finset.univ hx hm) fun _ => k) Q) := by
  subst ho hg hr
  rw [D.slot_any, D.slot_holds]
  iintro ⟨Ho, Hl⟩ Hk
  iapply (wp_o_load (Q := Q) c V (D.into h s c) D.sz (D.iin h s c)) $$ Ho; iintro Ho
  iapply (wp_slot_load (Q := Q) c (D.arr h) (D.rect s) (D.one s) (D.sq s)) $$ Hl
  iintro %w %hw Hl
  iapply (wp_o_load (Q := Q) c V (D.into h s c) D.sz (D.iin h s c)) $$ Ho; iintro Ho
  iapply (wp_o_store (Q := Q) c V (D.into h s c) D.sz (D.iin h s c)) $$ Ho; iintro Ho
  iapply Hk
  isplitl [Ho]
  · rw [hP, hw]; unfold upd msg; iexact Ho
  iapply (holds_any c (D.slot s h)); iexact Hl

/-- A whole step: both halves sent, both waits of both, both additions. -/
theorem wp_step {α : Type} {Q : α → sProp 𝕄} (s : Fin 3) (l : List (Fin 4 × Fin 3)) (hl : ∀ p ∈ l, rank (D.ph, s) < rank p) (k' : ℕ) (hk' : rank (D.ph, s) + 1 = k')
    {oA oB oA' oB' o0 o0' : Fin 2 → ℕ} (hoA : oA = D.out false s c) (hoB : oB = D.out true s c) (hoA' : oA' = D.into false s c) (hoB' : oB' = D.into true s c)
    (ho0 : o0 = fun _ => 0) (ho0' : o0' = fun _ => 0)
    {iA : ∀ a, oA a + D.sz a ≤ S2048x1024.size a} {iB : ∀ a, oB a + D.sz a ≤ S2048x1024.size a} {i0 : ∀ a, o0 a + D.sz a ≤ D.sz a} {i0' : ∀ a, o0' a + D.sz a ≤ D.sz a}
    {jA jA' jA'' : ∀ a, oA' a + D.sz a ≤ S2048x1024.size a} {jB jB' jB'' : ∀ a, oB' a + D.sz a ≤ S2048x1024.size a}
    {bA dA bB dB : Memref sig .tc .vmem ⟨2, D.sz⟩ .bf16} (hbA : bA = D.buf false) (hbB : bB = D.buf true) (hdA : dA = D.slot s false) (hdB : dB = D.slot s true)
    {gA gB : Memref sig .tc .vmem D.S .bf16} (hgA : gA = D.arr false) (hgB : gB = D.arr true) {rA rB : Rect D.S} (hrA : rA = D.rect s) (hrB : rB = D.rect s)
    {PA PB : Vec F ⟨2, D.sz⟩ .f32 → Vec F ⟨2, D.sz⟩ .bf16} (hPA : ∀ v, PA v = D.tr v) (hPB : ∀ v, PB v = D.tr v)
    {PA' : Vec F ⟨2, D.sz⟩ .f32 → Vec F rA.shape .bf16 → Vec F ⟨2, D.sz⟩ .f32} {PB' : Vec F ⟨2, D.sz⟩ .f32 → Vec F rB.shape .bf16 → Vec F ⟨2, D.sz⟩ .f32}
    (hPA' : ∀ v w, PA' v w = D.ad v (fun j => w (Shape.reshapeEquiv (hrA ▸ D.sq s : rA.shape.Squeezes ⟨2, D.sz⟩).numel_eq j)))
    (hPB' : ∀ v w, PB' v w = D.ad v (fun j => w (Shape.reshapeEquiv (hrB ▸ D.sq s : rB.shape.Squeezes ⟨2, D.sz⟩).numel_eq j)))
    {nA nB : Dev nD} (hnA : nA = dst D.ph false c) (hnB : nB = dst D.ph true c)
    {sA sB qA qB : DmaSem sig} (hsA : sA = sndS false) (hsB : sB = sndS true) (hqA : qA = rcvS (D.ph, s, false)) (hqB : qB = rcvS (D.ph, s, true))
    {l1 l2 x1 m1 l3 l4 x2 m2 l5 l6 l7 x3 m3 l8 l9 l10 x4 m4 w5 w6 w7 w8 w9 w10 w11 w12}
    {hscA : (dA : Memref sig (Dev.tc nA : Thread nD τ).2.kind .vmem ⟨2, D.sz⟩ .bf16).view.ref.isScScratch = false}
    {hscB : (dB : Memref sig (Dev.tc nB : Thread nD τ).2.kind .vmem ⟨2, D.sz⟩ .bf16).view.ref.isScScratch = false}
    {w1 : bA.view.WordExact} {w2 : dA.view.WordExact} {w3 : bB.view.WordExact} {w4 : dB.view.WordExact}
    {t1 : DmaTarget.Typed .vmem (.dma qA) (.remote (Dev.tc nA : Thread nD τ) (dA : Memref sig (Dev.tc nA : Thread nD τ).2.kind .vmem ⟨2, D.sz⟩ .bf16) (.dma sA) hscA)}
    {t2 : DmaTarget.Typed .vmem (.dma qB) (.remote (Dev.tc nB : Thread nD τ) (dB : Memref sig (Dev.tc nB : Thread nD τ).2.kind .vmem ⟨2, D.sz⟩ .bf16) (.dma sB) hscB)}
    {k : Prog (TpuEff nD τ sig (Elt F) Λ₀ .tc) α} :
    iprop(records x K ∗ levAts L lv ∗ oPts c (D.O s.val c) ∗ sAny (D.ph, s, false) c ∗ sAny (D.ph, s, true) c ∗ pk c (D.ph, s, false) ∗ pk c (D.ph, s, true)
        ∗ at2 c (rank (D.ph, s)) ∗ ow c (owesL ((D.ph, s) :: l) c))
      ⊢ iprop(((oPts c (D.upd s true c (D.upd s false c (D.O s.val c))) ∗ sAny (D.ph, s, false) c ∗ sAny (D.ph, s, true) c
            ∗ (semVal (rcvCell (D.ph, s, false) c) 0 ∗ semVal (rcvCell (D.ph, s, true) c) 0 ∗ lAny (D.ph, s, false) c ∗ lAny (D.ph, s, true) c)
            ∗ at2 c k' ∗ ow c (owesL l c)) -∗ wp frame (wpE (defs₀ (F := F)) 𝒱₀ (c : Thread nD τ) none) Set.univ k Q)
        -∗ wp frame (wpE (defs₀ (F := F)) 𝒱₀ (c : Thread nD τ) none) Set.univ
          (.op (.load oM (Rect.unit (s := S2048x1024) oA D.sz iA).toLoadRect l1) fun v =>
            .op (.load bA (Rect.unit (s := ⟨2, D.sz⟩) o0 D.sz i0).toLoadRect l2) fun _ =>
            .op (.store bA (Rect.unit (s := ⟨2, D.sz⟩) o0 D.sz i0) (PA v) Finset.univ x1 m1) fun _ =>
            .op (.enqueueDma bA (.remote (Dev.tc nA : Thread nD τ) dA (.dma sA) hscA) (.dma qA) w1 w2 t1) fun _ =>
            .op (.load oM (Rect.unit (s := S2048x1024) oB D.sz iB).toLoadRect l3) fun v =>
            .op (.load bB (Rect.unit (s := ⟨2, D.sz⟩) o0' D.sz i0').toLoadRect l4) fun _ =>
            .op (.store bB (Rect.unit (s := ⟨2, D.sz⟩) o0' D.sz i0') (PB v) Finset.univ x2 m2) fun _ =>
            .op (.enqueueDma bB (.remote (Dev.tc nB : Thread nD τ) dB (.dma sB) hscB) (.dma qB) w3 w4 t2) fun _ =>
            .op (.waitDma2 sA dA bA w5 w6) fun _ => .op (.waitDma2 qA bA dA w7 w8) fun _ =>
            .op (.waitDma2 sB dB bB w9 w10) fun _ => .op (.waitDma2 qB bB dB w11 w12) fun _ =>
            .op (.load oM (Rect.unit (s := S2048x1024) oA' D.sz jA).toLoadRect l5) fun v =>
            .op (.load gA rA.toLoadRect l6) fun w =>
            .op (.load oM (Rect.unit (s := S2048x1024) oA' D.sz jA').toLoadRect l7) fun _ =>
            .op (.store oM (Rect.unit (s := S2048x1024) oA' D.sz jA'') (PA' v w) Finset.univ x3 m3) fun _ =>
            .op (.load oM (Rect.unit (s := S2048x1024) oB' D.sz jB).toLoadRect l8) fun v =>
            .op (.load gB rB.toLoadRect l9) fun w =>
            .op (.load oM (Rect.unit (s := S2048x1024) oB' D.sz jB').toLoadRect l10) fun _ =>
            .op (.store oM (Rect.unit (s := S2048x1024) oB' D.sz jB'') (PB' v w) Finset.univ x4 m4) fun _ => k) Q) := by
  subst hk'
  have cA : bA.view.dmaCredit = NN D.ph := by rw [hbA]; exact D.cr_buf false
  have cB : bB.view.dmaCredit = NN D.ph := by rw [hbB]; exact D.cr_buf true
  have cA' : dA.view.dmaCredit = NN D.ph := by rw [hdA]; exact D.cr_slot false s
  have cB' : dB.view.dmaCredit = NN D.ph := by rw [hdB]; exact D.cr_slot true s
  unfold pk at2
  dsimp only
  rw [show owesL ((D.ph, s) :: l) c = owesL l c + tl (D.ph, s) true c + tl (D.ph, s) false c from rfl]
  iintro ⟨#HR, #Hlev, Ho, HsA, HsB, ⟨HtA, HtA', HdA, HcA, HrA⟩, ⟨HtB, HtB', HdB, HcB, HrB⟩, ⟨HatA, HatB⟩, HO⟩ Hk
  unfold at1
  icases HatA with ⟨HatA, #HreA⟩
  icases HatB with ⟨HatB, #HreB⟩
  iapply (D.wp_send (Q := Q) K c s false (owesL l c + tl (D.ph, s) true c) hoA ho0 hbA hdA hPA hnA hsA hqA) $$ [Ho HsA HdA HO HtA HtA']
  · isplitr; · iexact HR
    isplitl [Ho]; · iexact Ho
    isplitl [HsA]; · iexact HsA
    isplitl [HdA]; · iexact HdA
    isplitl [HO]; · iexact HO
    isplitl [HtA]; · iexact HtA
    isplitr; · iexact HreA
    iexact HtA'
  iintro ⟨Ho, HkA, HO⟩
  iapply (D.wp_send (Q := Q) K c s true (owesL l c) hoB ho0' hbB hdB hPB hnB hsB hqB) $$ [Ho HsB HdB HO HtB HtB']
  · isplitr; · iexact HR
    isplitl [Ho]; · iexact Ho
    isplitl [HsB]; · iexact HsB
    isplitl [HdB]; · iexact HdB
    isplitl [HO]; · iexact HO
    isplitl [HtB]; · iexact HtB
    isplitr; · iexact HreB
    iexact HtB'
  iintro ⟨Ho, HkB, HO⟩
  iapply (wp_waits (Q := Q) x K c (D.ph, s, false) dA bA bA dA cA cA' sA qA hsA hqA l hl) $$ [HkA HO HatA HcA HrA]
  · isplitr; · iexact HR
    isplitr; · iexact Hlev
    isplitl [HkA]; · iexact HkA
    isplitl [HO]; · iexact HO
    isplitl [HatA]; · iexact HatA
    isplitl [HcA] <;> iassumption
  iintro ⟨HO, HatA, HsA, HzA, HlA⟩
  iapply (wp_waits (Q := Q) x K c (D.ph, s, true) dB bB bB dB cB cB' sB qB hsB hqB l hl) $$ [HkB HO HatB HcB HrB]
  · isplitr; · iexact HR
    isplitr; · iexact Hlev
    isplitl [HkB]; · iexact HkB
    isplitl [HO]; · iexact HO
    isplitl [HatB]; · iexact HatB
    isplitl [HcB] <;> iassumption
  iintro ⟨HO, HatB, HsB, HzB, HlB⟩
  iapply (D.wp_add (Q := Q) c s false (D.O s.val c) hoA' hgA hrA hPA') $$ [Ho HlA]
  · isplitl [Ho] <;> iassumption
  iintro ⟨Ho, HlA⟩
  iapply (D.wp_add (Q := Q) c s true _ hoB' hgB hrB hPB') $$ [Ho HlB]
  · isplitl [Ho] <;> iassumption
  iintro ⟨Ho, HlB⟩
  iapply Hk
  unfold at1
  isplitl [Ho]; · iexact Ho
  isplitl [HsA]; · iexact HsA
  isplitl [HsB]; · iexact HsB
  isplitl [HzA HzB HlA HlB]
  · isplitl [HzA]; · iexact HzA
    isplitl [HzB]; · iexact HzB
    isplitl [HlA] <;> iassumption
  isplitl [HatA HatB]
  · isplitl [HatA] <;> iassumption
  iexact HO

end RedPhase

/-! ## All-gather -/

/-- What an all-gather is made of. -/
structure GatPhase where
  ph : Fin 4
  sz : Fin 2 → ℕ
  S : Shape
  arr : Bool → Memref sig .tc .vmem S .bf16
  rect : Fin 4 → Rect S
  one : ∀ s a, (rect s).stride a = 1
  sq : ∀ s, (rect s).shape.Squeezes ⟨2, sz⟩
  into : Bool → Fin 3 → Dev nD → Fin 2 → ℕ
  iin : ∀ h s c a, into h s c a + sz a ≤ S2048x1024.size a
  ex : Vec F ⟨2, sz⟩ .bf16 → Vec F ⟨2, sz⟩ .f32
  msg : Bool → ℕ → Dev nD → Vec F ⟨2, sz⟩ .bf16
  src_any : ∀ s h c, sAny (F := F) (ph, s, h) c = anyAt c (((arr h).slice (rect (prev s)) (one (prev s))).squeeze ⟨2, sz⟩ (sq (prev s)))
  slot_any : ∀ s h c, lAny (F := F) (ph, s, h) c = anyAt c (((arr h).slice (rect (f4 s)) (one (f4 s))).squeeze ⟨2, sz⟩ (sq (f4 s)))
  slot_holds : ∀ s h c, land x (ph, s, h) c = holds c (((arr h).slice (rect (f4 s)) (one (f4 s))).squeeze ⟨2, sz⟩ (sq (f4 s))) (msg h s.val (src ph h c))
  msg_succ : ∀ h n c, msg h (n + 1) c = msg h n (src ph h c)
  cr_slot : ∀ h s, (((arr h).slice (rect s) (one s)).squeeze ⟨2, sz⟩ (sq s)).view.dmaCredit = NN ph

namespace GatPhase

variable {x} (D : GatPhase x)

abbrev slot (s : Fin 4) (h : Bool) : Memref sig .tc .vmem ⟨2, D.sz⟩ .bf16 := ((D.arr h).slice (D.rect s) (D.one s)).squeeze ⟨2, D.sz⟩ (D.sq s)
/-- The region overwritten by what half `h` brings. -/
def upd (s : Fin 3) (h : Bool) (c : Dev nD) (V : OV F) : OV F := put V (D.into h s c) D.sz (D.ex (D.msg h (s.val + 1) c))

/-- One half's send: the slot filled in the step before, forwarded. -/
theorem wp_send {α : Type} {Q : α → sProp 𝕄} (s : Fin 3) (h : Bool) (l : CellTallies nD τ sig Unit)
    {b d : Memref sig .tc .vmem ⟨2, D.sz⟩ .bf16} (hb : b = D.slot (prev s) h) (hd : d = D.slot (f4 s) h)
    {n : Dev nD} (hn : n = dst D.ph h c) {sS sR : DmaSem sig} (hS : sS = sndS h) (hR : sR = rcvS (D.ph, s, h))
    {hsc : (d : Memref sig (Dev.tc n : Thread nD τ).2.kind .vmem ⟨2, D.sz⟩ .bf16).view.ref.isScScratch = false}
    {h1 : b.view.WordExact} {h2 : d.view.WordExact} {h3 : DmaTarget.Typed .vmem (.dma sR) (.remote (Dev.tc n : Thread nD τ) (d : Memref sig (Dev.tc n : Thread nD τ).2.kind .vmem ⟨2, D.sz⟩ .bf16) (.dma sS) hsc)}
    {k : Prog (TpuEff nD τ sig (Elt F) Λ₀ .tc) α} :
    iprop(records x K ∗ holds c (D.slot (prev s) h) (D.msg h s.val c) ∗ door (D.ph, s, h) (dst D.ph h c) ∗ ow c (l + tl (D.ph, s) h c)
        ∗ dutyTok ER (sndCell h c) (rank (D.ph, s)) 0 ∗ reached ER (sndCell h c) (rank (D.ph, s)) ∗ dutyTok ER (rcvCell (D.ph, s, h) (dst D.ph h c)) 0 0)
      ⊢ iprop(((cred (tallyAt (sndCell h c) () (NN D.ph)) ∗ ow c l) -∗ wp frame (wpE (defs₀ (F := F)) 𝒱₀ (c : Thread nD τ) none) Set.univ k Q)
        -∗ wp frame (wpE (defs₀ (F := F)) 𝒱₀ (c : Thread nD τ) none) Set.univ
            (.op (.enqueueDma b (.remote (Dev.tc n : Thread nD τ) d (.dma sS) hsc) (.dma sR) h1 h2 h3) fun _ => k) Q) := by
  subst hb hd
  unfold door
  rw [D.slot_any]
  iintro ⟨#HR, Hb, ⟨Hd, #Hr2⟩, HO, Ht1, Hr, Ht2⟩ Hk
  iapply (wp_copy_out (Q := Q) c x K (D.ph, s, h) (D.slot (prev s) h) (D.slot (f4 s) h) (D.msg h s.val c) n hn (D.cr_slot h (f4 s))
    (Entails.of_eq (D.src_any s h c).symm) (by rw [hn, D.slot_holds, src_dst]) sS sR hS hR l) $$ [Hb Hd HO Ht1 Hr Ht2]
  · isplitr; · iexact HR
    isplitl [Hb]; · iexact Hb
    isplitl [Hd]; · rw [hn]; iexact Hd
    isplitl [HO]; · iexact HO
    isplitl [Ht1]; · iexact Ht1
    isplitl [Hr]; · iexact Hr
    isplitl [Ht2]; · iexact Ht2
    iexact Hr2
  iintro ⟨Hc, HO⟩
  iapply Hk
  isplitl [Hc] <;> iassumption

/-- One half's arrival written to the result buffer. -/
theorem wp_put {α : Type} {Q : α → sProp 𝕄} (s : Fin 3) (h : Bool) (V : OV F)
    {o : Fin 2 → ℕ} (ho : o = D.into h s c) {inb inb' : ∀ a, o a + D.sz a ≤ S2048x1024.size a}
    {g : Memref sig .tc .vmem D.S .bf16} (hg : g = D.arr h) {r : Rect D.S} (hr : r = D.rect (f4 s))
    {P : Vec F r.shape .bf16 → Vec F ⟨2, D.sz⟩ .f32}
    (hP : ∀ w, P w = D.ex (fun j => w (Shape.reshapeEquiv (hr ▸ D.sq (f4 s) : r.shape.Squeezes ⟨2, D.sz⟩).numel_eq j)))
    {hl hl' hx hm} {k : Prog (TpuEff nD τ sig (Elt F) Λ₀ .tc) α} :
    iprop(oPts c V ∗ land x (D.ph, s, h) c)
      ⊢ iprop(((oPts c (D.upd s h c V) ∗ holds c (D.slot (f4 s) h) (D.msg h (s.val + 1) c)) -∗ wp frame (wpE (defs₀ (F := F)) 𝒱₀ (c : Thread nD τ) none) Set.univ k Q)
        -∗ wp frame (wpE (defs₀ (F := F)) 𝒱₀ (c : Thread nD τ) none) Set.univ
          (.op (.load g r.toLoadRect hl) fun w =>
            .op (.load oM (Rect.unit (s := S2048x1024) o D.sz inb).toLoadRect hl') fun _ =>
            .op (.store oM (Rect.unit (s := S2048x1024) o D.sz inb') (P w) Finset.univ hx hm) fun _ => k) Q) := by
  subst ho hg hr
  rw [D.slot_holds, ← D.msg_succ]
  iintro ⟨Ho, Hl⟩ Hk
  iapply (wp_slot_load (Q := Q) c (D.arr h) (D.rect (f4 s)) (D.one (f4 s)) (D.sq (f4 s))) $$ Hl
  iintro %w %hw Hl
  iapply (wp_o_load (Q := Q) c V (D.into h s c) D.sz (D.iin h s c)) $$ Ho; iintro Ho
  iapply (wp_o_store (Q := Q) c V (D.into h s c) D.sz (D.iin h s c)) $$ Ho; iintro Ho
  iapply Hk
  isplitl [Ho]
  · rw [hP, hw]; unfold upd; iexact Ho
  iexact Hl

/-- A whole step: both halves forwarded, both waits of both, both arrivals written. -/
theorem wp_step {α : Type} {Q : α → sProp 𝕄} (s : Fin 3) (l : List (Fin 4 × Fin 3)) (hl : ∀ p ∈ l, rank (D.ph, s) < rank p) (k' : ℕ) (hk' : rank (D.ph, s) + 1 = k') (V : OV F)
    {oA oB : Fin 2 → ℕ} (hoA : oA = D.into false s c) (hoB : oB = D.into true s c)
    {jA jA' : ∀ a, oA a + D.sz a ≤ S2048x1024.size a} {jB jB' : ∀ a, oB a + D.sz a ≤ S2048x1024.size a}
    {bA dA bB dB : Memref sig .tc .vmem ⟨2, D.sz⟩ .bf16} (hbA : bA = D.slot (prev s) false) (hbB : bB = D.slot (prev s) true) (hdA : dA = D.slot (f4 s) false) (hdB : dB = D.slot (f4 s) true)
    {gA gB : Memref sig .tc .vmem D.S .bf16} (hgA : gA = D.arr false) (hgB : gB = D.arr true) {rA rB : Rect D.S} (hrA : rA = D.rect (f4 s)) (hrB : rB = D.rect (f4 s))
    {PA : Vec F rA.shape .bf16 → Vec F ⟨2, D.sz⟩ .f32} {PB : Vec F rB.shape .bf16 → Vec F ⟨2, D.sz⟩ .f32}
    (hPA : ∀ w, PA w = D.ex (fun j => w (Shape.reshapeEquiv (hrA ▸ D.sq (f4 s) : rA.shape.Squeezes ⟨2, D.sz⟩).numel_eq j)))
    (hPB : ∀ w, PB w = D.ex (fun j => w (Shape.reshapeEquiv (hrB ▸ D.sq (f4 s) : rB.shape.Squeezes ⟨2, D.sz⟩).numel_eq j)))
    {nA nB : Dev nD} (hnA : nA = dst D.ph false c) (hnB : nB = dst D.ph true c)
    {sA sB qA qB : DmaSem sig} (hsA : sA = sndS false) (hsB : sB = sndS true) (hqA : qA = rcvS (D.ph, s, false)) (hqB : qB = rcvS (D.ph, s, true))
    {l6 l7 x3 m3 l9 l10 x4 m4 w5 w6 w7 w8 w9 w10 w11 w12}
    {hscA : (dA : Memref sig (Dev.tc nA : Thread nD τ).2.kind .vmem ⟨2, D.sz⟩ .bf16).view.ref.isScScratch = false}
    {hscB : (dB : Memref sig (Dev.tc nB : Thread nD τ).2.kind .vmem ⟨2, D.sz⟩ .bf16).view.ref.isScScratch = false}
    {w1 : bA.view.WordExact} {w2 : dA.view.WordExact} {w3 : bB.view.WordExact} {w4 : dB.view.WordExact}
    {t1 : DmaTarget.Typed .vmem (.dma qA) (.remote (Dev.tc nA : Thread nD τ) (dA : Memref sig (Dev.tc nA : Thread nD τ).2.kind .vmem ⟨2, D.sz⟩ .bf16) (.dma sA) hscA)}
    {t2 : DmaTarget.Typed .vmem (.dma qB) (.remote (Dev.tc nB : Thread nD τ) (dB : Memref sig (Dev.tc nB : Thread nD τ).2.kind .vmem ⟨2, D.sz⟩ .bf16) (.dma sB) hscB)}
    {k : Prog (TpuEff nD τ sig (Elt F) Λ₀ .tc) α} :
    iprop(records x K ∗ levAts L lv ∗ oPts c V ∗ holds c (D.slot (prev s) false) (D.msg false s.val c) ∗ holds c (D.slot (prev s) true) (D.msg true s.val c)
        ∗ pk c (D.ph, s, false) ∗ pk c (D.ph, s, true) ∗ at2 c (rank (D.ph, s)) ∗ ow c (owesL ((D.ph, s) :: l) c))
      ⊢ iprop(((oPts c (D.upd s true c (D.upd s false c V))
            ∗ holds c (D.slot (f4 s) false) (D.msg false (s.val + 1) c) ∗ holds c (D.slot (f4 s) true) (D.msg true (s.val + 1) c)
            ∗ (semVal (rcvCell (D.ph, s, false) c) 0 ∗ semVal (rcvCell (D.ph, s, true) c) 0 ∗ sAny (D.ph, s, false) c ∗ sAny (D.ph, s, true) c)
            ∗ at2 c k' ∗ ow c (owesL l c)) -∗ wp frame (wpE (defs₀ (F := F)) 𝒱₀ (c : Thread nD τ) none) Set.univ k Q)
        -∗ wp frame (wpE (defs₀ (F := F)) 𝒱₀ (c : Thread nD τ) none) Set.univ
          (.op (.enqueueDma bA (.remote (Dev.tc nA : Thread nD τ) dA (.dma sA) hscA) (.dma qA) w1 w2 t1) fun _ =>
            .op (.enqueueDma bB (.remote (Dev.tc nB : Thread nD τ) dB (.dma sB) hscB) (.dma qB) w3 w4 t2) fun _ =>
            .op (.waitDma2 sA dA bA w5 w6) fun _ => .op (.waitDma2 qA bA dA w7 w8) fun _ =>
            .op (.waitDma2 sB dB bB w9 w10) fun _ => .op (.waitDma2 qB bB dB w11 w12) fun _ =>
            .op (.load gA rA.toLoadRect l6) fun w =>
            .op (.load oM (Rect.unit (s := S2048x1024) oA D.sz jA).toLoadRect l7) fun _ =>
            .op (.store oM (Rect.unit (s := S2048x1024) oA D.sz jA') (PA w) Finset.univ x3 m3) fun _ =>
            .op (.load gB rB.toLoadRect l9) fun w =>
            .op (.load oM (Rect.unit (s := S2048x1024) oB D.sz jB).toLoadRect l10) fun _ =>
            .op (.store oM (Rect.unit (s := S2048x1024) oB D.sz jB') (PB w) Finset.univ x4 m4) fun _ => k) Q) := by
  subst hk'
  have cA : bA.view.dmaCredit = NN D.ph := by rw [hbA]; exact D.cr_slot false (prev s)
  have cB : bB.view.dmaCredit = NN D.ph := by rw [hbB]; exact D.cr_slot true (prev s)
  have cA' : dA.view.dmaCredit = NN D.ph := by rw [hdA]; exact D.cr_slot false (f4 s)
  have cB' : dB.view.dmaCredit = NN D.ph := by rw [hdB]; exact D.cr_slot true (f4 s)
  unfold pk at2
  dsimp only
  rw [show owesL ((D.ph, s) :: l) c = owesL l c + tl (D.ph, s) true c + tl (D.ph, s) false c from rfl]
  iintro ⟨#HR, #Hlev, Ho, HsA, HsB, ⟨HtA, HtA', HdA, HcA, HrA⟩, ⟨HtB, HtB', HdB, HcB, HrB⟩, ⟨HatA, HatB⟩, HO⟩ Hk
  unfold at1
  icases HatA with ⟨HatA, #HreA⟩
  icases HatB with ⟨HatB, #HreB⟩
  iapply (D.wp_send (Q := Q) K c s false (owesL l c + tl (D.ph, s) true c) hbA hdA hnA hsA hqA) $$ [HsA HdA HO HtA HtA']
  · isplitr; · iexact HR
    isplitl [HsA]; · iexact HsA
    isplitl [HdA]; · iexact HdA
    isplitl [HO]; · iexact HO
    isplitl [HtA]; · iexact HtA
    isplitr; · iexact HreA
    iexact HtA'
  iintro ⟨HkA, HO⟩
  iapply (D.wp_send (Q := Q) K c s true (owesL l c) hbB hdB hnB hsB hqB) $$ [HsB HdB HO HtB HtB']
  · isplitr; · iexact HR
    isplitl [HsB]; · iexact HsB
    isplitl [HdB]; · iexact HdB
    isplitl [HO]; · iexact HO
    isplitl [HtB]; · iexact HtB
    isplitr; · iexact HreB
    iexact HtB'
  iintro ⟨HkB, HO⟩
  iapply (wp_waits (Q := Q) x K c (D.ph, s, false) dA bA bA dA cA cA' sA qA hsA hqA l hl) $$ [HkA HO HatA HcA HrA]
  · isplitr; · iexact HR
    isplitr; · iexact Hlev
    isplitl [HkA]; · iexact HkA
    isplitl [HO]; · iexact HO
    isplitl [HatA]; · iexact HatA
    isplitl [HcA] <;> iassumption
  iintro ⟨HO, HatA, HsA, HzA, HlA⟩
  iapply (wp_waits (Q := Q) x K c (D.ph, s, true) dB bB bB dB cB cB' sB qB hsB hqB l hl) $$ [HkB HO HatB HcB HrB]
  · isplitr; · iexact HR
    isplitr; · iexact Hlev
    isplitl [HkB]; · iexact HkB
    isplitl [HO]; · iexact HO
    isplitl [HatB]; · iexact HatB
    isplitl [HcB] <;> iassumption
  iintro ⟨HO, HatB, HsB, HzB, HlB⟩
  iapply (D.wp_put (Q := Q) c s false V hoA hgA hrA hPA) $$ [Ho HlA]
  · isplitl [Ho] <;> iassumption
  iintro ⟨Ho, HlA⟩
  iapply (D.wp_put (Q := Q) c s true _ hoB hgB hrB hPB) $$ [Ho HlB]
  · isplitl [Ho] <;> iassumption
  iintro ⟨Ho, HlB⟩
  iapply Hk
  unfold at1
  isplitl [Ho]; · iexact Ho
  isplitl [HlA]; · iexact HlA
  isplitl [HlB]; · iexact HlB
  isplitl [HzA HzB HsA HsB]
  · isplitl [HzA]; · iexact HzA
    isplitl [HzB]; · iexact HzB
    isplitl [HsA] <;> iassumption
  isplitl [HatA HatB]
  · isplitl [HatA] <;> iassumption
  iexact HO

end GatPhase

end Cert.KernelIdealProof

end
-- ==== Proof.KernelIdeal.Phases.lean ====
/-
# The four phases

The two reduce-scatters and the two all-gathers of this kernel, as records of what they are made of; the step from one
of them to the next; the whole set of slots a device starts and ends with.
-/
module

public import proofs.«01_k».proof.Proof.KernelIdeal.Steps

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.VecWindow

variable {F : FTy → Type} [FloatOps F] [Named F]

local notation "𝕄" => MT nD τ sig Unit (Elt F) ℕ UU ℕ

variable (x : Dev nD → OV F)

/-- Phase 0: quarters go round the plane. -/
def D0 : RedPhase x where
  ph := 0
  sz := S512x512.size
  S := S3x512x512
  buf := s1
  arr := p1
  rect := r3Q
  one := fun _ _ => rfl
  sq := fun _ => squeezes_S1x512x512_S512x512
  out h s c := off h (if h then pin c + f4 s else pin c - f4 s) 0
  into h s c := off h (ac0 s h c) 0
  oin h s c := inbQ h _
  iin h s c := inbQ h _
  tr := trQ
  ad := adQ
  O := O0 x
  src_any _ _ _ := rfl
  slot_any _ _ _ := rfl
  slot_holds _ _ _ := rfl
  cr_buf := cr_s1
  cr_slot := cr_l0

/-- Phase 1: chunks of the quarter left go round the planes. -/
def D1 : RedPhase x where
  ph := 1
  sz := S128x512.size
  S := S3x128x512
  buf := s2
  arr := p2
  rect := r3C
  one := fun _ _ => rfl
  sq := fun _ => squeezes_S1x128x512_S128x512
  out h s c := off h (qt h c) (if h then zi c + f4 s else zi c - f4 s)
  into h s c := off h (qt h c) (ac1 s h c)
  oin h s c := inbC h _ _
  iin h s c := inbC h _ _
  tr := trC
  ad := adC
  O := O1 x
  src_any _ _ _ := rfl
  slot_any _ _ _ := rfl
  slot_holds _ _ _ := rfl
  cr_buf := cr_s2
  cr_slot := cr_l1

/-- Phase 2: the finished chunks go round the planes. -/
def D2 : GatPhase x where
  ph := 2
  sz := S128x512.size
  S := S4x128x512
  arr := g2
  rect := r4C
  one := fun _ _ => rfl
  sq := fun _ => squeezes_S1x128x512_S128x512
  into h t c := off h (qt h c) (if h then zi c + f4 t else zi c - f4 t)
  iin h t c := inbC h _ _
  ex := exC
  msg h t c := M2 x t h c
  src_any _ _ _ := rfl
  slot_any _ _ _ := rfl
  slot_holds _ _ _ := rfl
  msg_succ _ _ _ := rfl
  cr_slot := cr_l2

/-- Phase 3: the finished quarters go round the plane. -/
def D3 : GatPhase x where
  ph := 3
  sz := S512x512.size
  S := S4x512x512
  arr := g1
  rect := r4Q
  one := fun _ _ => rfl
  sq := fun _ => squeezes_S1x512x512_S512x512
  into h t c := off h (if h then pin c + f4 t else pin c - f4 t) 0
  iin h t c := inbQ h _
  ex := exQ
  msg h t c := M3 x t h c
  src_any _ _ _ := rfl
  slot_any _ _ _ := rfl
  slot_holds _ _ _ := rfl
  msg_succ _ _ _ := rfl
  cr_slot := cr_l3

/-! ## From step to step -/

theorem f3_val (s : Fin 3) : f3 s.val = s := by revert s; decide
theorem next0 (s : Fin 3) (c : Dev nD) : (D0 x).upd s true c ((D0 x).upd s false c (O0 x s.val c)) = O0 x (s.val + 1) c := by
  show _ = st0 (f3 s.val) (O0 x s.val) c
  rw [f3_val]; rfl
theorem next1 (s : Fin 3) (c : Dev nD) : (D1 x).upd s true c ((D1 x).upd s false c (O1 x s.val c)) = O1 x (s.val + 1) c := by
  show _ = st1 (f3 s.val) (O1 x s.val) c
  rw [f3_val]; rfl
theorem next2 (s : Fin 3) (c : Dev nD) : (D2 x).upd s true c ((D2 x).upd s false c (O2 x s.val c)) = O2 x (s.val + 1) c := by
  show _ = st2 (O1 x 3) (f3 s.val) (O2 x s.val) c
  rw [f3_val]; rfl
theorem next3 (s : Fin 3) (c : Dev nD) : (D3 x).upd s true c ((D3 x).upd s false c (O3 x s.val c)) = O3 x (s.val + 1) c := by
  show _ = st3 (O2 x 3) (f3 s.val) (O3 x s.val) c
  rw [f3_val]; rfl

/-! ## The device's own piece, before a gather -/

variable (c : Dev nD)

/-- The region read, rounded into a slot. -/
theorem wp_own {α : Type} {Q : α → sProp 𝕄} {sh S : Shape} (V : OV F) {o o' sz : Fin 2 → ℕ} (ho : o = o') {inb : ∀ a, o a + sz a ≤ S2048x1024.size a} (inb' : ∀ a, o' a + sz a ≤ S2048x1024.size a)
    (g : Memref sig .tc .vmem S .bf16) (r : Rect S) (hr : ∀ a, r.stride a = 1) (hsq : r.shape.Squeezes sh) (Y : sh.Idx → Elt F .bf16)
    {P : ((⟨2, sz⟩ : Shape).Idx → Elt F .f32) → (r.shape.Idx → Elt F .bf16)}
    (hP : (fun j => P (window V o' sz inb') (Shape.reshapeEquiv hsq.numel_eq j)) = Y)
    {hl hl' hx hm} {k : Prog (TpuEff nD τ sig (Elt F) Λ₀ .tc) α} :
    iprop(oPts c V ∗ anyAt c ((g.slice r hr).squeeze sh hsq))
      ⊢ iprop(((oPts c V ∗ holds c ((g.slice r hr).squeeze sh hsq) Y) -∗ wp frame (wpE (defs₀ (F := F)) 𝒱₀ (c : Thread nD τ) none) Set.univ k Q)
        -∗ wp frame (wpE (defs₀ (F := F)) 𝒱₀ (c : Thread nD τ) none) Set.univ
          (.op (.load oM (Rect.unit (s := S2048x1024) o sz inb).toLoadRect hl) fun v =>
            .op (.load g r.toLoadRect hl') fun _ =>
            .op (.store g r (P v) Finset.univ hx hm) fun _ => k) Q) := by
  subst ho
  iintro ⟨Ho, Hg⟩ Hk
  iapply (wp_o_load (Q := Q) c V o sz inb) $$ Ho; iintro Ho
  iapply (wp_slot_dead (Q := Q) c g r hr hsq) $$ Hg; iintro %_ Hg
  iapply (wp_slot_fill (Q := Q) c g r hr hsq) $$ Hg; iintro Hg
  rw [hP]
  iapply Hk
  isplitl [Ho] <;> iassumption

theorem ownC_unfold {P : C32 F → Vec F S1x128x512 .bf16} (hP : ∀ v, P v = shapeCast S1x128x512 (trC v) shapeCasts_S128x512_S1x128x512) (v : C32 F) :
    (fun j => P v (Shape.reshapeEquiv squeezes_S1x128x512_S128x512.numel_eq j)) = trC v := by
  rw [hP]
  exact (shapeCast_shapeCast (t := S1x128x512) (s := S128x512) (trC v) shapeCasts_S128x512_S1x128x512 shapeCasts_S1x128x512_S128x512)
theorem ownQ_unfold {P : Q32 F → Vec F S1x512x512 .bf16} (hP : ∀ v, P v = shapeCast S1x512x512 (trQ v) shapeCasts_S512x512_S1x512x512) (v : Q32 F) :
    (fun j => P v (Shape.reshapeEquiv squeezes_S1x512x512_S512x512.numel_eq j)) = trQ v := by
  rw [hP]
  exact (shapeCast_shapeCast (t := S1x512x512) (s := S512x512) (trQ v) shapeCasts_S512x512_S1x512x512 shapeCasts_S1x512x512_S512x512)

end Cert.KernelIdealProof

end
-- ==== Proof.KernelIdeal.Hands.lean ====
/-
# What changes hands

What device `c` starts the body with and ends it with; which of its slots each signal hands to which neighbour, and that
the four signals it waits for bring it every slot its own copies land in.
-/
module

public import proofs.«01_k».proof.Proof.KernelIdeal.Phases

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.VecWindow

variable {F : FTy → Type} [FloatOps F] [Named F]

local notation "𝕄" => MT nD τ sig Unit (Elt F) ℕ UU ℕ

variable (c : Dev nD)

/-- Copy `q` before the barrier: its duties and the wait, the slot still to come. -/
def pk0 (q : RX) : sProp 𝕄 :=
  iprop(dutyTok ER (sndCell q.2.2 c) (rank (q.1, q.2.1)) 0 ∗ dutyTok ER (rcvCell q (dst q.1 q.2.2 c)) 0 0
    ∗ cred (tallyAt (rcvCell q c) () (NN q.1)) ∗ atPos ER (rcvCell q c) 0 ∅ 0)

/-- A device's buffers as the body uses them: every landing slot, the send buffers, the gather buffers' last slots. -/
def slots : sProp 𝕄 :=
  iprop((bigSep Finset.univ fun q : RX => lAny q c) ∗ (anyAt c (s1 false) ∗ anyAt c (s1 true) ∗ anyAt c (s2 false) ∗ anyAt c (s2 true))
    ∗ anyAt c (l2 false 3) ∗ anyAt c (l2 true 3) ∗ anyAt c (l3 false 3) ∗ anyAt c (l3 true 3))
/-- Its semaphores, closed. -/
def sems : sProp 𝕄 :=
  iprop((bigSep Finset.univ fun q : RX => semVal (rcvCell q c) 0) ∗ semVal (sndCell false c) 0 ∗ semVal (sndCell true c) 0 ∗ semVal (barCell c) 0)

/-- A gather step's source slot, free again: for the first step the device's own piece's, then the landing slot of the step before, -/
theorem back2_own (h : Bool) : sAny (F := F) (2, 0, h) c ⊢ anyAt c (l2 h 3) := Entails.of_eq rfl
theorem back2_one (h : Bool) : sAny (F := F) (2, 1, h) c ⊢ lAny (2, 0, h) c := Entails.of_eq rfl
theorem back2_two (h : Bool) : sAny (F := F) (2, 2, h) c ⊢ lAny (2, 1, h) c := Entails.of_eq rfl
theorem back3_own (h : Bool) : sAny (F := F) (3, 0, h) c ⊢ anyAt c (l3 h 3) := Entails.of_eq rfl
theorem back3_one (h : Bool) : sAny (F := F) (3, 1, h) c ⊢ lAny (3, 0, h) c := Entails.of_eq rfl
theorem back3_two (h : Bool) : sAny (F := F) (3, 2, h) c ⊢ lAny (3, 1, h) c := Entails.of_eq rfl
/-- and the slot of the last arrival. -/
theorem last2 (h : Bool) (X : Vec F S128x512 .bf16) : holds c (l2 h 2) X ⊢ lAny (2, 2, h) c := (holds_any c _ _).trans (Entails.of_eq rfl)
theorem last3 (h : Bool) (X : Vec F S512x512 .bf16) : holds c (l3 h 2) X ⊢ lAny (3, 2, h) c := (holds_any c _ _).trans (Entails.of_eq rfl)

/-- The copies, in program order. -/
abbrev copies : List RX := [(0, 0, false), (0, 0, true), (0, 1, false), (0, 1, true), (0, 2, false), (0, 2, true),
  (1, 0, false), (1, 0, true), (1, 1, false), (1, 1, true), (1, 2, false), (1, 2, true),
  (2, 0, false), (2, 0, true), (2, 1, false), (2, 1, true), (2, 2, false), (2, 2, true),
  (3, 0, false), (3, 0, true), (3, 1, false), (3, 1, true), (3, 2, false), (3, 2, true)]
theorem by_copies (Φ : RX → sProp 𝕄) : bigSep Finset.univ Φ
    = iprop(Φ (0, 0, false) ∗ Φ (0, 0, true) ∗ Φ (0, 1, false) ∗ Φ (0, 1, true) ∗ Φ (0, 2, false) ∗ Φ (0, 2, true)
      ∗ Φ (1, 0, false) ∗ Φ (1, 0, true) ∗ Φ (1, 1, false) ∗ Φ (1, 1, true) ∗ Φ (1, 2, false) ∗ Φ (1, 2, true)
      ∗ Φ (2, 0, false) ∗ Φ (2, 0, true) ∗ Φ (2, 1, false) ∗ Φ (2, 1, true) ∗ Φ (2, 2, false) ∗ Φ (2, 2, true)
      ∗ Φ (3, 0, false) ∗ Φ (3, 0, true) ∗ Φ (3, 1, false) ∗ Φ (3, 1, true) ∗ Φ (3, 2, false) ∗ Φ (3, 2, true)) :=
  (bigSep_univ_eq_bigSepL copies (by decide) (by decide) Φ).trans rfl

theorem by_dir (Φ : RX → sProp 𝕄) : bigSep Finset.univ Φ = bigSep Finset.univ fun e : Fin 4 => bigSep (Finset.univ.filter fun q : RX => dir q.1 q.2.2 = e) Φ := by
  rw [bigSep_fiberwise Finset.univ (fun q : RX => dir q.1 q.2.2) Φ, show Finset.univ.image (fun q : RX => dir q.1 q.2.2) = Finset.univ from by decide]

/-- With its signal to the neighbour in direction `d` a device hands over the slots that neighbour's copies land in. -/
theorem give_one (d : Fin 4) : bigSep (Finset.univ.filter fun q : RX => dir q.1 q.2.2 = opp d) (fun q => door (F := F) q c) = barPay (opp d) (nbr d c) := by
  unfold barPay; rw [opp_nbr]
theorem give : bigSep Finset.univ (fun q : RX => door (F := F) q c)
    = iprop(barPay (opp 0) (nbr 0 c) ∗ barPay (opp 1) (nbr 1 c) ∗ barPay (opp 2) (nbr 2 c) ∗ barPay (opp 3) (nbr 3 c)) := by
  rw [by_dir, bigSep_univ_eq_bigSepL [opp 0, opp 1, opp 2, opp 3] (by decide) (by decide)]
  simp only [bigSepL_cons_cons, bigSepL_singleton, give_one]
  rfl

/-- The neighbours' signals bring every slot the device's copies land in. -/
theorem take : bigSep Finset.univ (fun d : Fin 4 => barPay (F := F) d c) = bigSep Finset.univ fun q : RX => door q (dst q.1 q.2.2 c) := by
  rw [by_dir fun q : RX => door q (dst q.1 q.2.2 c)]
  refine bigSep_congr fun d _ => ?_
  unfold barPay
  exact bigSep_congr fun q hq => by rw [(Finset.mem_filter.mp hq).2.symm]
theorem pk_one (q : RX) : iprop(pk0 (F := F) c q ∗ door q (dst q.1 q.2.2 c)) ⊢ pk (F := F) c q := by
  unfold pk0 pk
  iintro ⟨⟨H1, H2, H3, H4⟩, H5⟩
  isplitl [H1]; · iexact H1
  isplitl [H2]; · iexact H2
  isplitl [H5]; · iexact H5
  isplitl [H3] <;> iassumption
theorem pk_all : iprop(bigSep Finset.univ (pk0 (F := F) c) ∗ bigSep Finset.univ (fun d : Fin 4 => barPay (F := F) d c)) ⊢ bigSep Finset.univ (pk (F := F) c) := by
  rw [take, ← bigSep_sep']
  exact bigSep_mono fun q _ => pk_one c q

/-! ## Two shapes of rule -/

theorem curry2 {P₁ P₂ R : sProp 𝕄} (h : iprop(P₁ ∗ P₂) ⊢ R) : P₁ ⊢ iprop(P₂ -∗ R) := by
  iintro H1 H2
  iapply h
  isplitl [H1] <;> iassumption
theorem curry4 {P₁ P₂ P₃ P₄ R : sProp 𝕄} (h : iprop(P₁ ∗ P₂ ∗ P₃ ∗ P₄) ⊢ R) : P₁ ⊢ iprop(P₂ -∗ P₃ -∗ P₄ -∗ R) := by
  iintro H1 H2 H3 H4
  iapply h
  iframe ∗
/-! ## The barrier -/

variable (x : Dev nD → OV F) (K : Dev nD × Fin 27 → ℕ)

theorem inv_bar (d : Dev nD) : records x K ⊢ (cellInv ER (Rd x) (K (d, 0)) (barCell d) : sProp 𝕄) := inv_at x K (d, 0)

theorem curry9 {P₁ P₂ P₃ P₄ P₅ P₆ P₇ P₈ P₉ R : sProp 𝕄} (h : iprop(P₁ ∗ P₂ ∗ P₃ ∗ P₄ ∗ P₅ ∗ P₆ ∗ P₇ ∗ P₈ ∗ P₉) ⊢ R) :
    P₁ ⊢ iprop(P₂ -∗ P₃ -∗ P₄ -∗ P₅ -∗ P₆ -∗ P₇ -∗ P₈ -∗ P₉ -∗ R) := by
  iintro H1 H2 H3 H4 H5 H6 H7 H8 H9
  iapply h
  iframe ∗

/-- A reduce-scatter step, its resources one by one. -/
theorem red (ph : Fin 4) (s : Fin 3) (V V' : OV F) (SA SB : sProp 𝕄) (l l' : List (Fin 4 × Fin 3)) (k k' : ℕ) {W W' : sProp 𝕄}
    (h : iprop(records x K ∗ levAts L lv ∗ oPts c V ∗ SA ∗ SB ∗ pk c (ph, s, false) ∗ pk c (ph, s, true) ∗ at2 c k ∗ ow c (owesL l c))
      ⊢ iprop(((oPts c V' ∗ SA ∗ SB ∗ (semVal (rcvCell (ph, s, false) c) 0 ∗ semVal (rcvCell (ph, s, true) c) 0 ∗ lAny (ph, s, false) c ∗ lAny (ph, s, true) c)
        ∗ at2 c k' ∗ ow c (owesL l' c)) -∗ W) -∗ W')) :
    records x K ⊢ iprop(levAts L lv -∗ oPts c V -∗ SA -∗ SB -∗ pk c (ph, s, false) -∗ pk c (ph, s, true) -∗ at2 c k -∗ ow c (owesL l c)
      -∗ ((oPts c V' ∗ SA ∗ SB ∗ (semVal (rcvCell (ph, s, false) c) 0 ∗ semVal (rcvCell (ph, s, true) c) 0 ∗ lAny (ph, s, false) c ∗ lAny (ph, s, true) c)
        ∗ at2 c k' ∗ ow c (owesL l' c)) -∗ W) -∗ W') := curry9 h

/-- An all-gather step, its resources one by one. -/
theorem gat (ph : Fin 4) (s : Fin 3) (V V' : OV F) (SA SB SA' SB' : sProp 𝕄) (l l' : List (Fin 4 × Fin 3)) (k k' : ℕ) {W W' : sProp 𝕄}
    (h : iprop(records x K ∗ levAts L lv ∗ oPts c V ∗ SA ∗ SB ∗ pk c (ph, s, false) ∗ pk c (ph, s, true) ∗ at2 c k ∗ ow c (owesL l c))
      ⊢ iprop(((oPts c V' ∗ SA' ∗ SB' ∗ (semVal (rcvCell (ph, s, false) c) 0 ∗ semVal (rcvCell (ph, s, true) c) 0 ∗ sAny (ph, s, false) c ∗ sAny (ph, s, true) c)
        ∗ at2 c k' ∗ ow c (owesL l' c)) -∗ W) -∗ W')) :
    records x K ⊢ iprop(levAts L lv -∗ oPts c V -∗ SA -∗ SB -∗ pk c (ph, s, false) -∗ pk c (ph, s, true) -∗ at2 c k -∗ ow c (owesL l c)
      -∗ ((oPts c V' ∗ SA' ∗ SB' ∗ (semVal (rcvCell (ph, s, false) c) 0 ∗ semVal (rcvCell (ph, s, true) c) 0 ∗ sAny (ph, s, false) c ∗ sAny (ph, s, true) c)
        ∗ at2 c k' ∗ ow c (owesL l' c)) -∗ W) -∗ W') := curry9 h

/-- The signal to the neighbour in direction `d`. -/
theorem wp_sig {α : Type} {Q : α → sProp 𝕄} (d : Fin 4) {n : Dev nD} (hn : n = nbr d c) {sem : Sem sig} (hs : sem = barS) {u : ℕ} (hu : 1 = u) (O : CellTallies nD τ sig Unit)
    {k : PUnit → Prog (TpuEff nD τ sig (Elt F) Λ₀ .tc) α} :
    iprop(records x K ∗ ow c (O + bt d c) ∗ dutyTok ER (barCell (nbr d c)) 0 (opp d) ∗ barPay (opp d) (nbr d c))
      ⊢ iprop((ow c O -∗ wp frame (wpE (defs₀ (F := F)) 𝒱₀ (c : Thread nD τ) none) Set.univ (k ⟨⟩) Q)
        -∗ wp frame (wpE (defs₀ (F := F)) 𝒱₀ (c : Thread nD τ) none) Set.univ (.op (.semSignal (n, Proc.tc) sem u) k) Q) := by
  subst hn hs hu
  unfold ow bt
  iintro ⟨#HR, ⟨%W, HO⟩, Ht, Hp⟩ Hk
  iapply (Rounds.wp_signal 𝒱₀ ER (Rd x) (c : Thread nD τ) none (dst := (nbr d c : Thread nD τ)) (κ := K (nbr d c, 0))
      (d := opp d) (by rw [duties_bar]; exact Finset.mem_univ _) (amount_bar x (nbr d c) (opp d)) () O rfl) $$ [HO Ht Hp]
  · isplitr; · iapply (inv_bar x K (nbr d c)); iexact HR
    isplitl [HO]; · iexact HO
    isplitl [Ht]; · iexact Ht
    isplitl [Hp]; · rw [payload_bar]; iexact Hp
    iapply (reached_bar x K (nbr d c)); iexact HR
  iintro HO
  iapply Hk
  iexists W; iexact HO

/-- The wait for the four neighbours' signals: their slots come with it, and the barrier semaphore is done with. -/
theorem wp_bar {α : Type} {Q : α → sProp 𝕄} {sem : Sem sig} (hs : sem = barS) {u : ℕ} (hu : 4 = u) (l : List (Fin 4 × Fin 3))
    {k : PUnit → Prog (TpuEff nD τ sig (Elt F) Λ₀ .tc) α} :
    iprop(records x K ∗ levAts L lv ∗ (cred (tallyAt (barCell c) () 4) ∗ atPos ER (barCell c) 0 ∅ 0) ∗ ow c (owesL l c))
      ⊢ iprop(((ow c (owesL l c) ∗ semVal (barCell c) 0 ∗ bigSep Finset.univ fun d : Fin 4 => barPay d c) -∗ wp frame (wpE (defs₀ (F := F)) 𝒱₀ (c : Thread nD τ) none) Set.univ (k ⟨⟩) Q)
        -∗ wp frame (wpE (defs₀ (F := F)) 𝒱₀ (c : Thread nD τ) none) Set.univ (.op (.semWait sem u) k) Q) := by
  subst hs hu
  unfold ow
  iintro ⟨#HR, #Hlev, ⟨Hc, Hat⟩, ⟨%W, HO⟩⟩ Hk
  iapply (Rounds.wp_wait_rest_token 𝒱₀ ER (Rd x) (c : Thread nD τ) none (κ := K (c, 0))
    (wpE_semWait_eq 𝒱₀ (c : Thread nD τ) none Set.univ) (Set.mem_univ _) () (O := owesL l c) (W := W) (R := 0) (m := 0) (T := ∅)
    (by rw [expect_bar])) $$ [Hc HO Hat]
  · isplitr; · iapply (inv_bar x K c); iexact HR
    isplitl [Hc]; · iexact Hc
    isplitl [HO]; · iexact HO
    isplitr
    · iapply (mayWait_of (F := F) c (.reg barS) 1 (le_refl 1) l (fun p _ => by omega)); iexact Hlev
    iexact Hat
  iintro ⟨HO, Hat, -, Hp⟩
  ihave Hp := (Entails.of_eq (rest_bar x c)) $$ Hp
  imod (Rounds.cell_close ER (Rd x) (Set.mem_univ (K (c, 0))) (fun h => h) (R := 0 + 1) (later_bar x c)) $$ [Hat] with Hz
  · isplitr; · iapply (inv_bar x K c); iexact HR
    iexact Hat
  iapply Hk
  isplitl [HO]; · iexists _; iexact HO
  isplitl [Hz]; · iexact Hz
  iexact Hp

/-- A send semaphore after its last round. -/
theorem close_snd (h : Bool) : iprop(records x K ∗ at1 (F := F) c h 12) ⊢ iprop(|={Set.univ}=> semVal (sndCell h c) 0) := by
  unfold at1
  iintro ⟨#HR, Hat, -⟩
  iapply (Rounds.cell_close ER (Rd x) (Set.mem_univ (K (c, ki (sndS h)))) (fun h => h) (R := 12) (later_snd x c h))
  isplitr; · iapply (inv_dma x K (sndS h) (sndS_ge h) c); iexact HR
  iexact Hat

end Cert.KernelIdealProof

end
-- ==== Proof.KernelIdeal.Body.lean ====
/-
# The body

One run of the body on device `c`: the four signals and the barrier, twelve steps of copies, the pieces the gathers start
from, and what is left at the end.
-/
module

public import proofs.«01_k».proof.Proof.KernelIdeal.Hands

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.VecWindow

variable {F : FTy → Type} [FloatOps F] [Named F]

local notation "𝕄" => MT nD τ sig Unit (Elt F) ℕ UU ℕ

variable (x : Dev nD → OV F) (K : Dev nD × Fin 27 → ℕ) (c : Dev nD)

theorem hz : (![0, 0] : Fin 2 → ℕ) = fun _ => 0 := funext fun a => by fin_cases a <;> rfl

/-- The device's block of the operand. -/
def xPts : sProp 𝕄 := ((c : Thread nD τ).loc cc1_stg0_0) ↦{fullShare} (x c)

theorem wp_x_load {α : Type} {Q : α → sProp 𝕄} {inb : ∀ a, (![0, 0] : Fin 2 → ℕ) a + S2048x1024.size a ≤ S2048x1024.size a} {hl}
    {k : ((Rect.unit (s := S2048x1024) ![0, 0] S2048x1024.size inb).toLoadRect.shape.Idx → Elt F .f32) → Prog (TpuEff nD τ sig (Elt F) Λ₀ .tc) α} :
    xPts x c ⊢ iprop((xPts x c -∗ wp frame (wpE (defs₀ (F := F)) 𝒱₀ (c : Thread nD τ) none) Set.univ (k (x c)) Q)
      -∗ wp frame (wpE (defs₀ (F := F)) 𝒱₀ (c : Thread nD τ) none) Set.univ (.op (.load xM (Rect.unit (s := S2048x1024) ![0, 0] S2048x1024.size inb).toLoadRect hl) k) Q) := by
  unfold xPts
  iintro H Hk
  iapply (wp_load 𝒱₀ (c : Thread nD τ) none Set.univ (m := xM) (S := Finset.univ) (f := x c) (Finset.subset_univ _)) $$ H; iintro H
  rw [show xM.view.readAt (Elt F) (Rect.unit (s := S2048x1024) ![0, 0] S2048x1024.size inb).toLoadRect (x c) = x c from
    Memref.readAt_unit_zero (Elt F) cc1_stg0_0 hz _ (x c)]
  iapply Hk; iexact H

/-- The whole result buffer overwritten. -/
theorem wp_x_store {α : Type} {Q : α → sProp 𝕄} (V w : OV F) {inb : ∀ a, (![0, 0] : Fin 2 → ℕ) a + S2048x1024.size a ≤ S2048x1024.size a} {hx hm}
    {k : PUnit → Prog (TpuEff nD τ sig (Elt F) Λ₀ .tc) α} :
    oPts c V ⊢ iprop((oPts c w -∗ wp frame (wpE (defs₀ (F := F)) 𝒱₀ (c : Thread nD τ) none) Set.univ (k ⟨⟩) Q)
      -∗ wp frame (wpE (defs₀ (F := F)) 𝒱₀ (c : Thread nD τ) none) Set.univ
          (.op (.store oM (Rect.unit (s := S2048x1024) ![0, 0] S2048x1024.size inb) w Finset.univ hx hm) k) Q) := by
  unfold oPts
  iintro H Hk
  iapply (wp_store 𝒱₀ (c : Thread nD τ) none Set.univ (m := oM) (r := Rect.unit (s := S2048x1024) ![0, 0] S2048x1024.size inb) (Mk := Finset.univ) (S := Finset.univ) (f := V)
    (Finset.subset_univ _)) $$ H; iintro H
  rw [show ((oM : Memref sig .tc .vmem S2048x1024 .f32).access (Rect.unit (s := S2048x1024) ![0, 0] S2048x1024.size inb) : View sig .tc _ _ _).write (Elt F) V w Finset.univ = w from
    Memref.write_access_unit_zero_univ (Elt F) cc1_stg1_0 hz _ V w]
  iapply Hk; iexact H

/-- What the body starts with, once the cells' names are fixed, -/
def hand : sProp 𝕄 :=
  iprop(records x K ∗ levAts L lv
    ∗ (dutyTok ER (barCell (nbr 0 c)) 0 (opp 0) ∗ dutyTok ER (barCell (nbr 1 c)) 0 (opp 1) ∗ dutyTok ER (barCell (nbr 2 c)) 0 (opp 2) ∗ dutyTok ER (barCell (nbr 3 c)) 0 (opp 3))
    ∗ (cred (tallyAt (barCell c) () 4) ∗ atPos ER (barCell c) 0 ∅ 0) ∗ at2 c 0 ∗ bigSep Finset.univ (pk0 (F := F) c)
    ∗ bigSep Finset.univ fun q : RX => reached ER (rcvCell q c) 0)

theorem slots_open : iprop(slots (F := F) c ∗ bigSep Finset.univ fun q : RX => reached ER (rcvCell q c) 0) ⊢ iprop((barPay (opp 0) (nbr 0 c) ∗ barPay (opp 1) (nbr 1 c) ∗ barPay (opp 2) (nbr 2 c) ∗ barPay (opp 3) (nbr 3 c))
    ∗ (anyAt c (s1 false) ∗ anyAt c (s1 true) ∗ anyAt c (s2 false) ∗ anyAt c (s2 true))
    ∗ anyAt c (l2 false 3) ∗ anyAt c (l2 true 3) ∗ anyAt c (l3 false 3) ∗ anyAt c (l3 true 3)) := by
  rw [← give]
  unfold slots door
  rw [bigSep_sep']
  iintro ⟨⟨H1, H2, H3⟩, H4⟩
  isplitl [H1 H4]; · isplitl [H1] <;> iassumption
  isplitl [H2] <;> iassumption

set_option maxRecDepth 20000 in
set_option maxHeartbeats 4000000 in
/-- The body, effect by effect. -/
theorem sound_body (V : OV F) (Kt : PUnit → sProp 𝕄) :
    iprop(hand x K c ∗ slots c ∗ ow c (Ostart c) ∗ xPts x c ∗ oPts c V)
      ⊢ iprop(((slots c ∗ sems c ∗ ow c 0 ∗ xPts x c ∗ oPts c (O3 x 3 c)) -∗ Kt ⟨⟩)
        -∗ wp frame (wpE (defs₀ (F := F)) 𝒱₀ c none) Set.univ
        (cc1_body (Memref.whole cc1_stg0_0) (Memref.isWhole_whole _) (Memref.whole cc1_stg1_0) (Memref.isWhole_whole _)
            (Memref.whole cc1_scratch0) (Memref.isWhole_whole _) (Memref.whole cc1_scratch1) (Memref.isWhole_whole _)
            (Memref.whole cc1_scratch2) (Memref.isWhole_whole _) (Memref.whole cc1_scratch3) (Memref.isWhole_whole _)
            (Memref.whole cc1_scratch4) (Memref.isWhole_whole _) (Memref.whole cc1_scratch5) (Memref.isWhole_whole _)
            (Memref.whole cc1_scratch6) (Memref.isWhole_whole _) (Memref.whole cc1_scratch7) (Memref.isWhole_whole _)
            (Memref.whole cc1_scratch8) (Memref.isWhole_whole _) (Memref.whole cc1_scratch9) (Memref.isWhole_whole _)
            (Memref.whole cc1_scratch10) (Memref.isWhole_whole _) (Memref.whole cc1_scratch11) (Memref.isWhole_whole _)
            cc1_scratch12 cc1_scratch13 cc1_scratch14 cc1_scratch15 cc1_scratch16 cc1_scratch17 cc1_scratch18 cc1_scratch19 cc1_scratch20 cc1_scratch21) Kt) := by
  simp only [cc1_body_eq_skeleton]; unfold cc1_body_skel
  simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton, k1_part19_eq_skeleton, k1_part20_eq_skeleton, k1_part21_eq_skeleton, k1_part22_eq_skeleton, k1_part23_eq_skeleton, k1_part24_eq_skeleton, k1_part25_eq_skeleton, k1_part26_eq_skeleton, k1_part27_eq_skeleton, k1_part28_eq_skeleton, k1_part29_eq_skeleton, k1_part30_eq_skeleton, k1_part31_eq_skeleton, k1_part32_eq_skeleton, k1_part33_eq_skeleton]
  unfold k1_part1_skel k1_part2_skel k1_part3_skel k1_part4_skel k1_part5_skel k1_part6_skel k1_part7_skel k1_part8_skel k1_part9_skel k1_part10_skel k1_part11_skel k1_part12_skel k1_part13_skel k1_part14_skel k1_part15_skel k1_part16_skel k1_part17_skel k1_part18_skel k1_part19_skel k1_part20_skel k1_part21_skel k1_part22_skel k1_part23_skel k1_part24_skel k1_part25_skel k1_part26_skel k1_part27_skel k1_part28_skel k1_part29_skel k1_part30_skel k1_part31_skel k1_part32_skel k1_part33_skel
  simp only [semSignalWord, semWaitWord, Prog.lift, Prog.bind_op, Prog.bind_ret, Prog.pure_eq_ret, wp_deviceId]
  unfold hand Ostart
  iintro ⟨⟨#HR, #Hlev, ⟨Ht0, Ht1, Ht2, Ht3⟩, Hbar, Hat, Hpk, Hre⟩, Hsl, HO, Hx, Ho⟩ Hk
  ihave Hsl := (slots_open c) $$ [Hsl Hre]
  · isplitl [Hsl] <;> iassumption
  icases Hsl with ⟨⟨Hg0, Hg1, Hg2, Hg3⟩, ⟨HsA, HsB, HuA, HuB⟩, HmA, HmB, HnA, HnB⟩
  -- the signals
  iapply (curry4 (wp_sig c x K 0 (dev1_eq c) rfl (by decide) _)) $$ HR HO Ht0 Hg0; iintro HO
  iapply (curry4 (wp_sig c x K 1 (dev2_eq c) rfl (by decide) _)) $$ HR HO Ht1 Hg1; iintro HO
  iapply (curry4 (wp_sig c x K 2 (dev3_eq c) rfl (by decide) _)) $$ HR HO Ht2 Hg2; iintro HO
  iapply (curry4 (wp_sig c x K 3 (dev4_eq c) rfl (by decide) _)) $$ HR HO Ht3 Hg3; iintro HO
  iapply (curry4 (wp_bar c x K rfl (by decide) steps)) $$ HR Hlev Hbar HO; iintro ⟨HO, Hzb, Hpay⟩
  ihave Hpk := (pk_all c) $$ [Hpk Hpay]
  · isplitl [Hpk] <;> iassumption
  ihave Hpk := (Entails.of_eq (by_copies (pk c))) $$ Hpk
  icases Hpk with ⟨P00A, P00B, P01A, P01B, P02A, P02B, P10A, P10B, P11A, P11B, P12A, P12B, P20A, P20B, P21A, P21B, P22A, P22B, P30A, P30B, P31A, P31B, P32A, P32B⟩
  -- the operand into the result buffer
  iapply (wp_x_load x c) $$ Hx; iintro Hx
  iapply (wp_o_load c V _ _ _) $$ Ho; iintro Ho
  iapply (wp_x_store c V _) $$ Ho; iintro Ho
  rw [pay1_eq, show x c = O0 x 0 c from rfl]
  -- phase 0
  iapply (red c x K 0 0 (O0 x 0 c) (O0 x 1 c) (anyAt c (s1 false)) (anyAt c (s1 true)) steps (steps.drop 1) 0 1
    ((D0 x).wp_step K c 0 (steps.drop 1) (show ∀ p ∈ steps.drop 1, rank (0, 0) < rank p by decide) 1 rfl (off1_eq c 0) (off2_eq c 0) (off3_eq c 0) (off4_eq c 0) hz hz
      rfl rfl rfl rfl rfl rfl rfl rfl trQ_eq trQ2_eq adQ_eq adQ_eq (dev5_eq c) (dev6_eq c) sem_sndA sem_sndB rfl rfl)) $$ HR Hlev Ho HsA HsB P00A P00B Hat HO
  iintro ⟨Ho, HsA, HsB, ⟨Z00A, Z00B, L00A, L00B⟩, Hat, HO⟩
  iapply (red c x K 0 1 (O0 x 1 c) (O0 x 2 c) (anyAt c (s1 false)) (anyAt c (s1 true)) (steps.drop 1) (steps.drop 2) 1 2
    ((D0 x).wp_step K c 1 (steps.drop 2) (show ∀ p ∈ steps.drop 2, rank (0, 1) < rank p by decide) 2 rfl (off1_eq c 1) (off2_eq c 1) (off3_eq c 1) (off4_eq c 1) hz hz
      rfl rfl rfl rfl rfl rfl rfl rfl trQ_eq trQ_eq adQ_eq adQ_eq (dev7_eq c) (dev8_eq c) sem_sndA sem_sndB rfl rfl)) $$ HR Hlev Ho HsA HsB P01A P01B Hat HO
  iintro ⟨Ho, HsA, HsB, ⟨Z01A, Z01B, L01A, L01B⟩, Hat, HO⟩
  iapply (red c x K 0 2 (O0 x 2 c) (O0 x 3 c) (anyAt c (s1 false)) (anyAt c (s1 true)) (steps.drop 2) (steps.drop 3) 2 3
    ((D0 x).wp_step K c 2 (steps.drop 3) (show ∀ p ∈ steps.drop 3, rank (0, 2) < rank p by decide) 3 rfl (off1_eq c 2) (off2_eq c 2) (off3_eq c 2) (off4_eq c 2) hz hz
      rfl rfl rfl rfl rfl rfl rfl rfl trQ_eq trQ_eq adQ_eq adQ_eq (dev9_eq c) (dev10_eq c) sem_sndA sem_sndB rfl rfl)) $$ HR Hlev Ho HsA HsB P02A P02B Hat HO
  iintro ⟨Ho, HsA, HsB, ⟨Z02A, Z02B, L02A, L02B⟩, Hat, HO⟩
  -- phase 1
  iapply (red c x K 1 0 (O0 x 3 c) (O1 x 1 c) (anyAt c (s2 false)) (anyAt c (s2 true)) (steps.drop 3) (steps.drop 4) 3 4
    ((D1 x).wp_step K c 0 (steps.drop 4) (show ∀ p ∈ steps.drop 4, rank (1, 0) < rank p by decide) 4 rfl (off5_eq c 0) (off6_eq c 0) (off7_eq c 0) (off8_eq c 0) hz hz
      rfl rfl rfl rfl rfl rfl rfl rfl trC_eq trC2_eq adC_eq adC_eq (dev11_eq c) (dev12_eq c) sem_sndA sem_sndB rfl rfl)) $$ HR Hlev Ho HuA HuB P10A P10B Hat HO
  iintro ⟨Ho, HuA, HuB, ⟨Z10A, Z10B, L10A, L10B⟩, Hat, HO⟩
  iapply (red c x K 1 1 (O1 x 1 c) (O1 x 2 c) (anyAt c (s2 false)) (anyAt c (s2 true)) (steps.drop 4) (steps.drop 5) 4 5
    ((D1 x).wp_step K c 1 (steps.drop 5) (show ∀ p ∈ steps.drop 5, rank (1, 1) < rank p by decide) 5 rfl (off5_eq c 1) (off6_eq c 1) (off7_eq c 1) (off8_eq c 1) hz hz
      rfl rfl rfl rfl rfl rfl rfl rfl trC_eq trC_eq adC_eq adC_eq (dev13_eq c) (dev14_eq c) sem_sndA sem_sndB rfl rfl)) $$ HR Hlev Ho HuA HuB P11A P11B Hat HO
  iintro ⟨Ho, HuA, HuB, ⟨Z11A, Z11B, L11A, L11B⟩, Hat, HO⟩
  iapply (red c x K 1 2 (O1 x 2 c) (O1 x 3 c) (anyAt c (s2 false)) (anyAt c (s2 true)) (steps.drop 5) (steps.drop 6) 5 6
    ((D1 x).wp_step K c 2 (steps.drop 6) (show ∀ p ∈ steps.drop 6, rank (1, 2) < rank p by decide) 6 rfl (off5_eq c 2) (off6_eq c 2) (off7_eq c 2) (off8_eq c 2) hz hz
      rfl rfl rfl rfl rfl rfl rfl rfl trC_eq trC_eq adC_eq adC_eq (dev15_eq c) (dev16_eq c) sem_sndA sem_sndB rfl rfl)) $$ HR Hlev Ho HuA HuB P12A P12B Hat HO
  iintro ⟨Ho, HuA, HuB, ⟨Z12A, Z12B, L12A, L12B⟩, Hat, HO⟩
  -- the chunks of this device's own
  iapply (curry2 (wp_own c (O1 x 3 c) (off9_eq c) (inbC false _ _) (g2 false) (r4C 3) (fun _ => rfl) squeezes_S1x128x512_S128x512 (M2 x 0 false c) (ownC_unfold ownC_eq _))) $$ Ho HmA
  iintro ⟨Ho, HmA⟩
  iapply (curry2 (wp_own c (O1 x 3 c) (off6_eq c 3) (inbC true _ _) (g2 true) (r4C 3) (fun _ => rfl) squeezes_S1x128x512_S128x512 (M2 x 0 true c) (ownC_unfold ownC_eq _))) $$ Ho HmB
  iintro ⟨Ho, HmB⟩
  -- phase 2
  iapply (gat c x K 2 0 (O1 x 3 c) (O2 x 1 c) (holds c (l2 false 3) (M2 x 0 false c)) (holds c (l2 true 3) (M2 x 0 true c))
      (holds c (l2 false 0) (M2 x 1 false c)) (holds c (l2 true 0) (M2 x 1 true c)) (steps.drop 6) (steps.drop 7) 6 7
    ((D2 x).wp_step K c 0 (steps.drop 7) (show ∀ p ∈ steps.drop 7, rank (2, 0) < rank p by decide) 7 rfl _ (off5_eq c 0) (off6_eq c 0)
      rfl rfl rfl rfl rfl rfl rfl rfl exC_eq exC_eq (dev17_eq c) (dev18_eq c) sem_sndA sem_sndB rfl rfl)) $$ HR Hlev Ho HmA HmB P20A P20B Hat HO
  iintro ⟨Ho, HmA, HmB, ⟨Z20A, Z20B, L20A, L20B⟩, Hat, HO⟩
  iapply (gat c x K 2 1 (O2 x 1 c) (O2 x 2 c) (holds c (l2 false 0) (M2 x 1 false c)) (holds c (l2 true 0) (M2 x 1 true c))
      (holds c (l2 false 1) (M2 x 2 false c)) (holds c (l2 true 1) (M2 x 2 true c)) (steps.drop 7) (steps.drop 8) 7 8
    ((D2 x).wp_step K c 1 (steps.drop 8) (show ∀ p ∈ steps.drop 8, rank (2, 1) < rank p by decide) 8 rfl _ (off5_eq c 1) (off6_eq c 1)
      rfl rfl rfl rfl rfl rfl rfl rfl exC_eq exC_eq (dev19_eq c) (dev20_eq c) sem_sndA sem_sndB rfl rfl)) $$ HR Hlev Ho HmA HmB P21A P21B Hat HO
  iintro ⟨Ho, HmA, HmB, ⟨Z21A, Z21B, L21A, L21B⟩, Hat, HO⟩
  iapply (gat c x K 2 2 (O2 x 2 c) (O2 x 3 c) (holds c (l2 false 1) (M2 x 2 false c)) (holds c (l2 true 1) (M2 x 2 true c))
      (holds c (l2 false 2) (M2 x 3 false c)) (holds c (l2 true 2) (M2 x 3 true c)) (steps.drop 8) (steps.drop 9) 8 9
    ((D2 x).wp_step K c 2 (steps.drop 9) (show ∀ p ∈ steps.drop 9, rank (2, 2) < rank p by decide) 9 rfl _ (off5_eq c 2) (off6_eq c 2)
      rfl rfl rfl rfl rfl rfl rfl rfl exC_eq exC_eq (dev21_eq c) (dev22_eq c) sem_sndA sem_sndB rfl rfl)) $$ HR Hlev Ho HmA HmB P22A P22B Hat HO
  iintro ⟨Ho, HmA, HmB, ⟨Z22A, Z22B, L22A, L22B⟩, Hat, HO⟩
  -- the quarters of this device's own
  iapply (curry2 (wp_own c (O2 x 3 c) (off10_eq c) (inbQ false _) (g1 false) (r4Q 3) (fun _ => rfl) squeezes_S1x512x512_S512x512 (M3 x 0 false c) (ownQ_unfold ownQ_eq _))) $$ Ho HnA
  iintro ⟨Ho, HnA⟩
  iapply (curry2 (wp_own c (O2 x 3 c) (off2_eq c 3) (inbQ true _) (g1 true) (r4Q 3) (fun _ => rfl) squeezes_S1x512x512_S512x512 (M3 x 0 true c) (ownQ_unfold ownQ2_eq _))) $$ Ho HnB
  iintro ⟨Ho, HnB⟩
  -- phase 3
  iapply (gat c x K 3 0 (O2 x 3 c) (O3 x 1 c) (holds c (l3 false 3) (M3 x 0 false c)) (holds c (l3 true 3) (M3 x 0 true c))
      (holds c (l3 false 0) (M3 x 1 false c)) (holds c (l3 true 0) (M3 x 1 true c)) (steps.drop 9) (steps.drop 10) 9 10
    ((D3 x).wp_step K c 0 (steps.drop 10) (show ∀ p ∈ steps.drop 10, rank (3, 0) < rank p by decide) 10 rfl _ (off11_eq c 0) (off12_eq c 0)
      rfl rfl rfl rfl rfl rfl rfl rfl exQ_eq exQ_eq (dev23_eq c) (dev24_eq c) sem_sndA sem_sndB rfl rfl)) $$ HR Hlev Ho HnA HnB P30A P30B Hat HO
  iintro ⟨Ho, HnA, HnB, ⟨Z30A, Z30B, L30A, L30B⟩, Hat, HO⟩
  iapply (gat c x K 3 1 (O3 x 1 c) (O3 x 2 c) (holds c (l3 false 0) (M3 x 1 false c)) (holds c (l3 true 0) (M3 x 1 true c))
      (holds c (l3 false 1) (M3 x 2 false c)) (holds c (l3 true 1) (M3 x 2 true c)) (steps.drop 10) (steps.drop 11) 10 11
    ((D3 x).wp_step K c 1 (steps.drop 11) (show ∀ p ∈ steps.drop 11, rank (3, 1) < rank p by decide) 11 rfl _ (off11_eq c 1) (off12_eq c 1)
      rfl rfl rfl rfl rfl rfl rfl rfl exQ_eq exQ_eq (dev25_eq c) (dev26_eq c) sem_sndA sem_sndB rfl rfl)) $$ HR Hlev Ho HnA HnB P31A P31B Hat HO
  iintro ⟨Ho, HnA, HnB, ⟨Z31A, Z31B, L31A, L31B⟩, Hat, HO⟩
  iapply (gat c x K 3 2 (O3 x 2 c) (O3 x 3 c) (holds c (l3 false 1) (M3 x 2 false c)) (holds c (l3 true 1) (M3 x 2 true c))
      (holds c (l3 false 2) (M3 x 3 false c)) (holds c (l3 true 2) (M3 x 3 true c)) (steps.drop 11) (steps.drop 12) 11 12
    ((D3 x).wp_step K c 2 (steps.drop 12) (show ∀ p ∈ steps.drop 12, rank (3, 2) < rank p by decide) 12 rfl _ (off11_eq c 2) (off12_eq c 2)
      rfl rfl rfl rfl rfl rfl rfl rfl exQ_eq exQ_eq (dev27_eq c) (dev28_eq c) sem_sndA sem_sndB rfl rfl)) $$ HR Hlev Ho HnA HnB P32A P32B Hat HO
  iintro ⟨Ho, HnA, HnB, ⟨Z32A, Z32B, L32A, L32B⟩, Hat, HO⟩
  rw [wp_ret]
  unfold at2
  icases Hat with ⟨HatA, HatB⟩
  imod (close_snd c x K false) $$ [HatA] with HzA
  · isplitr; · iexact HR
    iexact HatA
  imod (close_snd c x K true) $$ [HatB] with HzB
  · isplitr; · iexact HR
    iexact HatB
  ihave L20A := (back2_own c false) $$ L20A
  ihave L21A := (back2_one c false) $$ L21A
  ihave L22A := (back2_two c false) $$ L22A
  ihave HmA := (last2 c false _) $$ HmA
  ihave L20B := (back2_own c true) $$ L20B
  ihave L21B := (back2_one c true) $$ L21B
  ihave L22B := (back2_two c true) $$ L22B
  ihave HmB := (last2 c true _) $$ HmB
  ihave L30A := (back3_own c false) $$ L30A
  ihave L31A := (back3_one c false) $$ L31A
  ihave L32A := (back3_two c false) $$ L32A
  ihave HnA := (last3 c false _) $$ HnA
  ihave L30B := (back3_own c true) $$ L30B
  ihave L31B := (back3_one c true) $$ L31B
  ihave L32B := (back3_two c true) $$ L32B
  ihave HnB := (last3 c true _) $$ HnB
  imodintro
  iapply Hk
  unfold slots sems
  isplitr [HzA HzB Hzb HO Hx Ho Z00A Z00B Z01A Z01B Z02A Z02B Z10A Z10B Z11A Z11B Z12A Z12B Z20A Z20B Z21A Z21B Z22A Z22B Z30A Z30B Z31A Z31B Z32A Z32B]
  · isplitr [HsA HsB HuA HuB L20A L20B L30A L30B]
    · iapply (Entails.of_eq (by_copies fun q => lAny q c).symm)
      isplitl [L00A]; · iexact L00A
      isplitl [L00B]; · iexact L00B
      isplitl [L01A]; · iexact L01A
      isplitl [L01B]; · iexact L01B
      isplitl [L02A]; · iexact L02A
      isplitl [L02B]; · iexact L02B
      isplitl [L10A]; · iexact L10A
      isplitl [L10B]; · iexact L10B
      isplitl [L11A]; · iexact L11A
      isplitl [L11B]; · iexact L11B
      isplitl [L12A]; · iexact L12A
      isplitl [L12B]; · iexact L12B
      isplitl [L21A]; · iexact L21A
      isplitl [L21B]; · iexact L21B
      isplitl [L22A]; · iexact L22A
      isplitl [L22B]; · iexact L22B
      isplitl [HmA]; · iexact HmA
      isplitl [HmB]; · iexact HmB
      isplitl [L31A]; · iexact L31A
      isplitl [L31B]; · iexact L31B
      isplitl [L32A]; · iexact L32A
      isplitl [L32B]; · iexact L32B
      isplitl [HnA]; · iexact HnA
      iexact HnB
    isplitl [HsA HsB HuA HuB]
    · isplitl [HsA]; · iexact HsA
      isplitl [HsB]; · iexact HsB
      isplitl [HuA] <;> iassumption
    isplitl [L20A]; · iexact L20A
    isplitl [L20B]; · iexact L20B
    isplitl [L30A]; · iexact L30A
    iexact L30B
  isplitr [HO Hx Ho]
  · isplitr [HzA HzB Hzb]
    · iapply (Entails.of_eq (by_copies fun q => (semVal (rcvCell q c) 0 : sProp 𝕄)).symm)
      isplitl [Z00A]; · iexact Z00A
      isplitl [Z00B]; · iexact Z00B
      isplitl [Z01A]; · iexact Z01A
      isplitl [Z01B]; · iexact Z01B
      isplitl [Z02A]; · iexact Z02A
      isplitl [Z02B]; · iexact Z02B
      isplitl [Z10A]; · iexact Z10A
      isplitl [Z10B]; · iexact Z10B
      isplitl [Z11A]; · iexact Z11A
      isplitl [Z11B]; · iexact Z11B
      isplitl [Z12A]; · iexact Z12A
      isplitl [Z12B]; · iexact Z12B
      isplitl [Z20A]; · iexact Z20A
      isplitl [Z20B]; · iexact Z20B
      isplitl [Z21A]; · iexact Z21A
      isplitl [Z21B]; · iexact Z21B
      isplitl [Z22A]; · iexact Z22A
      isplitl [Z22B]; · iexact Z22B
      isplitl [Z30A]; · iexact Z30A
      isplitl [Z30B]; · iexact Z30B
      isplitl [Z31A]; · iexact Z31A
      isplitl [Z31B]; · iexact Z31B
      isplitl [Z32A]; · iexact Z32A
      iexact Z32B
    isplitl [HzA]; · iexact HzA
    isplitl [HzB]; · iexact HzB
    iexact Hzb
  isplitl [HO]; · iexact HO
  isplitl [Hx]; · iexact Hx
  iexact Ho

end Cert.KernelIdealProof

end
-- ==== Proof.KernelIdeal.Deal.lean ====
/-
# Dealing the protocol out

At launch the barrier cells open with their counters, while the cells of the call's own semaphores sleep until the call
is entered. What is minted with the cells is regrouped so that each device holds the tokens of the signals and copies it
sends itself, and the credit it starts with is read off what all devices owe.
-/
module

public import proofs.«01_k».proof.Proof.KernelIdeal.Body

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-! ## The cells -/

/-- The kernel's own semaphores: the send and the receive semaphores. -/
abbrev osem (i : Fin 26) : SemLoc sig := csem i.succ
theorem ownSemFacts : Pipeline.OwnSemFacts cfg1.spec osem := by decide +kernel

theorem csem_injective : Function.Injective csem := by
  intro k k' h
  unfold csem at h
  split at h <;> split at h
  · exact Fin.ext (by omega)
  · cases h
  · cases h
  · have := congrArg Fin.val (SemLoc.dma.inj h); exact Fin.ext (by simpa using this)
theorem kcell_injective : Function.Injective (kcell : Dev nD × Fin 27 → GSem nD τ sig) := by
  rintro ⟨c, k⟩ ⟨c', k'⟩ h
  have h1 : c = c' := congrArg (fun g : GSem nD τ sig => g.1.1) h
  have h2 : k = k' := csem_injective (congrArg Prod.snd h)
  subst h1 h2; rfl

/-- The barrier cells, -/
def barEmb : Dev nD ↪ GSem nD τ sig := ⟨barCell, fun _ _ h => congrArg (fun g : GSem nD τ sig => g.1.1) h⟩
/-- and the cells of the call's own semaphores. -/
def ownEmb : Dev nD × Fin 26 ↪ GSem nD τ sig :=
  ⟨fun ci => kcell (ci.1, ci.2.succ), fun _ _ h => by
    have e := kcell_injective h
    exact Prod.ext (congrArg (fun p : Dev nD × Fin 27 => p.1) e) (Fin.succ_injective _ (congrArg (fun p : Dev nD × Fin 27 => p.2) e))⟩
abbrev barCells : Finset (GSem nD τ sig) := Finset.univ.map barEmb
abbrev ownCells : Finset (GSem nD τ sig) := Finset.univ.map ownEmb

theorem cells_disjoint : Disjoint barCells ownCells := by
  rw [Finset.disjoint_left]
  intro g h1 h2
  obtain ⟨c, -, rfl⟩ := Finset.mem_map.mp h1
  obtain ⟨ci, -, h⟩ := Finset.mem_map.mp h2
  exact Fin.succ_ne_zero ci.2 (congrArg Prod.snd (kcell_injective (show kcell (ci.1, ci.2.succ) = kcell (c, 0) from h)))

/-- Every cell is the one or the other. -/
theorem kcell_mem (p : Dev nD × Fin 27) : kcell p ∈ barCells ∪ ownCells := by
  obtain ⟨c, k⟩ := p
  rcases Fin.eq_zero_or_eq_succ k with rfl | ⟨i, rfl⟩
  · exact Finset.mem_union_left _ (Finset.mem_map_of_mem barEmb (Finset.mem_univ c))
  · exact Finset.mem_union_right _ (Finset.mem_map_of_mem ownEmb (Finset.mem_univ (c, i)))

theorem by_cells (Φ : Fin 27 → sProp 𝕄) :
    bigSep Finset.univ Φ = iprop(Φ 0 ∗ Φ (ki (sndS false)) ∗ Φ (ki (sndS true)) ∗ bigSep Finset.univ fun q : RX => Φ (ki (rcvS q))) := by
  rw [by_copies]
  exact (bigSep_univ_eq_bigSepL (0 :: ki (sndS false) :: ki (sndS true) :: copies.map fun q => ki (rcvS q)) (by decide +kernel) (by decide +kernel) Φ).trans rfl

theorem kcell_snd (h : Bool) (c : Dev nD) : kcell (c, ki (sndS h)) = sndCell h c := by unfold kcell; rw [csem_ki _ (sndS_ge h)]
theorem kcell_rcv (q : RX) (c : Dev nD) : kcell (c, ki (rcvS q)) = rcvCell q c := by unfold kcell; rw [csem_ki _ (rcvS_ge2 q)]

theorem by_kcells (c : Dev nD) (Φ : GSem nD τ sig → sProp 𝕄) :
    (bigSep Finset.univ fun k : Fin 27 => Φ (kcell (c, k)))
      = iprop(Φ (barCell c) ∗ Φ (sndCell false c) ∗ Φ (sndCell true c) ∗ bigSep Finset.univ fun q : RX => Φ (rcvCell q c)) := by
  rw [by_cells, kcell_snd, kcell_snd]
  simp only [kcell_rcv]
  rfl

/-! ## The tokens -/

/-- A device's own cells' tokens: its barrier's four, its send cells' twelve each, its receive cells' one each. -/
abbrev tokOf (t : Dev nD × (Fin 4 ⊕ RX ⊕ RX)) : GSem nD τ sig × ℕ × Fin 4 := match t.2 with
  | .inl d => (barCell t.1, 0, d) | .inr (.inl q) => (sndCell q.2.2 t.1, rank (q.1, q.2.1), 0) | .inr (.inr q) => (rcvCell q t.1, 0, 0)

theorem rank_inj (p p' : Fin 4 × Fin 3) (h : rank p = rank p') : p = p' := by revert p p'; decide
theorem rcvS_inj (q q' : RX) (h : rcvS q = rcvS q') : q = q' := by rw [← dec_rcvS q, h, dec_rcvS]

theorem tokOf_injective : Function.Injective tokOf := by
  rintro ⟨c, t⟩ ⟨c', t'⟩ h
  have h1 : c = c' := by
    have := congrArg (fun x : GSem nD τ sig × ℕ × Fin 4 => x.1.1.1) h
    rcases t with d | q | q <;> rcases t' with d' | q' | q' <;> exact this
  subst h1
  have hs : (tokOf (c, t)).1.2 = (tokOf (c, t')).1.2 := congrArg (fun x : GSem nD τ sig × ℕ × Fin 4 => x.1.2) h
  have hr : (tokOf (c, t)).2 = (tokOf (c, t')).2 := congrArg Prod.snd h
  rcases t with d | q | q <;> rcases t' with d' | q' | q'
  · rw [show d = d' from congrArg Prod.snd hr]
  · cases hs
  · cases hs
  · cases hs
  · have e1 : q.2.2 = q'.2.2 := sndS_inj _ _ (SemLoc.dma.inj hs)
    have e2 := rank_inj _ _ (congrArg Prod.fst hr)
    obtain ⟨a, b, d⟩ := q; obtain ⟨a', b', d'⟩ := q'
    obtain ⟨rfl, rfl⟩ := Prod.mk.inj e2
    dsimp only at e1; subst e1; rfl
  · exfalso
    have e : sndS q.2.2 = rcvS q' := SemLoc.dma.inj hs
    have := sndS_lt q.2.2; have := rcvS_ge q'; rw [e] at *; omega
  · cases hs
  · exfalso
    have e : rcvS q = sndS q'.2.2 := SemLoc.dma.inj hs
    have := sndS_lt q'.2.2; have := rcvS_ge q; rw [e] at *; omega
  · rw [rcvS_inj q q' (SemLoc.dma.inj hs)]
def ringToks : Finset (GSem nD τ sig × ℕ × Fin 4) := Finset.univ.map ⟨tokOf, tokOf_injective⟩

/-- The tokens of a device's own cells, -/
def toks (c : Dev nD) : sProp 𝕄 :=
  iprop((bigSep Finset.univ fun d : Fin 4 => dutyTok ER (barCell c) 0 d)
    ∗ (bigSep Finset.univ fun q : RX => dutyTok ER (sndCell q.2.2 c) (rank (q.1, q.2.1)) 0) ∗ bigSep Finset.univ fun q : RX => dutyTok ER (rcvCell q c) 0 0)
/-- and of the duties it pays. -/
def payToks (c : Dev nD) : sProp 𝕄 :=
  iprop((bigSep Finset.univ fun d : Fin 4 => dutyTok ER (barCell (nbr d c)) 0 (opp d))
    ∗ (bigSep Finset.univ fun q : RX => dutyTok ER (sndCell q.2.2 c) (rank (q.1, q.2.1)) 0) ∗ bigSep Finset.univ fun q : RX => dutyTok ER (rcvCell q (dst q.1 q.2.2 c)) 0 0)

/-- Going to a neighbour and back. -/
def around (d : Fin 4) : Dev nD ≃ Dev nD := ⟨nbr d, nbr (opp d), opp_nbr d, nbr_opp d⟩
def oppEquiv : Fin 4 ≃ Fin 4 := ⟨opp, opp, opp_opp, opp_opp⟩

theorem toks_around : (bigSep Finset.univ fun c : Dev nD => (toks c : sProp 𝕄)) = bigSep Finset.univ fun c : Dev nD => payToks c := by
  have hB : (bigSep Finset.univ fun c : Dev nD => bigSep Finset.univ fun d : Fin 4 => (dutyTok ER (barCell c) 0 d : sProp 𝕄))
      = bigSep Finset.univ fun c : Dev nD => bigSep Finset.univ fun d : Fin 4 => dutyTok ER (barCell (nbr d c)) 0 (opp d) := by
    rw [BI.bigSep_univ_comm, BI.bigSep_univ_comm fun (c : Dev nD) (d : Fin 4) => (dutyTok ER (barCell (nbr d c)) 0 (opp d) : sProp 𝕄),
      bigSep_univ_equiv oppEquiv]
    exact bigSep_congr fun d _ => bigSep_univ_equiv (around d) fun c : Dev nD => (dutyTok ER (barCell c) 0 (opp d) : sProp 𝕄)
  have hR : (bigSep Finset.univ fun c : Dev nD => bigSep Finset.univ fun q : RX => (dutyTok ER (rcvCell q c) 0 0 : sProp 𝕄))
      = bigSep Finset.univ fun c : Dev nD => bigSep Finset.univ fun q : RX => dutyTok ER (rcvCell q (dst q.1 q.2.2 c)) 0 0 := by
    rw [BI.bigSep_univ_comm, BI.bigSep_univ_comm fun (c : Dev nD) (q : RX) => (dutyTok ER (rcvCell q (dst q.1 q.2.2 c)) 0 0 : sProp 𝕄)]
    exact bigSep_congr fun q _ => bigSep_univ_equiv (around (dir q.1 q.2.2)) fun c : Dev nD => (dutyTok ER (rcvCell q c) 0 0 : sProp 𝕄)
  unfold toks payToks
  simp only [bigSep_sep']
  rw [hB, hR]

variable (x : Dev nD → OV F)

/-! ## The launch element -/

def u₀ : UU :=
  (initOf (Pipeline.cells cfgs cellOf_inj) (Pipeline.launchToks cfgs cellOf_inj), launchOf barCells ownCells ringToks)

/-- A resource all of which is device 0's. -/
def atFirst (X : sProp 𝕄) (c : Dev nD) : sProp 𝕄 := if c = 0 then X else iprop(emp)
theorem bigSep_atFirst (X : sProp 𝕄) : bigSep Finset.univ (atFirst X) = X := by
  have he : ∀ c ∈ Finset.univ.erase (0 : Dev nD), atFirst X c = (BI.emp : sProp 𝕄) := fun c hc => if_neg (Finset.ne_of_mem_erase hc)
  rw [bigSep_univ_at _ (0 : Dev nD), bigSep_congr he, BI.bigSep_emp_const, show atFirst X 0 = X from if_pos rfl]
  exact equiv_iff.mp BI.sep_emp

/-- The protocol's part of the launch element, whole until the cells are made. -/
def G : Dev nD → sProp 𝕄 := atFirst (BI.own (ER (launchOf barCells ownCells ringToks)))

/-! ## The cells made -/

theorem own_sems (c : Dev nD) : (Pipeline.ownSems0 (Ix := Unit) (Name := ℕ) (U := UU) (Lvl := ℕ) (Val := Elt F) (τ := τ) osem c : sProp 𝕄)
    = bigSep Finset.univ fun i : Fin 26 => semVal (kcell (c, i.succ)) 0 := rfl
theorem unscoped_sems (c : Dev nD) : (unscopedSems0 c : sProp 𝕄) = semVal (barCell c) 0 := by
  unfold unscopedSems0; rw [bigSep_eq_bigSepL_of_eq [SemLoc.reg barS] (by decide +kernel) (by decide +kernel)]; rfl

theorem fin27 (Φ : Fin 27 → sProp 𝕄) : bigSep Finset.univ Φ = iprop(Φ 0 ∗ bigSep Finset.univ fun i : Fin 26 => Φ i.succ) := by
  rw [Fin.univ_succ, Finset.cons_eq_insert, bigSep_insert (by simp), bigSep_map]; rfl

theorem all_sems (c : Dev nD) :
    iprop(Pipeline.ownSems0 (Ix := Unit) (Name := ℕ) (U := UU) (Lvl := ℕ) (Val := Elt F) (τ := τ) osem c ∗ unscopedSems0 c)
      = (bigSep Finset.univ fun k : Fin 27 => semVal (kcell (c, k)) 0 : sProp 𝕄) := by
  rw [own_sems, unscoped_sems, fin27]
  exact BI.Entails.antisymm BI.sep_comm BI.sep_comm

/-- The closed semaphores are the launch's own and its barrier. -/
theorem sems_exit (c : Dev nD) : sems c ⊢ iprop(Pipeline.ownSems0 (Ix := Unit) (Name := ℕ) (U := UU) (Lvl := ℕ) (Val := Elt F) (τ := τ) osem c ∗ unscopedSems0 c) := by
  rw [all_sems, by_kcells c fun g => (semVal g 0 : sProp 𝕄)]
  unfold sems
  iintro ⟨H1, H2, H3, H4⟩
  iframe ∗

/-- What stays with device `c`: its barrier position, its rights to open its own cells, the tokens it pays with. -/
def linear (c : Dev nD) : sProp 𝕄 :=
  iprop(atPos ER (barCell c) 0 ∅ 0 ∗ (bigSep Finset.univ fun i : Fin 26 => openTok ER (kcell (c, i.succ))) ∗ payToks c)

/-- A device's part of the protocol, its credit still to come. -/
def part (K : Dev nD × Fin 27 → ℕ) (c : Dev nD) : sProp 𝕄 := iprop(records x K ∗ linear c)

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem part_intro (K : Dev nD × Fin 27 → ℕ) (c : Dev nD) : iprop(records x K ∗ linear c) ⊢ iprop(∃ K, part x K c) := by
  unfold part; iintro H; iexists K; iexact H

theorem toks_dealt : bigSep ringToks (fun t => (dutyTok ER t.1 t.2.1 t.2.2 : sProp 𝕄)) = bigSep Finset.univ fun c : Dev nD => payToks c := by
  rw [← toks_around]
  unfold ringToks; rw [bigSep_map, bigSep_univ_prod]
  exact bigSep_congr fun c _ => by unfold toks; rw [BI.bigSep_univ_sum, BI.bigSep_univ_sum]; rfl

theorem cells_records (κ : GSem nD τ sig → ℕ) :
    (bigSep (barCells ∪ ownCells) fun g => (cellInv ER (Rd x) (κ g) g : sProp 𝕄))
      ⊢ bigSep Finset.univ fun p : Dev nD × Fin 27 => cellInv ER (Rd x) (κ (kcell p)) (kcell p) := by
  iintro #H
  iapply (bigSep_with_persistent (R := bigSep (barCells ∪ ownCells) fun g => (cellInv ER (Rd x) (κ g) g : sProp 𝕄)) (Φ := fun _ => iprop(emp))
    fun p _ => sep_elim_left.trans (bigSep_elim (kcell_mem p)))
  isplitr; · iexact H
  iapply (Entails.of_eq (BI.bigSep_emp_const (Finset.univ : Finset (Dev nD × Fin 27))).symm); iempintro

/-- The step over all devices at once, from the barrier counters alone. -/
theorem glob : (bigSep Finset.univ fun c : Dev nD => iprop(semVal (barCell c) 0 ∗ G c) : sProp 𝕄)
    ⊢ |={Set.univ}=> bigSep Finset.univ fun c => iprop(∃ K, part x K c) := by
  have hb (Φ : GSem nD τ sig → sProp 𝕄) : bigSep barCells Φ = bigSep Finset.univ fun c : Dev nD => Φ (barCell c) := bigSep_map ..
  have ho : bigSep ownCells (fun g => (openTok ER g : sProp 𝕄))
      = bigSep Finset.univ fun c : Dev nD => bigSep Finset.univ fun i : Fin 26 => openTok ER (kcell (c, i.succ)) := by
    rw [bigSep_map, bigSep_univ_prod]; rfl
  rw [bigSep_sep', show bigSep Finset.univ (fun c => (G c : sProp 𝕄)) = _ from bigSep_atFirst _]
  iintro ⟨Hv, Hu⟩
  imod (Rounds.fund_launch ER (Rd x) cells_disjoint (fun g _ h => h) ringToks) $$ [Hv Hu] with ⟨%κ, -, #Hinv, #Hr, Hat, Hopen, Htok⟩
  · isplitl [Hv]
    · iapply (Entails.of_eq (hb fun g => semVal g 0).symm); iexact Hv
    · iexact Hu
  ihave Hat := (Entails.of_eq (hb fun g => atPos ER g 0 ∅ 0)) $$ Hat
  ihave Hr' := (Entails.of_eq (hb fun g => reached ER g 0)) $$ Hr
  ihave Hopen := (Entails.of_eq ho) $$ Hopen
  ihave Htok := (Entails.of_eq toks_dealt) $$ Htok
  imodintro
  iapply (bigSep_with_persistent (R := records x fun p => κ (kcell p)) fun c _ => part_intro x (fun p => κ (kcell p)) c)
  isplitr
  · unfold records
    isplitr; · iapply (cells_records x κ); iexact Hinv
    iexact Hr'
  · unfold linear; rw [bigSep_sep', bigSep_sep']
    isplitl [Hat]; · iexact Hat
    isplitl [Hopen] <;> iassumption

/-! ## The credit -/

variable (c : Dev nD)

theorem cred_bt (d : Fin 4) : (Pipeline.launchCred (bt d) c : sProp 𝕄) ⊢ cred (tallyAt (barCell c) () 1) :=
  Pipeline.launchCred_tallyAt (.reg barS) (nbr d) (nbr (opp d)) (nbr_opp d) (opp_nbr d) () 1 c
theorem cred_tl (p : Fin 4 × Fin 3) (h : Bool) : (Pipeline.launchCred (tl p h) c : sProp 𝕄) ⊢ cred (tallyAt (rcvCell (p.1, p.2, h) c) () (NN p.1)) :=
  Pipeline.launchCred_tallyAt (.dma (rcvS (p.1, p.2, h))) (nbr (dir p.1 h)) (nbr (opp (dir p.1 h))) (nbr_opp _) (opp_nbr _) () (NN p.1) c

/-- The steps' receive credits. -/
def credL (l : List (Fin 4 × Fin 3)) : sProp 𝕄 :=
  l.foldr (fun p P => iprop(cred (tallyAt (rcvCell (p.1, p.2, false) c) () (NN p.1)) ∗ cred (tallyAt (rcvCell (p.1, p.2, true) c) () (NN p.1)) ∗ P)) iprop(emp)

theorem cred_owesL (l : List (Fin 4 × Fin 3)) : (Pipeline.launchCred (owesL l) c : sProp 𝕄) ⊢ credL c l := by
  induction l with
  | nil => exact Entails.of_eq (Pipeline.launchCred_zero c)
  | cons p l ih =>
    rw [show owesL (p :: l) = fun d => owesL l d + tl p true d + tl p false d from rfl,
      Pipeline.launchCred_add (fun d => owesL l d + tl p true d) (tl p false) c, Pipeline.launchCred_add (owesL l) (tl p true) c]
    show iprop((_ ∗ _) ∗ _) ⊢ iprop(_ ∗ _ ∗ credL c l)
    iintro ⟨⟨H1, H2⟩, H3⟩
    isplitl [H3]; · iapply (cred_tl c p false); iexact H3
    isplitl [H2]; · iapply (cred_tl c p true); iexact H2
    iapply ih; iexact H1

theorem sep_emp_one (P : sProp 𝕄) : iprop(P ∗ emp) = P := equiv_iff.mp BI.sep_emp

theorem credL_steps : credL (F := F) c steps = bigSep Finset.univ fun q : RX => cred (tallyAt (rcvCell q c) () (NN q.1)) := by
  rw [by_copies]
  unfold credL
  simp only [List.foldr, sep_emp_one]

theorem creds : (Pipeline.launchCred Ostart c : sProp 𝕄)
    ⊢ iprop(cred (tallyAt (barCell c) () 4) ∗ bigSep Finset.univ fun q : RX => cred (tallyAt (rcvCell q c) () (NN q.1))) := by
  rw [show Ostart = fun d => owesL steps d + bt 3 d + bt 2 d + bt 1 d + bt 0 d from rfl,
    Pipeline.launchCred_add (fun d => owesL steps d + bt 3 d + bt 2 d + bt 1 d) (bt 0) c, Pipeline.launchCred_add (fun d => owesL steps d + bt 3 d + bt 2 d) (bt 1) c,
    Pipeline.launchCred_add (fun d => owesL steps d + bt 3 d) (bt 2) c, Pipeline.launchCred_add (owesL steps) (bt 3) c]
  iintro ⟨⟨⟨⟨H, H3⟩, H2⟩, H1⟩, H0⟩
  isplitr [H]
  · rw [show (tallyAt (barCell c) () 4 : CellTallies nD τ sig Unit) = tallyAt (barCell c) () 1 + tallyAt (barCell c) () 1 + tallyAt (barCell c) () 1 + tallyAt (barCell c) () 1 from by
      rw [show 4 = 1 + 1 + 1 + 1 from rfl, tallyAt_add, tallyAt_add, tallyAt_add]]
    iapply (cred_add _ _).2
    isplitr [H0]
    · iapply (cred_add _ _).2
      isplitr [H1]
      · iapply (cred_add _ _).2
        isplitr [H2]
        · iapply (cred_bt c 3); iexact H3
        · iapply (cred_bt c 2); iexact H2
      · iapply (cred_bt c 1); iexact H1
    · iapply (cred_bt c 0); iexact H0
  · iapply ((cred_owesL (F := F) c steps).trans (Entails.of_eq (credL_steps c))); iexact H

/-- The receive and send credit and the barrier's, as a device starts. -/
def credOf : sProp 𝕄 :=
  iprop(cred (tallyAt (barCell c) () 4) ∗ bigSep Finset.univ fun q : RX => cred (tallyAt (rcvCell q c) () (NN q.1)))

/-- A device's own cells opened, as its call is entered. -/
theorem open_cells (K : Dev nD × Fin 27 → ℕ) :
    iprop(records x K ∗ (bigSep Finset.univ fun i : Fin 26 => openTok ER (kcell (c, i.succ)))
        ∗ bigSep Finset.univ fun i : Fin 26 => semVal (kcell (c, i.succ)) 0)
      ⊢ |={Set.univ}=> bigSep Finset.univ fun i : Fin 26 => iprop(atPos ER (kcell (c, i.succ)) 0 ∅ 0 ∗ reached ER (kcell (c, i.succ)) 0) := by
  rw [← bigSep_sep']
  refine (bigSep_with_persistent (R := records x K) fun i _ => ?_).trans (bigSep_fupd _ _)
  exact (sep_mono_left (inv_at x K (c, i.succ))).trans (Rounds.cell_open ER (Rd x) (Set.mem_univ _))

/-- With its credit and the levels, a device's part is what its body starts with. -/
theorem hand_intro (K : Dev nD × Fin 27 → ℕ) :
    iprop(part x K c ∗ credOf c ∗ (Pipeline.ownSems0 (Ix := Unit) (Name := ℕ) (U := UU) (Lvl := ℕ) (Val := Elt F) (τ := τ) osem c) ∗ levAts L lv)
      ⊢ |={Set.univ}=> hand x K c := by
  have hall (Φ : Fin 27 → sProp 𝕄) : iprop(Φ 0 ∗ bigSep Finset.univ fun i : Fin 26 => Φ i.succ) ⊢ bigSep Finset.univ Φ := Entails.of_eq (fin27 Φ).symm
  rw [own_sems]
  unfold part linear
  iintro ⟨⟨#HR, HB, Hop, Hpay⟩, Hc, Hs, #Hlev⟩
  imod (open_cells x c K) $$ [Hop Hs] with Ho
  · isplitr; · iexact HR
    isplitl [Hop] <;> iassumption
  ihave Hrb := (reached_bar x K c) $$ HR
  ihave Hall := (hall fun k => iprop(atPos ER (kcell (c, k)) 0 ∅ 0 ∗ reached ER (kcell (c, k)) 0)) $$ [HB Hrb Ho]
  · isplitr [Ho]
    · isplitl [HB]; · iexact HB
      iexact Hrb
    · iexact Ho
  ihave Hall := (Entails.of_eq (by_kcells c fun g => (iprop(atPos ER g 0 ∅ 0 ∗ reached ER g 0) : sProp 𝕄))) $$ Hall
  rw [bigSep_sep']
  imodintro
  unfold credOf payToks hand at2 at1
  rw [show pk0 (F := F) c = fun q => pk0 c q from rfl]
  unfold pk0
  simp only [bigSep_sep']
  rw [bigSep_univ_eq_bigSepL [(0 : Fin 4), 1, 2, 3] (by decide) (by decide)]
  simp only [bigSepL_cons_cons, bigSepL_singleton]
  icases Hall with ⟨⟨HB, -⟩, HA1, HA2, HAR, HRR⟩
  icases Hpay with ⟨HtB, HtS, HtR⟩
  icases Hc with ⟨Hc4, Hcr⟩
  isplitr; · iexact HR
  isplitr; · iexact Hlev
  isplitl [HtB]; · iexact HtB
  isplitl [Hc4 HB]; · isplitl [Hc4] <;> iassumption
  isplitl [HA1 HA2]; · isplitl [HA1] <;> iassumption
  isplitr [HRR]
  · isplitl [HtS]; · iexact HtS
    isplitl [HtR]; · iexact HtR
    isplitl [Hcr] <;> iassumption
  iexact HRR

end Cert.KernelIdealProof

end
-- ==== Proof.KernelIdeal.Cut.lean ====
/-
# The scratch buffers cut into slots

A scratch buffer arrives whole and is used slot by slot; what lies outside the slots is set aside and joined back at the end.
-/
module

public import proofs.«01_k».proof.Proof.KernelIdeal.Deal
public import Idealize.ShloMosaic.Lib.ViewIndex

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ UU ℕ

variable (c : Dev nD)

/-- A buffer whole, at any contents. -/
def whole (b : Ref sig .tc) : sProp 𝕄 := iprop(∃ f : Buf (Elt F) ((c : Thread nD τ).loc b), ((c : Thread nD τ).loc b) ↦{fullShare} f)

section Family

variable {S sh : Shape} {e : EltTy} {n : ℕ} (g : Memref sig .tc .vmem S e) (r : Fin n → Rect S) (hr : ∀ s a, (r s).stride a = 1)
  (hsq : ∀ s, (r s).shape.Squeezes sh) (hd : ∀ s s', s ≠ s' → Disjoint (r s).set (r s').set)

/-- The elements of slot `s`. -/
abbrev fam (s : Fin n) : Finset (Idx (g.view.loc (c : Thread nD τ))) := ((g.slice (r s) (hr s)).squeeze sh (hsq s)).view.set

/-- What lies outside the slots. -/
def rest : sProp 𝕄 :=
  iprop(∃ f : Buf (Elt F) (g.view.loc (c : Thread nD τ)), g.view.loc (c : Thread nD τ) ↦[Ring.restOf (fam c g r hr hsq)]{fullShare} f)

include hd in
theorem fam_disjoint (s s' : Fin n) (h : s ≠ s') : Disjoint (fam c g r hr hsq s) (fam c g r hr hsq s') := by
  have e : ∀ s, fam c g r hr hsq s = (g.view.slice (r s)).set := fun s => View.set_reshape (v := g.view.slice (r s)) (hsq s).numel_eq
  rw [e, e]
  exact View.disjoint_slice (hd s s' h)

include hd in
theorem cut : iprop(∃ f : Buf (Elt F) (g.view.loc (c : Thread nD τ)), g.view.loc (c : Thread nD τ) ↦{fullShare} f)
    ⊢ iprop((bigSep Finset.univ fun s => anyAt (F := F) c ((g.slice (r s) (hr s)).squeeze sh (hsq s))) ∗ rest c g r hr hsq) :=
  Ring.fam_split_ex (fam c g r hr hsq) (fam_disjoint c g r hr hsq hd)

include hd in
theorem join [Nonempty (Buf (Elt F) (g.view.loc (c : Thread nD τ)))] :
    iprop((bigSep Finset.univ fun s => anyAt (F := F) c ((g.slice (r s) (hr s)).squeeze sh (hsq s))) ∗ rest c g r hr hsq)
      ⊢ iprop(∃ f : Buf (Elt F) (g.view.loc (c : Thread nD τ)), g.view.loc (c : Thread nD τ) ↦{fullShare} f) :=
  Ring.fam_join (fam c g r hr hsq) (fam_disjoint c g r hr hsq hd) (Classical.arbitrary _)

end Family

theorem dis3Q (s s' : Fin 3) (h : s ≠ s') : Disjoint (r3Q s).set (r3Q s').set :=
  Rect.unit_disjoint (0 : Fin 3) (by revert s s'; decide +kernel)
theorem dis3C (s s' : Fin 3) (h : s ≠ s') : Disjoint (r3C s).set (r3C s').set :=
  Rect.unit_disjoint (0 : Fin 3) (by revert s s'; decide +kernel)
theorem dis4Q (s s' : Fin 4) (h : s ≠ s') : Disjoint (r4Q s).set (r4Q s').set :=
  Rect.unit_disjoint (0 : Fin 3) (by revert s s'; decide +kernel)
theorem dis4C (s s' : Fin 4) (h : s ≠ s') : Disjoint (r4C s).set (r4C s').set :=
  Rect.unit_disjoint (0 : Fin 3) (by revert s s'; decide +kernel)

/-- The attention call's staging buffers, unused here. -/
def idle : sProp 𝕄 :=
  iprop(whole c cc0_stg0_0 ∗ whole c cc0_stg0_1 ∗ whole c cc0_stg1_0 ∗ whole c cc0_stg2_0 ∗ whole c cc0_stg3_0 ∗ whole c cc0_stg4_0
    ∗ whole c cc0_stg5_0 ∗ whole c cc0_stg5_1)

/-- The parts set aside. -/
def rest0 (h : Bool) : sProp 𝕄 := rest c (p1 h) r3Q (fun _ _ => rfl) (fun _ => squeezes_S1x512x512_S512x512)
def rest1 (h : Bool) : sProp 𝕄 := rest c (p2 h) r3C (fun _ _ => rfl) (fun _ => squeezes_S1x128x512_S128x512)
def rest2 (h : Bool) : sProp 𝕄 := rest c (g2 h) r4C (fun _ _ => rfl) (fun _ => squeezes_S1x128x512_S128x512)
def rest3 (h : Bool) : sProp 𝕄 := rest c (g1 h) r4Q (fun _ _ => rfl) (fun _ => squeezes_S1x512x512_S512x512)
def rests : sProp 𝕄 := iprop(rest0 c false ∗ rest0 c true ∗ rest1 c false ∗ rest1 c true ∗ rest2 c false ∗ rest2 c true ∗ rest3 c false ∗ rest3 c true ∗ idle c)

theorem three (Φ : Fin 3 → sProp 𝕄) : bigSep Finset.univ Φ = iprop(Φ 0 ∗ Φ 1 ∗ Φ 2) := bigSep_univ_eq_bigSepL [0, 1, 2] (by decide) (by decide) Φ
theorem four (Φ : Fin 4 → sProp 𝕄) : bigSep Finset.univ Φ = iprop(Φ 0 ∗ Φ 1 ∗ Φ 2 ∗ Φ 3) := bigSep_univ_eq_bigSepL [0, 1, 2, 3] (by decide) (by decide) Φ

abbrev sc4 (h : Bool) : Ref sig .tc := match h with | false => cc1_scratch4 | true => cc1_scratch5
abbrev sc6 (h : Bool) : Ref sig .tc := match h with | false => cc1_scratch6 | true => cc1_scratch7
abbrev sc8 (h : Bool) : Ref sig .tc := match h with | false => cc1_scratch8 | true => cc1_scratch9
abbrev sc10 (h : Bool) : Ref sig .tc := match h with | false => cc1_scratch10 | true => cc1_scratch11

/-- A landing buffer as its slots and the rest, -/
theorem part0 (h : Bool) : whole c (sc4 h) = iprop((lAny (F := F) (0, 0, h) c ∗ lAny (0, 1, h) c ∗ lAny (0, 2, h) c) ∗ rest0 c h) := by
  refine BI.Entails.antisymm ?_ ?_
  · have := cut (F := F) c (p1 h) r3Q (fun _ _ => rfl) (fun _ => squeezes_S1x512x512_S512x512) dis3Q
    rw [three] at this
    cases h <;> exact this
  · have := join (F := F) c (p1 h) r3Q (fun _ _ => rfl) (fun _ => squeezes_S1x512x512_S512x512) dis3Q
    rw [three] at this
    cases h <;> exact this
theorem part1 (h : Bool) : whole c (sc6 h) = iprop((lAny (F := F) (1, 0, h) c ∗ lAny (1, 1, h) c ∗ lAny (1, 2, h) c) ∗ rest1 c h) := by
  refine BI.Entails.antisymm ?_ ?_
  · have := cut (F := F) c (p2 h) r3C (fun _ _ => rfl) (fun _ => squeezes_S1x128x512_S128x512) dis3C
    rw [three] at this
    cases h <;> exact this
  · have := join (F := F) c (p2 h) r3C (fun _ _ => rfl) (fun _ => squeezes_S1x128x512_S128x512) dis3C
    rw [three] at this
    cases h <;> exact this
/-- a gather buffer with the device's own piece besides. -/
theorem part2 (h : Bool) : whole c (sc8 h) = iprop((lAny (F := F) (2, 0, h) c ∗ lAny (2, 1, h) c ∗ lAny (2, 2, h) c ∗ anyAt c (l2 h 3)) ∗ rest2 c h) := by
  refine BI.Entails.antisymm ?_ ?_
  · have := cut (F := F) c (g2 h) r4C (fun _ _ => rfl) (fun _ => squeezes_S1x128x512_S128x512) dis4C
    rw [four] at this
    cases h <;> exact this
  · have := join (F := F) c (g2 h) r4C (fun _ _ => rfl) (fun _ => squeezes_S1x128x512_S128x512) dis4C
    rw [four] at this
    cases h <;> exact this
theorem part3 (h : Bool) : whole c (sc10 h) = iprop((lAny (F := F) (3, 0, h) c ∗ lAny (3, 1, h) c ∗ lAny (3, 2, h) c ∗ anyAt c (l3 h 3)) ∗ rest3 c h) := by
  refine BI.Entails.antisymm ?_ ?_
  · have := cut (F := F) c (g1 h) r4Q (fun _ _ => rfl) (fun _ => squeezes_S1x512x512_S512x512) dis4Q
    rw [four] at this
    cases h <;> exact this
  · have := join (F := F) c (g1 h) r4Q (fun _ _ => rfl) (fun _ => squeezes_S1x512x512_S512x512) dis4Q
    rw [four] at this
    cases h <;> exact this

theorem scratch_eq : (Pipeline.scopedRest spec1 c : sProp 𝕄)
    = iprop((anyAt c (s1 false) ∗ anyAt c (s1 true) ∗ anyAt c (s2 false) ∗ anyAt c (s2 true)
      ∗ whole c (sc4 false) ∗ whole c (sc4 true) ∗ whole c (sc6 false) ∗ whole c (sc6 true) ∗ whole c (sc8 false) ∗ whole c (sc8 true) ∗ whole c (sc10 false) ∗ whole c (sc10 true)) ∗ idle c) := by
  rw [scopedRest1_eq]
  unfold anyAt idle whole
  simp only [Memref.view_whole, View.set_whole]
  refine BI.Entails.antisymm (?_ : (_ : sProp 𝕄) ⊢ _) (?_ : (_ : sProp 𝕄) ⊢ _)
  · iintro ⟨I0, I1, I2, I3, I4, I5, I6, I7, H⟩
    isplitl [H]; · iexact H
    iframe ∗
  · iintro ⟨H, I0, I1, I2, I3, I4, I5, I6, I7⟩
    iframe ∗

/-- The scratch is the slots and the parts set aside, -/
theorem scratch_cut : (Pipeline.scopedRest spec1 c : sProp 𝕄) ⊢ iprop(slots c ∗ rests c) := by
  rw [scratch_eq, part0, part0, part1, part1, part2, part2, part3, part3]
  unfold slots rests
  rw [by_copies]
  iintro ⟨⟨A1, A2, A3, A4, ⟨⟨B1, B2, B3⟩, R1⟩, ⟨⟨C1, C2, C3⟩, R2⟩, ⟨⟨D1, D2, D3⟩, R3⟩, ⟨⟨E1, E2, E3⟩, R4⟩,
    ⟨⟨G1, G2, G3, G4⟩, R5⟩, ⟨⟨H1, H2, H3, H4⟩, R6⟩, ⟨⟨J1, J2, J3, J4⟩, R7⟩, ⟨⟨K1, K2, K3, K4⟩, R8⟩⟩, R9⟩
  iframe ∗
/-- and they make it up again. -/
theorem scratch_join : iprop(slots c ∗ rests c) ⊢ (Pipeline.scopedRest spec1 c : sProp 𝕄) := by
  rw [scratch_eq, part0, part0, part1, part1, part2, part2, part3, part3]
  unfold slots rests
  rw [by_copies]
  iintro ⟨⟨⟨B1, C1, B2, C2, B3, C3, D1, E1, D2, E2, D3, E3, G1, H1, G2, H2, G3, H3, J1, K1, J2, K2, J3, K3⟩, ⟨A1, A2, A3, A4⟩, G4, H4, J4, K4⟩,
    R1, R2, R3, R4, R5, R6, R7, R8, R9⟩
  iframe ∗

end Cert.KernelIdealProof

end
-- ==== Proof.KernelIdeal.Attend.Setup.lean ====
/-
# The attention call: what its runs share

The windows' blocks, when each branch of the body runs, and the staging buffers.
-/
module

public import proofs.«01_k».proof.Proof.Gen.KernelIdeal.Skeleton
public import proofs.«01_k».proof.Proof.Gen.KernelIdeal.Points
public import proofs.«01_k».proof.Proof.KernelIdeal.Mesh
public import proofs.«01_k».proof.Proof.KernelIdeal.Steps
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdealProof.Attend

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (V : (c : Dev nD) → (b : Ref sig .tc) → Buf (Elt F) ((c : Thread nD τ).loc b))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input's staging buffer holds its block at every point, for proof data whose array is the one found and whose
    body leaves the block in place. -/
theorem before_of {c : Dev nD} (dat : Dat τ (Elt F) Unit ℕ UU ℕ cfg0 c) (w : Fin cfg0.W) (hin : (cfg0.win w).isOut = false)
    (hlive : ∀ i, cfg0.idle w i = false)
    (hclip : ∀ t t' : Fin cfg0.N, (cfg0.win w).index t = (cfg0.win w).index t' →
      (cfg0.win w).clip (cfg0.grid.coords t) = (cfg0.win w).clip (cfg0.grid.coords t'))
    (hkeep : ∀ t, (cfg0.win w).cut (cfg0.grid.coords t) (dat.after w t) = dat.blockOf w t)
    (t : Fin cfg0.N) (d X) (hX : dat.fetched w t d = X) : dat.before w t d = X :=
  (dat.before_in_eq_fetched w hin hlive hclip hkeep t d).trans hX

/-! ## The body's branch conditions -/

/-- The dense branch runs. -/
abbrev cond0_0 (i : grid0.Coords) : Prop := k0_cond1 i = 1#1
/-- It runs at the first point only, -/
theorem hcond0_0 : ∀ t : Fin cfg0.N, cond0_0 (grid0.coords t) ↔ t.val % 16 = 0 :=
  (fun t => by
    have ht : t.val < 16 := Nat.lt_of_lt_of_eq t.isLt N_0
    have e0 : (grid0.coords t 0).val = t.val / 1 % 16 := Pipeline.Grid.coords_val t 0 (by decide) rfl
    simp only [cond0_0, k0_cond1, e0]
    word_cmp
   : ∀ t : Fin grid0.N, cond0_0 (grid0.coords t) ↔ t.val % 16 = 0)

/-- The sparse branch runs. -/
abbrev cond0_1 (i : grid0.Coords) : Prop := k0_cond2 i = 1#1
/-- and the sparse one from point 1 on. -/
theorem hcond0_1 : ∀ t : Fin cfg0.N, cond0_1 (grid0.coords t) ↔ 1 ≤ t.val :=
  (by decide +kernel : ∀ t : Fin grid0.N, cond0_1 (grid0.coords t) ↔ 1 ≤ t.val)

/-! ## Every window is live -/

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
/-- The dense branch stores the result, -/
theorem liveAt0_5_A : ∀ t : Fin cfg0.N, cond0_0 (grid0.coords t) → ¬cond0_1 (grid0.coords t) → cfg0.idle 5 (grid0.coords t) = false := by decide +kernel
/-- and so does the sparse one. -/
theorem liveAt0_5_B : ∀ t : Fin cfg0.N, ¬cond0_0 (grid0.coords t) → cond0_1 (grid0.coords t) → cfg0.idle 5 (grid0.coords t) = false := by decide +kernel

/-! ## The staging buffers -/

/-- A staging buffer of the result, through which its contents are stated. -/
abbrev VO0_5 : View sig .tc .vmem S128x1024 .f32 := (Memref.whole cc0_stg5_0 : Memref sig .tc .vmem S128x1024 .f32).view
/-- Each window's staging buffer at point `t`, and that it is whole. -/
abbrev ms0_0 (t : Fin cfg0.N) : Memref sig .tc .vmem S128x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x1024 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2048x1024 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x1024 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S128x1024 .f32 := win0_5.stage (cfg0.slots t 5)
abbrev hs0_5 (t : Fin cfg0.N) : (ms0_5 t).IsWhole := hstage0_5 ((cfg0.slots t 5).cast nbuf0_5)

end Cert.KernelIdealProof.Attend

end
-- ==== Proof.KernelIdeal.Attend.Dense.lean ====
/-
# The attention call: the dense branch

The body at the first point, run from its staging buffers to its store.
-/
module

public import proofs.«01_k».proof.Proof.KernelIdeal.Attend.Setup

@[expose] public section

set_option maxRecDepth 16384

noncomputable section

namespace Cert.KernelIdealProof.Attend

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

set_option maxHeartbeats 1000000 in
/-- The dense branch from whole staging buffers: what it stores, with the run that stores it. -/
noncomputable def kernelRun0_A (c : Dev nD) (i : grid0.Coords) (arg1 : Memref sig .tc .vmem S128x1024 .bf16) (harg1 : arg1.IsWhole) (arg2 : Memref sig .tc .vmem S1024x1024 .bf16) (harg2 : arg2.IsWhole) (arg3 : Memref sig .tc .vmem S2048x1024 .bf16) (harg3 : arg3.IsWhole) (arg4 : Memref sig .tc .vmem S2048x1024 .bf16) (harg4 : arg4.IsWhole) (arg5 : Memref sig .tc .vmem S1024x1024 .bf16) (harg5 : arg5.IsWhole) (arg6 : Memref sig .tc .vmem S128x1024 .f32) (harg6 : arg6.IsWhole) (hc0 : cond0_0 i) (hc1 : ¬cond0_1 i)
    (x0 : Vec F S128x1024 .bf16) (x1 : Vec F S1024x1024 .bf16) (x2 : Vec F S2048x1024 .bf16) (x3 : Vec F S2048x1024 .bf16) (x4 : Vec F S1024x1024 .bf16) :
    { L5 : List (View.Piece (Elt F) S128x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5)) -∗ K ⟨⟩))
          ⊢ wp frame (wpE (defs₀ (F := F)) 𝒱₀ c none) E (cc0_body i arg1 harg1 arg2 harg2 arg3 harg3 arg4 harg4 arg5 harg5 arg6 harg6) K } := by
  refine ⟨?_, fun E K => ?run⟩
  case run =>
    simp only [cc0_body_eq_skeleton]; unfold cc0_body_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
    obtain rfl := harg1.eq_unread hf0; obtain rfl := harg2.eq_unread hf1; obtain rfl := harg3.eq_unread hf2; obtain rfl := harg4.eq_unread hf3; obtain rfl := harg5.eq_unread hf4
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    iexists _; iexact H5

end Cert.KernelIdealProof.Attend

end
-- ==== Proof.KernelIdeal.Attend.Sparse.lean ====
/-
# The attention call: the sparse branch

The body at a later point, run from its staging buffers to its store.
-/
module

public import proofs.«01_k».proof.Proof.KernelIdeal.Attend.Dense

@[expose] public section

set_option maxRecDepth 16384

noncomputable section

namespace Cert.KernelIdealProof.Attend

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

set_option maxHeartbeats 1000000 in
/-- The sparse branch from whole staging buffers: what it stores, with the run that stores it. -/
noncomputable def kernelRun0_B (c : Dev nD) (i : grid0.Coords) (arg1 : Memref sig .tc .vmem S128x1024 .bf16) (harg1 : arg1.IsWhole) (arg2 : Memref sig .tc .vmem S1024x1024 .bf16) (harg2 : arg2.IsWhole) (arg3 : Memref sig .tc .vmem S2048x1024 .bf16) (harg3 : arg3.IsWhole) (arg4 : Memref sig .tc .vmem S2048x1024 .bf16) (harg4 : arg4.IsWhole) (arg5 : Memref sig .tc .vmem S1024x1024 .bf16) (harg5 : arg5.IsWhole) (arg6 : Memref sig .tc .vmem S128x1024 .f32) (harg6 : arg6.IsWhole) (hc0 : ¬cond0_0 i) (hc1 : cond0_1 i)
    (x0 : Vec F S128x1024 .bf16) (x1 : Vec F S1024x1024 .bf16) (x2 : Vec F S2048x1024 .bf16) (x3 : Vec F S2048x1024 .bf16) (x4 : Vec F S1024x1024 .bf16) :
    { L5 : List (View.Piece (Elt F) S128x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5)) -∗ K ⟨⟩))
          ⊢ wp frame (wpE (defs₀ (F := F)) 𝒱₀ c none) E (cc0_body i arg1 harg1 arg2 harg2 arg3 harg3 arg4 harg4 arg5 harg5 arg6 harg6) K } := by
  refine ⟨?_, fun E K => ?run⟩
  case run =>
    simp only [cc0_body_eq_skeleton]; unfold cc0_body_skel
    simp only [k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
    obtain rfl := harg1.eq_unread hf0; obtain rfl := harg2.eq_unread hf1; obtain rfl := harg3.eq_unread hf2; obtain rfl := harg4.eq_unread hf3; obtain rfl := harg5.eq_unread hf4
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    iexists _; iexact H5

end Cert.KernelIdealProof.Attend

end
-- ==== Proof.KernelIdeal.Attend.Frame.lean ====
/-
# The attention call: its proof data

What each point leaves in the result's staging buffer, and that the body does so while the device goes on owing its
neighbours what it owes at launch.
-/
module

public import proofs.«01_k».proof.Proof.KernelIdeal.Attend.Sparse
public import Idealize.ShloMosaic.Lib.Claim

@[expose] public section

set_option maxRecDepth 16384

noncomputable section

namespace Cert.KernelIdealProof.Attend

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (V : (c : Dev nD) → (b : Ref sig .tc) → Buf (Elt F) ((c : Thread nD τ).loc b))

/-- The dense branch stores the whole block, -/
theorem cover0_A_5 (c : Dev nD) (i : grid0.Coords) (arg1 : Memref sig .tc .vmem S128x1024 .bf16) (harg1 : arg1.IsWhole) (arg2 : Memref sig .tc .vmem S1024x1024 .bf16) (harg2 : arg2.IsWhole) (arg3 : Memref sig .tc .vmem S2048x1024 .bf16) (harg3 : arg3.IsWhole) (arg4 : Memref sig .tc .vmem S2048x1024 .bf16) (harg4 : arg4.IsWhole) (arg5 : Memref sig .tc .vmem S1024x1024 .bf16) (harg5 : arg5.IsWhole) (arg6 : Memref sig .tc .vmem S128x1024 .f32) (harg6 : arg6.IsWhole) (hc0 : cond0_0 i) (hc1 : ¬cond0_1 i)
    (x0 : Vec F S128x1024 .bf16) (x1 : Vec F S1024x1024 .bf16) (x2 : Vec F S2048x1024 .bf16) (x3 : Vec F S2048x1024 .bf16) (x4 : Vec F S1024x1024 .bf16) (y : S128x1024.Idx) :
    ∃ pc ∈ (kernelRun0_A c i arg1 harg1 arg2 harg2 arg3 harg3 arg4 harg4 arg5 harg5 arg6 harg6 hc0 hc1 x0 x1 x2 x3 x4).1, y ∈ pc.1.set :=
  View.cover_of_tiledL (kernelRun0_A c i arg1 harg1 arg2 harg2 arg3 harg3 arg4 harg4 arg5 harg5 arg6 harg6 hc0 hc1 x0 x1 x2 x3 x4).1 S128x1024.size (by sl_kernel_rfl) y

/-- and this is what it stores. -/
def out0_A_5 (c : Dev nD) (i : grid0.Coords) (arg1 : Memref sig .tc .vmem S128x1024 .bf16) (harg1 : arg1.IsWhole) (arg2 : Memref sig .tc .vmem S1024x1024 .bf16) (harg2 : arg2.IsWhole) (arg3 : Memref sig .tc .vmem S2048x1024 .bf16) (harg3 : arg3.IsWhole) (arg4 : Memref sig .tc .vmem S2048x1024 .bf16) (harg4 : arg4.IsWhole) (arg5 : Memref sig .tc .vmem S1024x1024 .bf16) (harg5 : arg5.IsWhole) (arg6 : Memref sig .tc .vmem S128x1024 .f32) (harg6 : arg6.IsWhole) (hc0 : cond0_0 i) (hc1 : ¬cond0_1 i)
    (x0 : Vec F S128x1024 .bf16) (x1 : Vec F S1024x1024 .bf16) (x2 : Vec F S2048x1024 .bf16) (x3 : Vec F S2048x1024 .bf16) (x4 : Vec F S1024x1024 .bf16) : Vec F S128x1024 .f32 :=
  VO0_5.read (Elt F) (VO0_5.writes (Elt F) VO0_5.junk (kernelRun0_A c i arg1 harg1 arg2 harg2 arg3 harg3 arg4 harg4 arg5 harg5 arg6 harg6 hc0 hc1 x0 x1 x2 x3 x4).1)

/-- The sparse branch stores the whole block, -/
theorem cover0_B_5 (c : Dev nD) (i : grid0.Coords) (arg1 : Memref sig .tc .vmem S128x1024 .bf16) (harg1 : arg1.IsWhole) (arg2 : Memref sig .tc .vmem S1024x1024 .bf16) (harg2 : arg2.IsWhole) (arg3 : Memref sig .tc .vmem S2048x1024 .bf16) (harg3 : arg3.IsWhole) (arg4 : Memref sig .tc .vmem S2048x1024 .bf16) (harg4 : arg4.IsWhole) (arg5 : Memref sig .tc .vmem S1024x1024 .bf16) (harg5 : arg5.IsWhole) (arg6 : Memref sig .tc .vmem S128x1024 .f32) (harg6 : arg6.IsWhole) (hc0 : ¬cond0_0 i) (hc1 : cond0_1 i)
    (x0 : Vec F S128x1024 .bf16) (x1 : Vec F S1024x1024 .bf16) (x2 : Vec F S2048x1024 .bf16) (x3 : Vec F S2048x1024 .bf16) (x4 : Vec F S1024x1024 .bf16) (y : S128x1024.Idx) :
    ∃ pc ∈ (kernelRun0_B c i arg1 harg1 arg2 harg2 arg3 harg3 arg4 harg4 arg5 harg5 arg6 harg6 hc0 hc1 x0 x1 x2 x3 x4).1, y ∈ pc.1.set :=
  View.cover_of_tiledL (kernelRun0_B c i arg1 harg1 arg2 harg2 arg3 harg3 arg4 harg4 arg5 harg5 arg6 harg6 hc0 hc1 x0 x1 x2 x3 x4).1 S128x1024.size (by sl_kernel_rfl) y

/-- and this is what it stores. -/
def out0_B_5 (c : Dev nD) (i : grid0.Coords) (arg1 : Memref sig .tc .vmem S128x1024 .bf16) (harg1 : arg1.IsWhole) (arg2 : Memref sig .tc .vmem S1024x1024 .bf16) (harg2 : arg2.IsWhole) (arg3 : Memref sig .tc .vmem S2048x1024 .bf16) (harg3 : arg3.IsWhole) (arg4 : Memref sig .tc .vmem S2048x1024 .bf16) (harg4 : arg4.IsWhole) (arg5 : Memref sig .tc .vmem S1024x1024 .bf16) (harg5 : arg5.IsWhole) (arg6 : Memref sig .tc .vmem S128x1024 .f32) (harg6 : arg6.IsWhole) (hc0 : ¬cond0_0 i) (hc1 : cond0_1 i)
    (x0 : Vec F S128x1024 .bf16) (x1 : Vec F S1024x1024 .bf16) (x2 : Vec F S2048x1024 .bf16) (x3 : Vec F S2048x1024 .bf16) (x4 : Vec F S1024x1024 .bf16) : Vec F S128x1024 .f32 :=
  VO0_5.read (Elt F) (VO0_5.writes (Elt F) VO0_5.junk (kernelRun0_B c i arg1 harg1 arg2 harg2 arg3 harg3 arg4 harg4 arg5 harg5 arg6 harg6 hc0 hc1 x0 x1 x2 x3 x4).1)

/-! ## What the outputs hold after each point -/

/-- What the result's staging buffer holds after point `n`. -/
def outsAt0 (c : Dev nD) : (n : ℕ) → n < cfg0.N → Vec F S128x1024 .f32
  | 0, hn => out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) ((hcond0_0 ⟨0, hn⟩).mpr (Nat.zero_mod _)) (fun h => (fun h => by (try dsimp only at h); omega) ((hcond0_1 ⟨0, hn⟩).mp h)) (iblk V c 0 ⟨0, hn⟩) (iblk V c 1 ⟨0, hn⟩) (iblk V c 2 ⟨0, hn⟩) (iblk V c 3 ⟨0, hn⟩) (iblk V c 4 ⟨0, hn⟩)
  | n + 1, hn =>
    if h0 : (n + 1) % 16 = 0 then
      if h1 : 1 ≤ (n + 1) then
        False.elim (by have hN : n + 1 < 16 := lt_of_lt_of_eq hn (show cfg0.N = 16 from N_0); omega)
      else
        out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) ((hcond0_0 ⟨n + 1, hn⟩).mpr h0) (fun h => h1 ((hcond0_1 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩)
    else
      if h1 : 1 ≤ (n + 1) then
        out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (fun h => h0 ((hcond0_0 ⟨n + 1, hn⟩).mp h)) ((hcond0_1 ⟨n + 1, hn⟩).mpr h1) (iblk V c 0 ⟨n + 1, hn⟩) (iblk V c 1 ⟨n + 1, hn⟩) (iblk V c 2 ⟨n + 1, hn⟩) (iblk V c 3 ⟨n + 1, hn⟩) (iblk V c 4 ⟨n + 1, hn⟩)
      else
        False.elim (by have hN : n + 1 < 16 := lt_of_lt_of_eq hn (show cfg0.N = 16 from N_0); omega)

/-- At the first point: the dense branch's. -/
theorem outsAt0_A (c : Dev nD) (t : Fin cfg0.N) (h0 : t.val % 16 = 0) (h1 : ¬1 ≤ t.val) :
    outsAt0 V c t.val t.isLt = out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (fun h => h1 ((hcond0_1 t).mp h)) (iblk V c 0 t) (iblk V c 1 t) (iblk V c 2 t) (iblk V c 3 t) (iblk V c 4 t) := by
  obtain ⟨n, hn⟩ := t
  cases n with
  | zero => exact rfl
  | succ n => exact (dif_pos h0).trans ((dif_neg h1).trans rfl)

/-- At a later point: the sparse one's. -/
theorem outsAt0_B (c : Dev nD) (t : Fin cfg0.N) (h0 : ¬t.val % 16 = 0) (h1 : 1 ≤ t.val) :
    outsAt0 V c t.val t.isLt = out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) ((hcond0_1 t).mpr h1) (iblk V c 0 t) (iblk V c 1 t) (iblk V c 2 t) (iblk V c 3 t) (iblk V c 4 t) := by
  obtain ⟨n, hn⟩ := t
  cases n with
  | zero => exact (by exfalso; (try dsimp only at h0); exact absurd (Nat.zero_mod _) h0)
  | succ n => exact (dif_neg h0).trans ((dif_pos h1).trans rfl)

/-! ## The pipeline's proof data -/

/-- The call's proof data: nothing happens to the rest of the memory, and what the device owes its neighbours it keeps owing. -/
def adat (c : Dev nD) : Dat τ (Elt F) Unit ℕ UU ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => (outsAt0 V c t.val t.isLt)
  Φ _ := Pipeline.ΦA spec0 c
  q _ := fullShare
  owed _ := Ostart c

/-- The arrays are the ones found. -/
theorem A_eq (c : Dev nD) (w : Fin cfg0.W) : (adat V c).A w = V c (Pipeline.arrRef spec0 w) := by
  dsimp only [adat]

/-- What the body leaves in each staging buffer. -/
theorem after0_0 (c : Dev nD) (t : Fin cfg0.N) : (adat V c).after 0 t = iblk V c 0 t := by dsimp only [adat]
theorem after0_1 (c : Dev nD) (t : Fin cfg0.N) : (adat V c).after 1 t = iblk V c 1 t := by dsimp only [adat]
theorem after0_2 (c : Dev nD) (t : Fin cfg0.N) : (adat V c).after 2 t = iblk V c 2 t := by dsimp only [adat]
theorem after0_3 (c : Dev nD) (t : Fin cfg0.N) : (adat V c).after 3 t = iblk V c 3 t := by dsimp only [adat]
theorem after0_4 (c : Dev nD) (t : Fin cfg0.N) : (adat V c).after 4 t = iblk V c 4 t := by dsimp only [adat]
theorem after0_5 (c : Dev nD) (t : Fin cfg0.N) : (adat V c).after 5 t = (outsAt0 V c t.val t.isLt) := by dsimp only [adat]

/-- Each input's staging buffer holds its block. -/
theorem before0_0 (c : Dev nD) (t : Fin cfg0.N) (d) : (adat V c).before 0 t d = iblk V c 0 t :=
  before_of (adat V c) 0 rfl (fun _ => rfl) (fun _ _ _ => rfl) (fun t => by rw [after0_0]; unfold Dat.blockOf iblk; rw [A_eq]) t d _
    (by unfold Dat.fetched Dat.blockOf iblk; rw [A_eq]; rfl)
theorem before0_1 (c : Dev nD) (t : Fin cfg0.N) (d) : (adat V c).before 1 t d = iblk V c 1 t :=
  before_of (adat V c) 1 rfl (fun _ => rfl) (fun _ _ _ => rfl) (fun t => by rw [after0_1]; unfold Dat.blockOf iblk; rw [A_eq]) t d _
    (by unfold Dat.fetched Dat.blockOf iblk; rw [A_eq]; rfl)
theorem before0_2 (c : Dev nD) (t : Fin cfg0.N) (d) : (adat V c).before 2 t d = iblk V c 2 t :=
  before_of (adat V c) 2 rfl (fun _ => rfl) (fun _ _ _ => rfl) (fun t => by rw [after0_2]; unfold Dat.blockOf iblk; rw [A_eq]) t d _
    (by unfold Dat.fetched Dat.blockOf iblk; rw [A_eq]; rfl)
theorem before0_3 (c : Dev nD) (t : Fin cfg0.N) (d) : (adat V c).before 3 t d = iblk V c 3 t :=
  before_of (adat V c) 3 rfl (fun _ => rfl) (fun _ _ _ => rfl) (fun t => by rw [after0_3]; unfold Dat.blockOf iblk; rw [A_eq]) t d _
    (by unfold Dat.fetched Dat.blockOf iblk; rw [A_eq]; rfl)
theorem before0_4 (c : Dev nD) (t : Fin cfg0.N) (d) : (adat V c).before 4 t d = iblk V c 4 t :=
  before_of (adat V c) 4 rfl (fun _ => rfl) (fun _ _ _ => rfl) (fun t => by rw [after0_4]; unfold Dat.blockOf iblk; rw [A_eq]) t d _
    (by unfold Dat.fetched Dat.blockOf iblk; rw [A_eq]; rfl)

/-! ## The body obligation, at a generic point -/

/-- What the body starts with at a point, -/
def bodyPre (c : Dev nD) (t : Fin cfg0.N) : sProp 𝕄 :=
  iprop((adat V c).Φ t.castSucc ∗ (adat V c).owesAt () t.castSucc
    ∗ (∃ d, owns (c : Thread nD τ) (ms0_0 t) fullShare ((adat V c).before 0 t d))
    ∗ (∃ d, owns (c : Thread nD τ) (ms0_1 t) fullShare ((adat V c).before 1 t d))
    ∗ (∃ d, owns (c : Thread nD τ) (ms0_2 t) fullShare ((adat V c).before 2 t d))
    ∗ (∃ d, owns (c : Thread nD τ) (ms0_3 t) fullShare ((adat V c).before 3 t d))
    ∗ (∃ d, owns (c : Thread nD τ) (ms0_4 t) fullShare ((adat V c).before 4 t d))
    ∗ (∃ d, owns (c : Thread nD τ) (ms0_5 t) fullShare ((adat V c).before 5 t d)))

/-- and what it ends with. -/
def bodyPost (c : Dev nD) (t : Fin cfg0.N) : sProp 𝕄 :=
  iprop((adat V c).Φ t.succ ∗ (adat V c).owesAt () t.succ
    ∗ (adat V c).leavesExact 0 t
    ∗ (adat V c).leavesExact 1 t
    ∗ (adat V c).leavesExact 2 t
    ∗ (adat V c).leavesExact 3 t
    ∗ (adat V c).leavesExact 4 t
    ∗ (adat V c).leavesExact 5 t)

set_option maxHeartbeats 800000 in
/-- The body at any point runs from the one to the other. -/
theorem sound_body (c : Dev nD) (t : Fin cfg0.N) :
    bodyPre V c t ⊢ wp frame (wpE (defs₀ (F := F)) 𝒱₀ c none) Set.univ (bodyAt0 t) (fun _ => bodyPost V c t) := by
  unfold bodyPre bodyPost bodyAt0
  simp only [before0_0, before0_1, before0_2, before0_3, before0_4]
  rw [show (adat V c).Φ t.succ = (adat V c).Φ t.castSucc from rfl,
    show (adat V c).owesAt () t.succ = (adat V c).owesAt () t.castSucc from rfl]
  have hN : t.val < 16 := lt_of_lt_of_eq t.isLt (show cfg0.N = 16 from N_0)
  by_cases h0 : t.val % 16 = 0
  · by_cases h1 : 1 ≤ t.val
    · exfalso; omega
    · rw [show (adat V c).leavesExact 0 t = owns (c : Thread nD τ) (ms0_0 t) fullShare ((adat V c).after 0 t) from by
      unfold Dat.leavesExact; rw [liveAt0_0 t], after0_0]
      rw [show (adat V c).leavesExact 1 t = owns (c : Thread nD τ) (ms0_1 t) fullShare ((adat V c).after 1 t) from by
      unfold Dat.leavesExact; rw [liveAt0_1 t], after0_1]
      rw [show (adat V c).leavesExact 2 t = owns (c : Thread nD τ) (ms0_2 t) fullShare ((adat V c).after 2 t) from by
      unfold Dat.leavesExact; rw [liveAt0_2 t], after0_2]
      rw [show (adat V c).leavesExact 3 t = owns (c : Thread nD τ) (ms0_3 t) fullShare ((adat V c).after 3 t) from by
      unfold Dat.leavesExact; rw [liveAt0_3 t], after0_3]
      rw [show (adat V c).leavesExact 4 t = owns (c : Thread nD τ) (ms0_4 t) fullShare ((adat V c).after 4 t) from by
      unfold Dat.leavesExact; rw [liveAt0_4 t], after0_4]
      rw [show (adat V c).leavesExact 5 t = owns (c : Thread nD τ) (ms0_5 t) fullShare ((adat V c).after 5 t) from by
      unfold Dat.leavesExact; rw [liveAt0_5_A t ((hcond0_0 t).mpr h0) (fun h => h1 ((hcond0_1 t).mp h))], after0_5]
      rw [outsAt0_A V c t h0 h1]
      unfold out0_A_5
      iintro ⟨HΦ, Ho, ⟨%d0, H0⟩, ⟨%d1, H1⟩, ⟨%d2, H2⟩, ⟨%d3, H3⟩, ⟨%d4, H4⟩, ⟨%d5, H5⟩⟩
      iapply ((kernelRun0_A c (grid0.coords t) _ _ _ _ _ _ _ _ _ _ _ _ ((hcond0_0 t).mpr h0) (fun h => h1 ((hcond0_1 t).mp h)) (iblk V c 0 t) (iblk V c 1 t) (iblk V c 2 t) (iblk V c 3 t) (iblk V c 4 t)).2 Set.univ _)
      isplitl [H0]; · iexact H0
      isplitl [H1]; · iexact H1
      isplitl [H2]; · iexact H2
      isplitl [H3]; · iexact H3
      isplitl [H4]; · iexact H4
      isplitl [H5]; · iexists _; iexact H5
      iintro ⟨H0, H1, H2, H3, H4, ⟨%e5, H5⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover0_A_5 c _ _ _ _ _ _ _ _ _ _ _ _ _ _ _ _ _ _ _ _)
  · by_cases h1 : 1 ≤ t.val
    · rw [show (adat V c).leavesExact 0 t = owns (c : Thread nD τ) (ms0_0 t) fullShare ((adat V c).after 0 t) from by
      unfold Dat.leavesExact; rw [liveAt0_0 t], after0_0]
      rw [show (adat V c).leavesExact 1 t = owns (c : Thread nD τ) (ms0_1 t) fullShare ((adat V c).after 1 t) from by
      unfold Dat.leavesExact; rw [liveAt0_1 t], after0_1]
      rw [show (adat V c).leavesExact 2 t = owns (c : Thread nD τ) (ms0_2 t) fullShare ((adat V c).after 2 t) from by
      unfold Dat.leavesExact; rw [liveAt0_2 t], after0_2]
      rw [show (adat V c).leavesExact 3 t = owns (c : Thread nD τ) (ms0_3 t) fullShare ((adat V c).after 3 t) from by
      unfold Dat.leavesExact; rw [liveAt0_3 t], after0_3]
      rw [show (adat V c).leavesExact 4 t = owns (c : Thread nD τ) (ms0_4 t) fullShare ((adat V c).after 4 t) from by
      unfold Dat.leavesExact; rw [liveAt0_4 t], after0_4]
      rw [show (adat V c).leavesExact 5 t = owns (c : Thread nD τ) (ms0_5 t) fullShare ((adat V c).after 5 t) from by
      unfold Dat.leavesExact; rw [liveAt0_5_B t (fun h => h0 ((hcond0_0 t).mp h)) ((hcond0_1 t).mpr h1)], after0_5]
      rw [outsAt0_B V c t h0 h1]
      unfold out0_B_5
      iintro ⟨HΦ, Ho, ⟨%d0, H0⟩, ⟨%d1, H1⟩, ⟨%d2, H2⟩, ⟨%d3, H3⟩, ⟨%d4, H4⟩, ⟨%d5, H5⟩⟩
      iapply ((kernelRun0_B c (grid0.coords t) _ _ _ _ _ _ _ _ _ _ _ _ (fun h => h0 ((hcond0_0 t).mp h)) ((hcond0_1 t).mpr h1) (iblk V c 0 t) (iblk V c 1 t) (iblk V c 2 t) (iblk V c 3 t) (iblk V c 4 t)).2 Set.univ _)
      isplitl [H0]; · iexact H0
      isplitl [H1]; · iexact H1
      isplitl [H2]; · iexact H2
      isplitl [H3]; · iexact H3
      isplitl [H4]; · iexact H4
      isplitl [H5]; · iexists _; iexact H5
      iintro ⟨H0, H1, H2, H3, H4, ⟨%e5, H5⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover0_B_5 c _ _ _ _ _ _ _ _ _ _ _ _ _ _ _ _ _ _ _ _)
    · exfalso; omega

/-- The body that the call runs at a point. -/
theorem defs₀_row (t : Fin cfg0.N) :
    defs₀ (F := F) .tc cfg0.body (cfg0.bodyArgs t (cfg0.slots t)) = bodyAt0 t := by
  unfold defs₀; rw [Defs.onTc_tc]

/-- The body obligation at every point. -/
theorem body_obligation (c : Dev nD) : BodyObligation (adat V c) (defs₀ (F := F)) 𝒱₀ () Set.univ := fun t => by
  rw [bigSep_W0, bigSep_W0, defs₀_row]
  exact triple_restated (sound_body V c t) rfl .rfl fun _ => .rfl

end Cert.KernelIdealProof.Attend

end
-- ==== Proof.KernelIdeal.Launch.lean ====
/-
# The run

The host code, the attention call and the all-reduce, launched on all sixteen devices. Between the calls a device keeps its
part of the protocol, the credit for what its neighbours owe it, and its own debt to them.
-/
module

public import proofs.«01_k».proof.Proof.KernelIdeal.Cut
public import proofs.«01_k».proof.Proof.KernelIdeal.Attend.Frame
public import proofs.«01_k».proof.Proof.Gen.KernelIdeal.Regions
public import Idealize.ShloMosaic.Lib.Pipeline.CollectiveSegs
public import Idealize.ShloMosaic.Lib.Pipeline.RegionTalk

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

/-- The memory at launch. -/
def s₀ : MemSt nD τ sig (Elt F) := ⟨m, fun _ => 0, ρ⟩

/-- What the host code leaves in a device's buffers. -/
def hostV (c : Dev nD) (b : Ref sig .tc) : Buf (Elt F) ((c : Thread nD τ).loc b) := V1 m c (Proc.devRef .tc b)

/-- What the attention call leaves in its result: what the all-reduce takes. -/
def xstg (c : Dev nD) : OV F := (Attend.adat (hostV m) c).arrAt 5 cfg0.N

/-- What the calls leave in their results. -/
def outs : Outs (F := F) := fun _ r c =>
  Function.update (Function.update (V1 m c) (Proc.devRef .tc main_v20) (xstg m c)) (Proc.devRef .tc main_v21) (O3 (xstg m) 3 c) (Proc.devRef .tc r)

theorem outs_v20 (c : Dev nD) : outs m 2 main_v20 c = xstg m c := by
  unfold outs
  rw [Function.update_of_ne (StableHlo.devRef_ne_of_ne (by decide)), Function.update_self]
theorem outs_v21 (c : Dev nD) : outs m 3 main_v21 c = O3 (xstg m) 3 c := by
  unfold outs
  rw [Function.update_self]

/-- The buffers after the attention call and after the all-reduce. -/
def W1 (c : Dev nD) : Valuation τ sig (Elt F) := V1 m c
def W2 (c : Dev nD) : Valuation τ sig (Elt F) := V2 m (outs m) c
def W3 (c : Dev nD) : Valuation τ sig (Elt F) := V3 m (outs m) c

theorem W2_v20 (c : Dev nD) : W2 m c (Proc.devRef .tc main_v20) = xstg m c := by
  show Function.update (V1 m c) (Proc.devRef .tc main_v20) (outs m 2 main_v20 c) (Proc.devRef .tc main_v20) = _
  rw [Function.update_self, outs_v20]
theorem W3_v20 (c : Dev nD) : W3 m c (Proc.devRef .tc main_v20) = xstg m c :=
  (V3_of m (outs m) c main_v20 (by decide)).trans (W2_v20 m c)
theorem W3_v21 (c : Dev nD) : W3 m c (Proc.devRef .tc main_v21) = O3 (xstg m) 3 c := by
  show Function.update (V2 m (outs m) c) (Proc.devRef .tc main_v21) (outs m 3 main_v21 c) (Proc.devRef .tc main_v21) = _
  rw [Function.update_self, outs_v21]
theorem W2_of (c : Dev nD) (r : Ref sig .tc) (h : r ∉ ([main_v20] : List (Ref sig .tc))) :
    W2 m c (Proc.devRef .tc r) = W1 m c (Proc.devRef .tc r) := V2_of m (outs m) c r h
theorem W2_eq (c : Dev nD) (b : DevRef τ sig) (h : b ≠ Proc.devRef .tc main_v20) : W2 m c b = W1 m c b := Function.update_of_ne h ..
theorem W3_eq (c : Dev nD) (b : DevRef τ sig) (h : b ≠ Proc.devRef .tc main_v21) : W3 m c b = W2 m c b := Function.update_of_ne h ..

/-! ## The all-reduce's call -/

/-- What the body starts with besides the staging buffers, and what it ends with. -/
def start (c : Dev nD) : sProp 𝕄 := iprop(∃ K, hand (xstg m) K c)
def Φ₀ (c : Dev nD) : sProp 𝕄 := iprop((start m c ∗ slots c ∗ rests c) ∗ ∃ r, prngReg c r)
def Φ₁ (c : Dev nD) : sProp 𝕄 := iprop(((slots c ∗ rests c) ∗ sems c) ∗ ∃ r, prngReg c r)

def rdat (c : Dev nD) : Dat τ (Elt F) Unit ℕ UU ℕ cfg1 c where
  A w := W2 m c (Proc.devRef .tc (Pipeline.arrRef spec1 w))
  after w _ := match w with
    | ⟨0, _⟩ => xstg m c
    | ⟨1, _⟩ => O3 (xstg m) 3 c
  Φ t := match t with
    | ⟨0, _⟩ => Φ₀ m c
    | ⟨_ + 1, _⟩ => Φ₁ c
  q _ := fullShare
  owed t := match t with
    | ⟨0, _⟩ => Ostart c
    | ⟨_ + 1, _⟩ => 0

/-- Both calls' data. -/
def pdats (p : Fin 2) (c : Dev nD) : Dat τ (Elt F) Unit ℕ UU ℕ (cfgs p) c := match p with
  | ⟨0, _⟩ => Attend.adat (hostV m) c
  | ⟨1, _⟩ => rdat m c

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer at contents `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (rdat m c).owesAt () t1_0.castSucc
    ∗ (∃ d, stg c cc1_stg0_0 ((rdat m c).before (0 : Fin 2) t1_0 d))
    ∗ (∃ d, stg c cc1_stg1_0 ((rdat m c).before (1 : Fin 2) t1_0 d)))
def bodyPost (c : Dev nD) : sProp 𝕄 :=
  iprop(Φ₁ c ∗ (rdat m c).owesAt () t1_0.succ ∗ stg c cc1_stg0_0 (xstg m c) ∗ stg c cc1_stg1_0 (O3 (xstg m) 3 c))

theorem owes_open (c : Dev nD) : (rdat m c).owesAt () t1_0.castSucc ⊢ ow (F := F) c (Ostart c) := by
  unfold Dat.owesAt Pipeline.owesWithin ow
  rw [show (rdat m c).owed t1_0.castSucc = Ostart c from rfl]
  iintro ⟨%W, %hW, HO⟩
  iexists W; iexact HO
theorem owes_close (c : Dev nD) : ow (F := F) c 0 ⊢ (rdat m c).owesAt () t1_0.succ := by
  unfold Dat.owesAt Pipeline.owesWithin ow
  rw [show (rdat m c).owed t1_0.succ = 0 from rfl]
  iintro ⟨%W, HO⟩
  iexists W
  isplitr; · ipureintro; exact fun _ _ => Or.inl trivial
  iexact HO

/-- The one block of either array is the array. -/
theorem blk_off0 : ∀ a, win1_0.index (0 : Fin 1) a * win1_0.size a = 0 := by decide +kernel
theorem read_blk0 (f : OV F) : (win1_0.blk (0 : Fin 1)).view.read (Elt F) f = f := by
  funext j
  show f _ = f j
  refine congrArg f (funext fun a => Fin.ext ?_)
  show win1_0.index (0 : Fin 1) a * win1_0.size a + 1 * (j a).val = (j a).val
  rw [blk_off0]; omega
theorem blk_off1 : ∀ a, win1_1.index (0 : Fin 1) a * win1_1.size a = 0 := by decide +kernel
theorem read_blk1 (f : OV F) : (win1_1.blk (0 : Fin 1)).view.read (Elt F) f = f := by
  funext j
  show f _ = f j
  refine congrArg f (funext fun a => Fin.ext ?_)
  show win1_1.index (0 : Fin 1) a * win1_1.size a + 1 * (j a).val = (j a).val
  rw [blk_off1]; omega

theorem before_x (c : Dev nD) (d) : (rdat m c).before (0 : Fin 2) t1_0 d = xstg m c := by
  unfold Dat.before; rw [if_pos (fetch1_0 t1_0)]
  exact (read_blk0 (W2 m c (Proc.devRef .tc main_v20))).trans (W2_v20 m c)

set_option maxRecDepth 100000 in
/-- The body obligation of the all-reduce on core `c`. -/
theorem body_obligation (c : Dev nD) : BodyObligation (rdat (F := F) m c) (defs₀ (F := F)) 𝒱₀ () Set.univ := fun t => by
  rw [fin_N1 t]
  rw [bigSep_W1, bigSep_W1]
  simp only [owns_whole_eq]
  show bodyPre m c ⊢ wp frame (wpE (defs₀ (F := F)) 𝒱₀ c none) Set.univ
    (cc1_body (Memref.whole cc1_stg0_0) (Memref.isWhole_whole _) (Memref.whole cc1_stg1_0) (Memref.isWhole_whole _)
            (Memref.whole cc1_scratch0) (Memref.isWhole_whole _) (Memref.whole cc1_scratch1) (Memref.isWhole_whole _)
            (Memref.whole cc1_scratch2) (Memref.isWhole_whole _) (Memref.whole cc1_scratch3) (Memref.isWhole_whole _)
            (Memref.whole cc1_scratch4) (Memref.isWhole_whole _) (Memref.whole cc1_scratch5) (Memref.isWhole_whole _)
            (Memref.whole cc1_scratch6) (Memref.isWhole_whole _) (Memref.whole cc1_scratch7) (Memref.isWhole_whole _)
            (Memref.whole cc1_scratch8) (Memref.isWhole_whole _) (Memref.whole cc1_scratch9) (Memref.isWhole_whole _)
            (Memref.whole cc1_scratch10) (Memref.isWhole_whole _) (Memref.whole cc1_scratch11) (Memref.isWhole_whole _)
            cc1_scratch12 cc1_scratch13 cc1_scratch14 cc1_scratch15 cc1_scratch16 cc1_scratch17 cc1_scratch18 cc1_scratch19 cc1_scratch20 cc1_scratch21)
      (fun _ => bodyPost m c)
  unfold bodyPre Φ₀ start
  iintro ⟨⟨⟨⟨%K, Hh⟩, Hsl, Hrest⟩, Hp⟩, Ho, ⟨%d0, %g0, %hg0, Hx⟩, ⟨%d1, %g1, %hg1, Hout⟩⟩
  have hx : g0 = xstg m c := hg0.trans (before_x m c d0)
  subst hx
  ihave HO := (owes_open m c) $$ Ho
  iapply (sound_body (xstg m) K c g1 fun _ => bodyPost m c) $$ [Hh Hsl HO Hx Hout]
  · isplitl [Hh]; · iexact Hh
    isplitl [Hsl]; · iexact Hsl
    isplitl [HO]; · iexact HO
    isplitl [Hx]; · unfold xPts; iexact Hx
    unfold oPts; iexact Hout
  iintro ⟨Hsl, Hz, HO, Hx, Hout⟩
  unfold bodyPost Φ₁
  isplitl [Hsl Hrest Hz Hp]
  · isplitl [Hsl Hrest Hz]
    · isplitl [Hsl Hrest]
      · isplitl [Hsl] <;> iassumption
      · iexact Hz
    · iexact Hp
  isplitl [HO]; · iapply (owes_close m c); iexact HO
  isplitl [Hx]
  · iexists _; isplitr; · (ipureintro; rfl)
    unfold xPts; iexact Hx
  iexists _; isplitr; · (ipureintro; rfl)
  unfold oPts; iexact Hout

theorem cover (i : S2048x1024.Idx) : ∃ t : Fin cfg1.N, (cfg1.win 1).flush t = true ∧ i ∈ ((cfg1.win 1).blk t).view.set := by
  refine ⟨t1_0, flush1_1 _, ?_⟩
  rw [show t1_0 = (0 : Fin 1) from rfl]
  unfold View.set
  rw [Finset.mem_map]
  refine ⟨i, Finset.mem_univ _, funext fun a => Fin.ext ?_⟩
  show win1_1.index (0 : Fin 1) a * win1_1.size a + 1 * (i a).val = (i a).val
  rw [blk_off1]; omega

/-- The result array holds the last buffer. -/
theorem final_v21 (c : Dev nD) : (rdat m c).arrAt (1 : Fin 2) cfg1.N = O3 (xstg m) 3 c :=
  (rdat m c).arrAt_eq_of_cover 1 (O3 (xstg m) 3 c) (fun t _ => by
    obtain rfl := fin_N1 t
    have ha : (rdat m c).after 1 t1_0 = O3 (xstg m) 3 c := rfl
    unfold Pipeline.Dat.flushed
    rw [ha]
    exact (read_blk1 _).symm) cover

/-! ## The two calls as regions -/

theorem share_eq (c : Dev nD) (w : Fin cfg1.W) : (rdat m c).share w = fullShare := by unfold Dat.share; split <;> rfl
theorem share_eq0 (c : Dev nD) (w : Fin cfg0.W) : (Attend.adat (hostV m) c).share w = fullShare := by unfold Dat.share; split <;> rfl

theorem kit0 : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0
theorem kit1 : Pipeline.PLaunchFacts (nD := nD) (τ := τ) (pcfgs (F := F)) 1 where
  cellOf_inj a := by rw [Subsingleton.elim a adm]; exact cellOf_inj
  win := winFacts1
  pre := Pipeline.PreFacts.none _
  block_pos := block_pos1
  arr_whole := arr_whole1
  stage_whole := stage_whole1

/-- What a device owes stands above the staging cells. -/
theorem owed_above (c : Dev nD) (g : GSem nD τ sig) (u : Unit) (h : 0 < Ostart c g u) : u ∈ L g ∧ 0 < lv g u := by
  rcases Ostart_pos h with ⟨d, rfl⟩ | ⟨q, d, rfl⟩
  · exact ⟨Finset.mem_singleton_self _, Nat.one_pos⟩
  · refine ⟨Finset.mem_singleton_self _, ?_⟩
    rw [lv_rcv]; omega

/-- What a device keeps through the attention call besides the buffers. -/
def keep (c : Dev nD) : sProp 𝕄 := iprop((∃ K, part (xstg m) K c) ∗ credOf c)
/-- The buffers a call does not take. -/
abbrev others0 : Finset (DevRef τ sig) := Pipeline.ucRefs τ sig \ Pipeline.arrRefs (τ := τ) spec0
abbrev others1 : Finset (DevRef τ sig) := Pipeline.ucRefs τ sig \ Pipeline.arrRefs (τ := τ) spec1

/-- The staging cells stand lowest. -/
theorem stage_low0 : ∀ (w : Fin cfg0.W) (s : Fin (cfg0.win w).nbuf), ((cfg0.win w).sem s).val < 12 := by decide
theorem stage_low1 : ∀ (w : Fin cfg1.W) (s : Fin (cfg1.win w).nbuf), ((cfg1.win w).sem s).val < 12 := by decide

theorem arr_in0 (c : Dev nD) (w : Fin cfg0.W) : (Attend.adat (hostV m) c).arrAt w 0 = W1 m c (Proc.devRef .tc (Pipeline.arrRef spec0 w)) := rfl

theorem arr_out0 (c : Dev nD) (w : Fin cfg0.W) :
    (Attend.adat (hostV m) c).arrAt w cfg0.N = W2 m c (Proc.devRef .tc (Pipeline.arrRef spec0 w)) := by
  have hin (w : Fin cfg0.W) (hi : (cfg0.win w).isOut = false) (hn : Pipeline.arrRef spec0 w ∉ ([main_v20] : List (Ref sig .tc))) :
      (Attend.adat (hostV m) c).arrAt w cfg0.N = W2 m c (Proc.devRef .tc (Pipeline.arrRef spec0 w)) :=
    ((Attend.adat (hostV m) c).arrAt_in w hi _).trans (W2_of m c _ hn).symm
  fin_cases w
  · exact hin 0 rfl (by decide)
  · exact hin 1 rfl (by decide)
  · exact hin 2 rfl (by decide)
  · exact hin 3 rfl (by decide)
  · exact hin 4 rfl (by decide)
  · exact (W2_v20 m c).symm

theorem arr_out1 (c : Dev nD) (w : Fin cfg1.W) :
    (rdat m c).arrAt w cfg1.N = W3 m c (Proc.devRef .tc (Pipeline.arrRef spec1 w)) := by
  fin_cases w
  · exact ((rdat m c).arrAt_in 0 rfl _).trans ((W2_v20 m c).trans (W3_v20 m c).symm)
  · exact (final_v21 m c).trans (W3_v21 m c).symm

theorem others0_eq (c : Dev nD) : ∀ b ∈ others0, W2 m c b = W1 m c b := fun b hb =>
  W2_eq m c b fun h => (Finset.mem_sdiff.mp hb).2 (by rw [h]; decide)
theorem others1_eq (c : Dev nD) : ∀ b ∈ others1, W3 m c b = W2 m c b := fun b hb =>
  W3_eq m c b fun h => (Finset.mem_sdiff.mp hb).2 (by rw [h]; decide)

set_option backward.isDefEq.respectTransparency.types false in
/-- The attention call: nothing is sent, and the device goes on owing. -/
def reg0 : Pipeline.RegionSeg (pcfgs (F := F)) adm (pdats m) () defs₀ 𝒱₀ L lv 0 :=
  Pipeline.RegionSeg.ofHeld (pcfgs (F := F)) adm (pdats m) () defs₀ 𝒱₀ L lv 0 Ostart
    (fun c => iprop(∃ r, prngReg c r)) (fun c => iprop(∃ r, prngReg c r)) kit0 rfl
    (fun c => (Attend.body_obligation (hostV m) c).loose) (fun _ _ => rfl) (fun _ => rfl) (fun c w => share_eq0 m c w)
    (fun c => .rfl) (fun c => .rfl)
    (fun _ => 0)
    ⟨fun c w s => by rw [L_tc]; exact Finset.mem_singleton_self _,
      fun c w s => le_of_eq (lv_snd _ (stage_low0 w s) c ()),
      fun c g u h => owed_above c g u h⟩
    (fun c => iprop(StableHlo.held (c.tc : Thread nD τ) others0 (W1 m c) ∗ keep m c)) (W1 m) (W2 m) (fun c w => arr_in0 m c w) (fun c w => arr_out0 m c w)

theorem hopen (c : Dev nD) : iprop(keep m c ∗ Pipeline.ownSems0 osem c ∗ levAts L lv) ⊢ (|={Set.univ}=> start m c : sProp 𝕄) := by
  unfold keep start
  iintro ⟨⟨⟨%K, Hp⟩, Hc⟩, Ho, HL⟩
  imod (hand_intro (xstg m) c K) $$ [Hp Hc Ho HL] with HH
  · isplitl [Hp]; · iexact Hp
    isplitl [Hc]; · iexact Hc
    isplitl [Ho] <;> iassumption
  imodintro; iexists K; iexact HH

theorem hin1 (c : Dev nD) :
    iprop(Pipeline.scopedRest spec1 c ∗ (∃ r, prngReg c r) ∗ StableHlo.held (c.tc : Thread nD τ) ∅ (W2 m c) ∗ start m c) ⊢ Φ₀ m c := by
  unfold Φ₀
  iintro ⟨Hr, Hp, -, Hs⟩
  isplitr [Hp]
  · isplitl [Hs]; · iexact Hs
    iapply (scratch_cut c); iexact Hr
  · iexact Hp

theorem held_empty (c : Dev nD) (V : Valuation τ sig (Elt F)) : (StableHlo.held (c.tc : Thread nD τ) ∅ V : sProp 𝕄) = iprop(emp) := by
  unfold StableHlo.held; exact bigSep_empty

theorem hout1 (c : Dev nD) : Φ₁ c
    ⊢ iprop(Pipeline.scopedRest spec1 c ∗ (∃ r, prngReg c r) ∗ StableHlo.held (c.tc : Thread nD τ) ∅ (W3 m c) ∗ Pipeline.ownSems0 osem c ∗ unscopedSems0 c) := by
  rw [held_empty]
  unfold Φ₁
  iintro ⟨⟨Hr, Hz⟩, Hp⟩
  ihave Hz := (sems_exit c) $$ Hz
  icases Hz with ⟨Ho, Hu⟩
  isplitl [Hr]; · iapply (scratch_join c); iexact Hr
  isplitl [Hp]; · iexact Hp
  isplitr; · iempintro
  isplitl [Ho] <;> iassumption

theorem cut1 (c : Dev nD) (t : Fin (cfg1.N + 1)) (g : GSem nD τ sig) (u : Unit) (h : 0 < (rdat m c).owed t g u) : u ∈ L g ∧ 0 < lv g u := by
  rcases t with ⟨_ | _, ht⟩
  · exact owed_above c g u h
  · exact absurd h (Nat.lt_irrefl 0)

set_option backward.isDefEq.respectTransparency.types false in
/-- The all-reduce: the device ends owing nothing. -/
def reg1 : Pipeline.RegionSeg (pcfgs (F := F)) adm (pdats m) () defs₀ 𝒱₀ L lv 1 :=
  Pipeline.RegionSeg.ofTalk (pcfgs (F := F)) adm (pdats m) () defs₀ 𝒱₀ L lv 1 osem ownSemFacts
    ∅ others1 (Finset.empty_subset _) kit1 rfl (fun c => (body_obligation m c).loose)
    (fun _ => 0) Ostart (fun c => (zero_add (Ostart c)).symm) (fun _ => rfl) (fun _ => rfl) (fun c w => share_eq m c w)
    (W2 m) (W3 m) (fun c b hb => others1_eq m c b (Finset.mem_sdiff.mp hb).1)
    (keep m) (fun c => unscopedSems0 c) (start m) (fun c => unscopedSems0 c) (hopen m) (hin1 m) (hout1 m)
    (fun c => by iintro H; imodintro; iexact H)
    (fun _ => 0)
    ⟨fun c w s => by rw [L_tc]; exact Finset.mem_singleton_self _,
      fun c w s => le_of_eq (lv_snd _ (stage_low1 w s) c ()), fun c t g u h => cut1 m c t g u h⟩
    (fun _ => iprop(emp))
    (fun _ _ => rfl) (fun c w => arr_out1 m c w)

/-! ## The whole program -/

/-- What rides along between the items. -/
def E (j : Fin 3) (c : Dev nD) : sProp 𝕄 := match j with
  | 0 => iprop(keep m c ∗ (∃ r, prngReg c r) ∗ ow c (Ostart c))
  | 1 => iprop(keep m c ∗ (∃ r, prngReg c r) ∗ ow c (Ostart c))
  | 2 => iprop(unscopedSems0 c ∗ ow c 0)

theorem held_split0 (c : Dev nD) (V : Valuation τ sig (Elt F)) : (StableHlo.held (c.tc : Thread nD τ) (Pipeline.ucRefs τ sig) V : sProp 𝕄)
    = iprop(StableHlo.held (c.tc : Thread nD τ) (Pipeline.arrRefs (τ := τ) spec0) V ∗ StableHlo.held (c.tc : Thread nD τ) others0 V) :=
  StableHlo.held_sub_split (c.tc : Thread nD τ) (Pipeline.arrRefs_sub_ucRefs spec0 (by decide)) V
theorem held_split1 (c : Dev nD) (V : Valuation τ sig (Elt F)) : (StableHlo.held (c.tc : Thread nD τ) (Pipeline.ucRefs τ sig) V : sProp 𝕄)
    = iprop(StableHlo.held (c.tc : Thread nD τ) (Pipeline.arrRefs (τ := τ) spec1) V ∗ StableHlo.held (c.tc : Thread nD τ) others1 V) :=
  StableHlo.held_sub_split (c.tc : Thread nD τ) (Pipeline.arrRefs_sub_ucRefs spec1 (by decide)) V

theorem pre0 (c : Dev nD) : iprop(StableHlo.held (c.tc : Thread nD τ) (Pipeline.ucRefs τ sig) (V1 m c) ∗ E m 0 c) ⊢ (reg0 m).pre c := by
  show _ ⊢ iprop(StableHlo.held (c.tc : Thread nD τ) (Pipeline.arrRefs (τ := τ) spec0) (W1 m c) ∗ (∃ r, prngReg c r)
    ∗ (StableHlo.held (c.tc : Thread nD τ) others0 (W1 m c) ∗ keep m c) ∗ ow c (Ostart c))
  rw [held_split0]
  unfold E
  iintro ⟨⟨Ha, Hb⟩, Hk, Hp, Ho⟩
  isplitl [Ha]; · iexact Ha
  isplitl [Hp]; · iexact Hp
  isplitl [Hb Hk]
  · isplitl [Hb]; · iexact Hb
    iexact Hk
  iexact Ho

theorem post0 (c : Dev nD) : (reg0 m).post c ⊢ iprop(StableHlo.held (c.tc : Thread nD τ) (Pipeline.ucRefs τ sig) (V2 m (outs m) c) ∗ E m 1 c) := by
  show iprop(StableHlo.held (c.tc : Thread nD τ) (Pipeline.arrRefs (τ := τ) spec0) (W2 m c) ∗ (∃ r, prngReg c r)
    ∗ (StableHlo.held (c.tc : Thread nD τ) others0 (W1 m c) ∗ keep m c) ∗ ow c (Ostart c)) ⊢ _
  rw [held_split0, ← StableHlo.held_congr (c.tc : Thread nD τ) (others0_eq m c)]
  unfold E
  iintro ⟨Ha, Hp, ⟨Hb, Hk⟩, Ho⟩
  isplitl [Ha Hb]
  · isplitl [Ha]; · iexact Ha
    iexact Hb
  isplitl [Hk]; · iexact Hk
  isplitl [Hp]; · iexact Hp
  iexact Ho

theorem pre1 (c : Dev nD) : iprop(StableHlo.held (c.tc : Thread nD τ) (Pipeline.ucRefs τ sig) (V2 m (outs m) c) ∗ E m 1 c) ⊢ (reg1 m).pre c := by
  show _ ⊢ iprop(StableHlo.held (c.tc : Thread nD τ) (Pipeline.arrRefs (τ := τ) spec1) (W2 m c) ∗ (∃ r, prngReg c r)
    ∗ (StableHlo.held (c.tc : Thread nD τ) others1 (W2 m c) ∗ emp) ∗ keep m c ∗ ow c (0 + Ostart c))
  rw [held_split1, zero_add]
  unfold E
  iintro ⟨⟨Ha, Hb⟩, Hk, Hp, Ho⟩
  isplitl [Ha]; · iexact Ha
  isplitl [Hp]; · iexact Hp
  isplitl [Hb]
  · isplitl [Hb]; · iexact Hb
    iempintro
  isplitl [Hk]; · iexact Hk
  iexact Ho

theorem post1 (c : Dev nD) : (reg1 m).post c ⊢ iprop(StableHlo.held (c.tc : Thread nD τ) (Pipeline.ucRefs τ sig) (V3 m (outs m) c) ∗ E m 2 c) := by
  show iprop(StableHlo.held (c.tc : Thread nD τ) (Pipeline.arrRefs (τ := τ) spec1) (W3 m c) ∗ (∃ r, prngReg c r)
    ∗ (StableHlo.held (c.tc : Thread nD τ) others1 (W3 m c) ∗ emp) ∗ unscopedSems0 c ∗ ow c 0) ⊢ _
  rw [held_split1]
  unfold E
  iintro ⟨Ha, -, ⟨Hb, -⟩, Hu, Ho⟩
  isplitl [Ha Hb]
  · isplitl [Ha]; · iexact Ha
    iexact Hb
  isplitl [Hu] <;> iassumption

/-- The protocol dealt and every device at its first item. -/
theorem init :
    iprop((bigSep Finset.univ fun c : Dev nD => iprop(unscopedBufs c (fun b => m ((c : Thread nD τ).loc b)) ∗ unscopedSems0 c
          ∗ owes (c : Thread nD τ) (Ostart c) ∅ ∗ Pipeline.launchCred Ostart c ∗ prngReg c (ρ c) ∗ G c)) ∗ levAts L lv)
      ⊢ (|={Set.univ}=> bigSep Finset.univ fun c : Dev nD =>
          iprop(StableHlo.held (c.tc : Thread nD τ) (Pipeline.ucRefs τ sig) (V0 m c) ∗ E m 0 c) : sProp 𝕄) := by
  have hcore (c : Dev nD) : iprop(unscopedBufs c (fun b => m ((c : Thread nD τ).loc b)) ∗ unscopedSems0 c
        ∗ owes (c : Thread nD τ) (Ostart c) ∅ ∗ Pipeline.launchCred Ostart c ∗ prngReg c (ρ c) ∗ G c)
      ⊢ (iprop((StableHlo.held (c.tc : Thread nD τ) (Pipeline.ucRefs τ sig) (V0 m c) ∗ credOf c ∗ (∃ r, prngReg c r) ∗ ow c (Ostart c))
          ∗ (semVal (barCell c) 0 ∗ G c)) : sProp 𝕄) := by
    rw [← Pipeline.unscopedBufs_held (Ix := Unit) (Name := ℕ) (U := UU) (Lvl := ℕ) c (V0 m c), unscoped_sems]
    iintro ⟨Hh, Hus, HO, Hcr, Hp, HG⟩
    ihave Hc := (creds (F := F) c) $$ Hcr
    isplitl [Hh Hc HO Hp]
    · isplitl [Hh]; · iexact Hh
      isplitl [Hc]; · unfold credOf; iexact Hc
      isplitl [Hp]; · iexists (ρ c); iexact Hp
      unfold ow; iexists _; iexact HO
    isplitl [Hus] <;> iassumption
  have hlast (c : Dev nD) : iprop((StableHlo.held (c.tc : Thread nD τ) (Pipeline.ucRefs τ sig) (V0 m c) ∗ credOf c ∗ (∃ r, prngReg c r) ∗ ow c (Ostart c))
        ∗ ∃ K, part (xstg m) K c)
      ⊢ (iprop(StableHlo.held (c.tc : Thread nD τ) (Pipeline.ucRefs τ sig) (V0 m c) ∗ E m 0 c) : sProp 𝕄) := by
    unfold E keep
    iintro ⟨⟨Hh, Hc, Hp, Ho⟩, HK⟩
    isplitl [Hh]; · iexact Hh
    isplitl [HK Hc]
    · isplitl [HK] <;> iassumption
    isplitl [Hp] <;> iassumption
  iintro ⟨H, -⟩
  have hcores := bigSep_mono (s := (Finset.univ : Finset (Dev nD))) fun c _ => hcore c
  have hlasts := bigSep_mono (s := (Finset.univ : Finset (Dev nD))) fun c _ => hlast c
  rw [bigSep_sep' (Φ := fun c : Dev nD => iprop(StableHlo.held (c.tc : Thread nD τ) (Pipeline.ucRefs τ sig) (V0 m c) ∗ credOf c ∗ (∃ r, prngReg c r) ∗ ow c (Ostart c)))] at hcores hlasts
  ihave H' := (show (_ : sProp 𝕄) ⊢ _ from hcores) $$ H
  icases H' with ⟨HB, H3⟩
  imod (glob (xstg m)) $$ H3 with HK
  imodintro
  iapply (show (_ : sProp 𝕄) ⊢ _ from hlasts)
  isplitl [HB] <;> iassumption

theorem unscoped_eq : ∀ sm : SemLoc sig, sm.isScoped .tc = false → sm = .reg barS := by decide +kernel

/-- What a device's memory holds at the end. -/
def QM (c : Dev nD) (s : MemSt nD τ sig (Elt F)) : Prop :=
  s.mem ((c.tc : Thread nD τ).loc main_v22) = V4 m (outs m) c (Proc.devRef .tc main_v22)
    ∧ s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2)
    ∧ s.mem ((c.tc : Thread nD τ).loc main_arg3) = m ((c.tc : Thread nD τ).loc main_arg3)
    ∧ s.mem ((c.tc : Thread nD τ).loc main_arg4) = m ((c.tc : Thread nD τ).loc main_arg4)

theorem fin_read (c : Dev nD) (s' : Phys nD τ sig (Elt F)) :
    iprop((StableHlo.held (c.tc : Thread nD τ) (Pipeline.ucRefs τ sig) (V4 m (outs m) c) ∗ unscopedSems0 c) ∗ SI s')
      ⊢ (|={Set.univ}=> iprop(⌜QM m c s'.mem ∧ ∀ sm : SemLoc sig, sm.isScoped .tc = false → s'.mem.sem ((c.tc : Thread nD τ), sm) = 0⌝ ∗ SI s') : sProp 𝕄) := by
  unfold StableHlo.held
  iintro ⟨⟨Hh, Hu⟩, HSI⟩
  ihave Hr := (pointsTo_read_all (Pipeline.ucRefs τ sig) (fun b => ((c : Thread nD τ).1, b)) (V4 m (outs m) c) s') $$ [Hh HSI]
  · isplitl [Hh] <;> iassumption
  icases Hr with ⟨%h, HSI⟩
  imod (Pipeline.unscopedSems0_read (X := unscopedSems0 c) (c := c) fupd_intro s') $$ [Hu HSI] with ⟨%hz, HSI⟩
  · isplitl [Hu] <;> iassumption
  imodintro
  isplitr
  · ipureintro
    have hr (r : Ref sig .tc) (hs : r.isScoped = false) :
        s'.mem.mem ((c.tc : Thread nD τ).loc r) = V4 m (outs m) c (Proc.devRef .tc r) :=
      h (Proc.devRef .tc r) (Finset.mem_filter.mpr ⟨StableHlo.devRef_mem_tcRefs r, fun h' => Bool.false_ne_true (hs.symm.trans h')⟩)
    exact ⟨⟨hr main_v22 (by decide), (hr main_arg0 (by decide)).trans (V4_main_arg0 m (outs m) c), (hr main_arg1 (by decide)).trans (V4_main_arg1 m (outs m) c),
      (hr main_arg2 (by decide)).trans (V4_main_arg2 m (outs m) c), (hr main_arg3 (by decide)).trans (V4_main_arg3 m (outs m) c),
      (hr main_arg4 (by decide)).trans (V4_main_arg4 m (outs m) c)⟩, hz⟩
  iexact HSI

set_option backward.isDefEq.respectTransparency.types false in
/-- Every execution terminates, with the result at its computed contents, every argument as launched and every semaphore at zero. -/
theorem run_main : θ_run defs (onTc (τ := τ) (main (F := F))) (s₀ m ρ) (fun r => (∀ c : Dev nD, QM m c r.2) ∧ r.2.sem = fun _ => 0) :=
  Pipeline.θ_run_regions_kit_dev_sems (pcfgs (F := F)) adm (pdats m) () cellOf_inj EP defs₀ 𝒱₀ L lv m ρ main
    (segs m (outs m) 𝒱₀ L lv (E m) () (pdats m) (reg0 m) (reg1 m))
    (fun c Q => by
      rewrite [main_chain c, Pipeline.Seg.run_eq_chain,
        show (segs m (outs m) 𝒱₀ L lv (E m) () (pdats m) (reg0 m) (reg1 m) c).map Pipeline.Seg.prog = [
          StableHlo.seq (hostOps0 c),
          Prog.lift (.customCall (Pipeline.entry 0) ()),
          Prog.lift (.customCall (Pipeline.entry 1) ()),
          StableHlo.seq hostOps2 ] from rfl]
      dsimp (config := { failIfUnchanged := false }) only
      exact .rfl)
    (fun c => by simp only [segs, Pipeline.Seg.pipes_host, Pipeline.Seg.pipes_region, Pipeline.Seg.pipes_nil]; decide)
    (O₀ := Ostart) (hL := L_of_ne) (G := G) (u₀ := u₀)
    (hu₀ := by
      unfold u₀ G
      iintro Hu
      ihave H := (ownU_pair _ _) $$ Hu
      icases H with ⟨HP, HX⟩
      imodintro
      isplitl [HP]; · iexact HP
      rw [bigSep_atFirst]; iexact HX)
    (T₀ := fun c => iprop(StableHlo.held (c.tc : Thread nD τ) (Pipeline.ucRefs τ sig) (V0 m c) ∗ E m 0 c))
    (Tₙ := fun c => iprop(StableHlo.held (c.tc : Thread nD τ) (Pipeline.ucRefs τ sig) (V4 m (outs m) c) ∗ unscopedSems0 c))
    (hch := fun c => ⟨.rfl, pre0 m c, (post0 m c).trans (pre1 m c), post1 m c, by
      show iprop(StableHlo.held (c.tc : Thread nD τ) (Pipeline.ucRefs τ sig) (V4 m (outs m) c) ∗ (unscopedSems0 c ∗ ow c 0)) ⊢ _
      iintro ⟨Hh, Hu, Ho⟩
      isplitr [Ho]
      · isplitl [Hh] <;> iassumption
      · unfold ow; iexact Ho⟩)
    (hinit := init m ρ)
    (QY := fun c s => QM m c s ∧ ∀ sm : SemLoc sig, sm.isScoped .tc = false → s.sem ((c.tc : Thread nD τ), sm) = 0)
    (hfin := fun c s' => fin_read m c s')
    (hQ := fun s h hs => ⟨fun c => (h c).1, sem_eq_zero hs fun c sm hsm => (h c).2 sm hsm⟩)

end Cert.KernelIdealProof

end
-- ==== Proof.Value.Steps.lean ====
/-
# What the steps compute, one element at a time

Over the extended reals the roundings are identities, so each step either leaves an element of a device's result buffer,
adds the element of the device its copy comes from, or replaces it by an element of a device further back. Which of the
three depends on the device and on the element's half, quarter and chunk alone.
-/
module

public import proofs.«01_k».proof.Proof.KernelIdeal.Contents
public import Idealize.ShloMosaic.PureOps.Ideal.Laws

@[expose] public section

noncomputable section

namespace Cert.SumValue

open Cert.KernelIdeal Cert.KernelIdeal.Gen Cert.KernelIdealProof
open Idealize.ShloMosaic
open Idealize.ShloMosaic.VecWindow

/-- Contents of the result buffer over the extended reals. -/
abbrev OI : Type := OV Ideal

/-! ## Where an element lies -/

/-- Its half of the columns, -/
def hOf (i : S2048x1024.Idx) : Bool := decide (512 ≤ (i 1).val)
theorem row_lt (i : S2048x1024.Idx) : (i 0).val < 2048 := (i 0).isLt
theorem col_lt (i : S2048x1024.Idx) : (i 1).val < 1024 := (i 1).isLt
/-- its quarter of the rows, -/
def aOf (i : S2048x1024.Idx) : Fin 4 := ⟨(i 0).val / 512, by have := row_lt i; omega⟩
/-- and its chunk of that quarter. -/
def bOf (i : S2048x1024.Idx) : Fin 4 := ⟨(i 0).val % 512 / 128, by omega⟩

theorem mem_Q (h : Bool) (a : Fin 4) (i : S2048x1024.Idx) :
    (∀ x, off h a 0 x ≤ (i x).val ∧ (i x).val < off h a 0 x + S512x512.size x) ↔ (hOf i = h ∧ aOf i = a) := by
  have hr := row_lt i
  have hc := col_lt i
  unfold hOf aOf
  rw [Fin.ext_iff]
  constructor
  · intro H
    have h0 := H 0
    have h1 := H 1
    simp [off] at h0 h1
    cases h <;> simp at h1 ⊢ <;> omega
  · rintro ⟨h1, h2⟩ x
    simp only at h2
    fin_cases x
    · simp [off]; omega
    · cases h <;> simp [off] at h1 ⊢ <;> omega

theorem mem_C (h : Bool) (a b : Fin 4) (i : S2048x1024.Idx) :
    (∀ x, off h a b x ≤ (i x).val ∧ (i x).val < off h a b x + S128x512.size x) ↔ (hOf i = h ∧ aOf i = a ∧ bOf i = b) := by
  have hr := row_lt i
  have hc := col_lt i
  have hb := b.isLt
  unfold hOf aOf bOf
  rw [Fin.ext_iff, Fin.ext_iff]
  constructor
  · intro H
    have h0 := H 0
    have h1 := H 1
    simp [off] at h0 h1
    cases h <;> simp at h1 ⊢ <;> omega
  · rintro ⟨h1, h2, h3⟩ x
    simp only at h2 h3
    fin_cases x
    · simp [off]; omega
    · cases h <;> simp [off] at h1 ⊢ <;> omega

/-! ## A region overwritten by another array's region -/

theorem put_window {o size : Fin 2 → ℕ} (inb : ∀ a, o a + size a ≤ S2048x1024.size a) (g V : OI) (i : S2048x1024.Idx) :
    put V o size (window g o size inb) i = if ∀ x, o x ≤ (i x).val ∧ (i x).val < o x + size x then g i else V i := by
  unfold put
  by_cases h : ∀ x, o x ≤ (i x).val ∧ (i x).val < o x + size x
  · rw [if_pos h]
    refine (dif_pos h).trans ?_
    refine congrArg g (funext fun x => Fin.ext ?_)
    show o x + 1 * ((i x).val - o x) = (i x).val
    have := (h x).1
    omega
  · rw [if_neg h]
    exact dif_neg h

theorem wrQ_rdQ (h : Bool) (a : Fin 4) (g V : OI) (i : S2048x1024.Idx) :
    wrQ (F := Ideal) h a (rdQ h a g) V i = if hOf i = h ∧ aOf i = a then g i else V i :=
  (put_window (inbQ h a) g V i).trans (if_congr (mem_Q h a i) rfl rfl)
theorem wrC_rdC (h : Bool) (a b : Fin 4) (g V : OI) (i : S2048x1024.Idx) :
    wrC (F := Ideal) h a b (rdC h a b g) V i = if hOf i = h ∧ aOf i = a ∧ bOf i = b then g i else V i :=
  (put_window (inbC h a b) g V i).trans (if_congr (mem_C h a b i) rfl rfl)

/-- Addition into a region, and replacement of a region, by the same region of another array. -/
theorem adQ_rdQ (h : Bool) (a : Fin 4) (V W : OI) :
    adQ (F := Ideal) (rdQ h a V) (trQ (rdQ h a W)) = rdQ h a (fun i => (V i + W i : EReal)) := rfl
theorem adC_rdC (h : Bool) (a b : Fin 4) (V W : OI) :
    adC (F := Ideal) (rdC h a b V) (trC (rdC h a b W)) = rdC h a b (fun i => (V i + W i : EReal)) := rfl
theorem exQ_trQ (v : Q32 Ideal) : exQ (F := Ideal) (trQ v) = v := rfl
theorem exC_trC (v : C32 Ideal) : exC (F := Ideal) (trC v) = v := rfl

/-! ## The four kinds of step -/

/-- The device `n` places back on the ring a phase's copies of half `h` travel on. -/
def back (ph : Fin 4) (h : Bool) : ℕ → Dev nD → Dev nD
  | 0, c => c
  | n + 1, c => back ph h n (src ph h c)

/-- The chunk, and the quarter, that step `t` of the last two phases fills. -/
def at2 (t : Fin 3) (h : Bool) (c : Dev nD) : Fin 4 := if h then zi c + f4 t else zi c - f4 t
def at3 (t : Fin 3) (h : Bool) (c : Dev nD) : Fin 4 := if h then pin c + f4 t else pin c - f4 t

/-- The quarter and the chunk a copy carries are those it lands on. -/
theorem q0 (s : Fin 3) (h : Bool) (c : Dev nD) :
    (if h then pin (src 0 h c) + f4 s else pin (src 0 h c) - f4 s) = ac0 s h c := by revert s h c; decide +kernel
theorem q1 (h : Bool) (c : Dev nD) : qt h (src 1 h c) = qt h c := by revert h c; decide +kernel
theorem q1' (s : Fin 3) (h : Bool) (c : Dev nD) :
    (if h then zi (src 1 h c) + f4 s else zi (src 1 h c) - f4 s) = ac1 s h c := by revert s h c; decide +kernel
theorem q2 (t : Fin 3) (h : Bool) (c : Dev nD) : qt h (back 2 h t.val (src 2 h c)) = qt h c := by revert t h c; decide +kernel
theorem q2' (t : Fin 3) (h : Bool) (c : Dev nD) :
    (if h then zi (back 2 h t.val (src 2 h c)) + 3 else zi (back 2 h t.val (src 2 h c)) + 1) = at2 t h c := by revert t h c; decide +kernel
theorem q3 (t : Fin 3) (h : Bool) (c : Dev nD) : qt h (back 3 h t.val (src 3 h c)) = at3 t h c := by revert t h c; decide +kernel

theorem ms2_eq (h : Bool) (V : Dev nD → OI) (t : ℕ) : ∀ c, ms2 (F := Ideal) h V t c = own2 h (V (back 2 h t c)) (back 2 h t c) := by
  induction t with
  | zero => exact fun _ => rfl
  | succ t ih => exact fun c => ih (src 2 h c)
theorem ms3_eq (h : Bool) (V : Dev nD → OI) (t : ℕ) : ∀ c, ms3 (F := Ideal) h V t c = own3 h (V (back 3 h t c)) (back 3 h t c) := by
  induction t with
  | zero => exact fun _ => rfl
  | succ t ih => exact fun c => ih (src 3 h c)

theorem up0_eq (s : Fin 3) (h : Bool) (c : Dev nD) (V W : OI) (i : S2048x1024.Idx) :
    up0 (F := Ideal) s h c (ms0 s h W (src 0 h c)) V i = if hOf i = h ∧ aOf i = ac0 s h c then (V i + W i : EReal) else V i := by
  unfold up0 ms0
  rw [q0, adQ_rdQ, wrQ_rdQ]

theorem up1_eq (s : Fin 3) (h : Bool) (c : Dev nD) (V W : OI) (i : S2048x1024.Idx) :
    up1 (F := Ideal) s h c (ms1 s h W (src 1 h c)) V i
      = if hOf i = h ∧ aOf i = qt h c ∧ bOf i = ac1 s h c then (V i + W i : EReal) else V i := by
  unfold up1 ms1
  rw [q1', q1, adC_rdC, wrC_rdC]

theorem up2_eq (t : Fin 3) (h : Bool) (c : Dev nD) (V₀ : Dev nD → OI) (V : OI) (i : S2048x1024.Idx) :
    up2 (F := Ideal) t h c (ms2 h V₀ t.val (src 2 h c)) V i
      = if hOf i = h ∧ aOf i = qt h c ∧ bOf i = at2 t h c then V₀ (back 2 h t.val (src 2 h c)) i else V i := by
  unfold up2
  rw [ms2_eq]
  unfold own2
  rw [q2', q2, exC_trC]
  exact wrC_rdC _ _ _ _ _ _

theorem up3_eq (t : Fin 3) (h : Bool) (c : Dev nD) (V₀ : Dev nD → OI) (V : OI) (i : S2048x1024.Idx) :
    up3 (F := Ideal) t h c (ms3 h V₀ t.val (src 3 h c)) V i
      = if hOf i = h ∧ aOf i = at3 t h c then V₀ (back 3 h t.val (src 3 h c)) i else V i := by
  unfold up3
  rw [ms3_eq]
  unfold own3
  rw [q3, exQ_trQ]
  exact wrQ_rdQ _ _ _ _ _

/-- Of the two halves a step updates, the one the element is not in does nothing to it. -/
theorem st0_eq (s : Fin 3) (V : Dev nD → OI) (c : Dev nD) (i : S2048x1024.Idx) :
    st0 (F := Ideal) s V c i = if aOf i = ac0 s (hOf i) c then (V c i + V (src 0 (hOf i) c) i : EReal) else V c i := by
  unfold st0
  rw [up0_eq, up0_eq]
  cases hOf i <;> simp

theorem st1_eq (s : Fin 3) (V : Dev nD → OI) (c : Dev nD) (i : S2048x1024.Idx) :
    st1 (F := Ideal) s V c i
      = if aOf i = qt (hOf i) c ∧ bOf i = ac1 s (hOf i) c then (V c i + V (src 1 (hOf i) c) i : EReal) else V c i := by
  unfold st1
  rw [up1_eq, up1_eq]
  cases hOf i <;> simp

theorem st2_eq (V₀ : Dev nD → OI) (t : Fin 3) (V : Dev nD → OI) (c : Dev nD) (i : S2048x1024.Idx) :
    st2 (F := Ideal) V₀ t V c i
      = if aOf i = qt (hOf i) c ∧ bOf i = at2 t (hOf i) c then V₀ (back 2 (hOf i) t.val (src 2 (hOf i) c)) i else V c i := by
  unfold st2
  rw [up2_eq, up2_eq]
  cases hOf i <;> simp

theorem st3_eq (V₀ : Dev nD → OI) (t : Fin 3) (V : Dev nD → OI) (c : Dev nD) (i : S2048x1024.Idx) :
    st3 (F := Ideal) V₀ t V c i
      = if aOf i = at3 t (hOf i) c then V₀ (back 3 (hOf i) t.val (src 3 (hOf i) c)) i else V c i := by
  unfold st3
  rw [up3_eq, up3_eq]
  cases hOf i <;> simp

end Cert.SumValue

end
-- ==== Proof.Value.Sum.lean ====
/-
# Which devices an element sums over

The steps, run on lists of devices in place of numbers: the list says whose inputs an element of a device's buffer is
the sum of. At the end every list holds each of the sixteen devices once, so the result is the sum over the devices.
-/
module

public import proofs.«01_k».proof.Proof.Value.Steps
public import Mathlib.Algebra.BigOperators.Fin

@[expose] public section

noncomputable section

namespace Cert.SumValue

open Cert.KernelIdeal Cert.KernelIdeal.Gen Cert.KernelIdealProof
open Idealize.ShloMosaic

/-- For an element of half `h`, quarter `a`, chunk `b`: the devices summed in device `c`'s buffer before step `n` of each
    phase. -/
def D0 (h : Bool) (a : Fin 4) : ℕ → Dev nD → List (Dev nD)
  | 0, c => [c]
  | n + 1, c => if a = ac0 (f3 n) h c then D0 h a n c ++ D0 h a n (src 0 h c) else D0 h a n c
def D1 (h : Bool) (a b : Fin 4) : ℕ → Dev nD → List (Dev nD)
  | 0, c => D0 h a 3 c
  | n + 1, c => if a = qt h c ∧ b = ac1 (f3 n) h c then D1 h a b n c ++ D1 h a b n (src 1 h c) else D1 h a b n c
def D2 (h : Bool) (a b : Fin 4) : ℕ → Dev nD → List (Dev nD)
  | 0, c => D1 h a b 3 c
  | n + 1, c => if a = qt h c ∧ b = at2 (f3 n) h c then D1 h a b 3 (back 2 h (f3 n).val (src 2 h c)) else D2 h a b n c
def D3 (h : Bool) (a b : Fin 4) : ℕ → Dev nD → List (Dev nD)
  | 0, c => D2 h a b 3 c
  | n + 1, c => if a = at3 (f3 n) h c then D2 h a b 3 (back 3 h (f3 n).val (src 3 h c)) else D3 h a b n c

variable (x : Dev nD → OI)

/-- The sum of element `i` over a list of devices. -/
def tot (i : S2048x1024.Idx) (l : List (Dev nD)) : EReal := (l.map fun d => x d i).sum

theorem tot_append (i : S2048x1024.Idx) (l l' : List (Dev nD)) : tot x i (l ++ l') = tot x i l + tot x i l' := by
  unfold tot; rw [List.map_append, List.sum_append]

theorem O0_tot (i : S2048x1024.Idx) (n : ℕ) : ∀ c, O0 (F := Ideal) x n c i = tot x i (D0 (hOf i) (aOf i) n c) := by
  induction n with
  | zero => intro c; show x c i = _; simp [tot, D0]
  | succ n ih =>
    intro c
    rw [O0, st0_eq, D0, ih, ih]
    split
    · rw [tot_append]
    · rfl

theorem O1_tot (i : S2048x1024.Idx) (n : ℕ) : ∀ c, O1 (F := Ideal) x n c i = tot x i (D1 (hOf i) (aOf i) (bOf i) n c) := by
  induction n with
  | zero => exact O0_tot x i 3
  | succ n ih =>
    intro c
    rw [O1, st1_eq, D1, ih, ih]
    split
    · rw [tot_append]
    · rfl

theorem O2_tot (i : S2048x1024.Idx) (n : ℕ) : ∀ c, O2 (F := Ideal) x n c i = tot x i (D2 (hOf i) (aOf i) (bOf i) n c) := by
  induction n with
  | zero => exact O1_tot x i 3
  | succ n ih =>
    intro c
    rw [O2, st2_eq, D2, ih, O1_tot]
    split <;> rfl

theorem O3_tot (i : S2048x1024.Idx) (n : ℕ) : ∀ c, O3 (F := Ideal) x n c i = tot x i (D3 (hOf i) (aOf i) (bOf i) n c) := by
  induction n with
  | zero => exact O2_tot x i 3
  | succ n ih =>
    intro c
    rw [O3, st3_eq, D3, ih, O2_tot]
    split <;> rfl

set_option maxRecDepth 100000 in
/-- At the end every device's list is all the devices, each once. -/
theorem all_once : ∀ (h : Bool) (a b : Fin 4) (c : Dev nD), (D3 h a b 3 c).Perm (List.finRange 16) := by decide +kernel

/-- The result of the run is the sum of the inputs. -/
theorem O3_sum (c : Dev nD) (i : S2048x1024.Idx) : O3 (F := Ideal) x 3 c i = ∑ d : Fin 16, (x d i : EReal) := by
  rw [O3_tot]
  unfold tot
  rw [((all_once _ _ _ c).map fun d => x d i).sum_eq, Fin.sum_univ_def]

end Cert.SumValue

end
-- ==== Proof.Attn.Softmax.lean ====
/-
# One row of a masked softmax over the extended reals

The scores of a row are real numbers, the values are any extended reals. The kernel's weights are the exponentials of
the scores with the mask added; the reference's are those of the masked scores less their maximum. Divided by their sum
both are the same shares, so both contexts are the same sum.
-/
module

public import Idealize.ShloMosaic.PureOps.Ideal.Laws
public import Mathlib.Data.Finset.Fold

@[expose] public section

noncomputable section

namespace Cert.AttnValue

open Idealize.ShloMosaic

/-- An extended real that is a real number. -/
def IsReal (x : EReal) : Prop := ∃ r : ℝ, (r : EReal) = x

theorem IsReal.mul {x y : EReal} (hx : IsReal x) (hy : IsReal y) : IsReal (x * y) := by
  obtain ⟨a, rfl⟩ := hx
  obtain ⟨b, rfl⟩ := hy
  exact ⟨a * b, EReal.coe_mul a b⟩

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem IsReal.sum {ι : Type*} {s : Finset ι} {f : ι → EReal} (h : ∀ i, IsReal (f i)) : IsReal (∑ i ∈ s, f i) := by
  choose g hg using h
  exact ⟨∑ i ∈ s, g i, by rw [coe_sum]; exact Finset.sum_congr rfl fun i _ => hg i⟩

/-- A factor that is a real number and not negative goes into a sum of extended reals. -/
theorem sum_mul_real {ι : Type*} (s : Finset ι) (f : ι → EReal) {a : ℝ} (ha : 0 ≤ a) :
    (∑ i ∈ s, f i) * (a : EReal) = ∑ i ∈ s, f i * (a : EReal) := by
  classical
  induction s using Finset.induction_on with
  | empty => simp
  | insert i s hi ih =>
    rw [Finset.sum_insert hi, Finset.sum_insert hi,
      EReal.right_distrib_of_nonneg_of_ne_top (EReal.coe_nonneg.2 ha) (EReal.coe_ne_top a), ih]

/-- The weight of a key: the exponential of its score where the row sees it, zero elsewhere. -/
def weight (keep : Prop) [Decidable keep] (s : EReal) : ℝ := if keep then Real.exp s.toReal else 0

theorem weight_nonneg (keep : Prop) [Decidable keep] (s : EReal) : 0 ≤ weight keep s := by
  unfold weight
  split
  · exact (Real.exp_pos _).le
  · exact le_rfl

/-- The exponential of a score with the mask added. -/
theorem exp_masked {keep : Prop} [Decidable keep] {s : EReal} (hs : IsReal s) :
    Ideal.exp (s + if keep then 0 else ⊥) = (weight keep s : EReal) := by
  obtain ⟨r, rfl⟩ := hs
  by_cases h : keep
  · simp [h, weight]
  · simp [h, weight]

/-- The exponential of a masked score less a real number. -/
theorem exp_shifted {keep : Prop} [Decidable keep] {s : EReal} (hs : IsReal s) (M : ℝ) :
    Ideal.exp ((if keep then s else ⊥) - (M : EReal)) = ((weight keep s * Real.exp (-M) : ℝ) : EReal) := by
  obtain ⟨r, rfl⟩ := hs
  by_cases h : keep
  · simp only [if_pos h, weight, EReal.toReal_coe]
    rw [← EReal.coe_sub, Ideal.exp_coe, sub_eq_add_neg, Real.exp_add]
  · simp [h, weight]

section Row

variable {κ : Type*} [Fintype κ] (keep : κ → Prop) [DecidablePred keep] (s : κ → EReal)

/-- The sum of a row's weights. -/
def total : ℝ := ∑ j, weight (keep j) (s j)

/-- A key's share of its row. -/
def share (j : κ) : ℝ := weight (keep j) (s j) / total keep s

variable {keep}

theorem total_pos {j : κ} (hj : keep j) : 0 < total keep s := by
  refine lt_of_lt_of_le ?_ (Finset.single_le_sum (fun i _ => weight_nonneg (keep i) (s i)) (Finset.mem_univ j))
  rw [weight, if_pos hj]
  exact Real.exp_pos _

/-- The weighted values over the sum of the weights: the values by their shares. -/
theorem weighted_over_total {j : κ} (hj : keep j) (v : κ → EReal) :
    (∑ k, (weight (keep k) (s k) : EReal) * v k) * Ideal.div 1 (total keep s : EReal)
      = ∑ k, v k * (share keep s k : EReal) := by
  have hT := total_pos s hj
  rw [Ideal.div_coe hT.ne', one_mul, sum_mul_real _ _ (by positivity)]
  refine Finset.sum_congr rfl fun k _ => ?_
  rw [mul_comm _ (v k), mul_assoc, ← EReal.coe_mul, mul_one_div, share]

/-- The maximum of a row's masked scores is a real number. -/
theorem max_isReal (hs : ∀ j, IsReal (s j)) {j : κ} (hj : keep j) :
    IsReal (Finset.univ.fold max ⊥ fun k => if keep k then s k else ⊥) := by
  classical
  have hle : ∀ t : Finset κ, t.fold max ⊥ (fun k => if keep k then s k else ⊥) = ⊥
      ∨ IsReal (t.fold max ⊥ fun k => if keep k then s k else ⊥) := fun t => by
    induction t using Finset.induction_on with
    | empty => exact .inl (Finset.fold_empty)
    | insert a t ha ih =>
      rw [Finset.fold_insert ha]
      rcases max_choice (if keep a then s a else ⊥) (t.fold max ⊥ fun k => if keep k then s k else ⊥) with h | h
      · rw [h]
        by_cases hk : keep a
        · rw [if_pos hk]
          exact .inr (hs a)
        · exact .inl (if_neg hk)
      · rw [h]
        exact ih
  refine (hle Finset.univ).resolve_left fun h => ?_
  have h1 : (if keep j then s j else ⊥) ≤ Finset.univ.fold max ⊥ fun k => if keep k then s k else ⊥ :=
    (Finset.le_fold_max _).2 (.inr ⟨j, Finset.mem_univ j, le_rfl⟩)
  rw [h, if_pos hj, le_bot_iff] at h1
  obtain ⟨r, hr⟩ := hs j
  exact EReal.coe_ne_bot r (hr.trans h1)

/-- The reference's row: each value by the exponential of its masked score less the maximum, over their sum. -/
theorem shifted_row (hs : ∀ j, IsReal (s j)) {j : κ} (hj : keep j) (v : κ → EReal) (M : EReal)
    (hM : M = Finset.univ.fold max ⊥ fun k => if keep k then s k else ⊥) :
    (∑ k, v k * Ideal.div (Ideal.exp ((if keep k then s k else ⊥) - M))
        (∑ l, Ideal.exp ((if keep l then s l else ⊥) - M)))
      = ∑ k, v k * (share keep s k : EReal) := by
  obtain ⟨m, hm⟩ : IsReal M := hM ▸ max_isReal s hs hj
  subst hm
  have hT := total_pos s hj
  have hE := Real.exp_pos (-m)
  simp only [exp_shifted (hs _)]
  rw [← coe_sum, ← Finset.sum_mul]
  refine Finset.sum_congr rfl fun k _ => ?_
  rw [show (∑ l, weight (keep l) (s l)) = total keep s from rfl, Ideal.div_coe (mul_pos hT hE).ne', ← EReal.coe_mul,
    share, mul_one_div, mul_div_mul_right _ _ hE.ne']

/-- The kernel's row: the values weighted by the exponentials of the scores with the mask added, by one over their sum. -/
theorem masked_row (hs : ∀ j, IsReal (s j)) {j : κ} (hj : keep j) (v : κ → EReal) :
    (∑ k, Ideal.exp (s k + if keep k then 0 else ⊥) * v k)
        * Ideal.div 1 (∑ k, Ideal.exp (s k + if keep k then 0 else ⊥))
      = ∑ k, v k * (share keep s k : EReal) := by
  simp only [exp_masked (hs _)]
  rw [← coe_sum]
  exact weighted_over_total s hj v

/-- The same over columns that hold some of the keys: each key the row sees in exactly one column that counts. -/
theorem gathered_row {γ : Type*} [Fintype γ] (sel : γ → Prop) [DecidablePred sel] (key : γ → κ)
    (hsel : ∀ c, sel c → keep (key c)) (hinj : ∀ c c', sel c → sel c' → key c = key c' → c = c')
    (hcov : ∀ j, keep j → ∃ c, sel c ∧ key c = j)
    (hs : ∀ j, IsReal (s j)) {j : κ} (hj : keep j) (v : κ → EReal) :
    (∑ c, Ideal.exp (s (key c) + if sel c then 0 else ⊥) * v (key c))
        * Ideal.div 1 (∑ c, Ideal.exp (s (key c) + if sel c then 0 else ⊥))
      = ∑ k, v k * (share keep s k : EReal) := by
  classical
  have hsum : ∀ {M : Type} [AddCommMonoid M] (f : κ → M),
      (∑ c, if sel c then f (key c) else 0) = ∑ k, if keep k then f k else 0 := fun f => by
    rw [← Finset.sum_filter, ← Finset.sum_filter]
    refine Finset.sum_bij (fun c _ => key c) (fun c hc => ?_) (fun c hc c' hc' h => ?_) (fun k hk => ?_) fun _ _ => rfl
    · exact Finset.mem_filter.2 ⟨Finset.mem_univ _, hsel c (Finset.mem_filter.1 hc).2⟩
    · exact hinj c c' (Finset.mem_filter.1 hc).2 (Finset.mem_filter.1 hc').2 h
    · obtain ⟨c, hc, rfl⟩ := hcov k (Finset.mem_filter.1 hk).2
      exact ⟨c, Finset.mem_filter.2 ⟨Finset.mem_univ _, hc⟩, rfl⟩
  simp only [exp_masked (hs _)]
  have hnum : (∑ c, (weight (sel c) (s (key c)) : EReal) * v (key c)) = ∑ k, (weight (keep k) (s k) : EReal) * v k := by
    have := hsum fun k => (Real.exp (s k).toReal : EReal) * v k
    refine Eq.trans (Finset.sum_congr rfl fun c _ => ?_) (this.trans (Finset.sum_congr rfl fun k _ => ?_))
    · by_cases h : sel c <;> simp [weight, h]
    · by_cases h : keep k <;> simp [weight, h]
  have hden : (∑ c, weight (sel c) (s (key c))) = total keep s :=
    hsum fun k => Real.exp (s k).toReal
  rw [hnum, ← coe_sum, hden]
  exact weighted_over_total s hj v

end Row

end Cert.AttnValue

end
-- ==== Proof.Attn.Mask.lean ====
/-
# Which keys a row sees, and where the sparse branch holds them

A row sees the keys at most 128 away and the first 32, and the first 32 rows see every key. The sparse branch of block
`b` (from 1 to 15) holds four slots of 128 keys: the first block, the one before, its own, the next. Each key that one
of its rows sees is in exactly one slot that counts.
-/
module

public import Idealize.ShloMosaic.PureOps
public import Idealize.ShloMosaic.Lib.Pointwise

@[expose] public section

namespace Cert.AttnValue

open Idealize.ShloMosaic

/-- Row `i` sees key `j`. -/
abbrev keeps (i j : Nat) : Prop := (i ≤ j + 128 ∧ j ≤ i + 128) ∨ j < 32 ∨ i < 32

theorem keeps_self (i : Nat) : keeps i i := .inl (by omega)

/-- The block of keys in column `c`'s slot at block `b`. -/
def slotBlock (b c : Nat) : Nat :=
  if c < 128 then 0 else if c < 256 then b - 1 else if c < 384 then b else min (b + 1) 15

/-- The key in column `c` at block `b`. -/
def columnKey (b c : Nat) : Nat := 128 * slotBlock b c + c % 128

/-- Whether column `c`'s slot counts at block `b`. -/
abbrev slotCounts (b c : Nat) : Prop := (128 ≤ c → c < 256 → b ≠ 1) ∧ (384 ≤ c → b ≠ 15)

/-- Row `i` of block `b` counts column `c`. -/
abbrev columnKeeps (b i c : Nat) : Prop := keeps i (columnKey b c) ∧ slotCounts b c

theorem columnKey_lt {b c : Nat} (hb : b < 16) : columnKey b c < 2048 := by
  have : slotBlock b c < 16 := by unfold slotBlock; split_ifs <;> omega
  unfold columnKey
  omega

/-- Two columns that count hold different keys. -/
theorem columnKey_inj {b c c' : Nat} (hb : 1 ≤ b) (hb' : b < 16) (hc : c < 512) (hc' : c' < 512) (h : slotCounts b c)
    (h' : slotCounts b c') (e : columnKey b c = columnKey b c') : c = c' := by
  unfold columnKey slotBlock at e
  split_ifs at e <;> omega

/-- Every key that a row of block `b` sees is in a column that counts. -/
theorem columnKey_cover {b i j : Nat} (hb : 1 ≤ b) (hb' : b < 16) (hi : 128 * b ≤ i) (hi' : i < 128 * b + 128)
    (hj : j < 2048) (h : keeps i j) : ∃ c < 512, columnKeeps b i c ∧ columnKey b c = j := by
  have hcase : j / 128 = 0 ∨ j / 128 ≠ 0 ∧ (j / 128 = b - 1 ∨ j / 128 = b ∨ j / 128 = b + 1) := by omega
  have key : ∀ c < 512, slotCounts b c → columnKey b c = j → ∃ c < 512, columnKeeps b i c ∧ columnKey b c = j :=
    fun c hc hv e => ⟨c, hc, ⟨e.symm ▸ h, hv⟩, e⟩
  rcases hcase with h0 | ⟨h0, h1 | h1 | h1⟩
  · refine key (j % 128) (by omega) (by omega) ?_
    rw [columnKey, slotBlock, if_pos (by omega)]; omega
  · refine key (128 + j % 128) (by omega) (by omega) ?_
    rw [columnKey, slotBlock, if_neg (by omega), if_pos (by omega)]; omega
  · refine key (256 + j % 128) (by omega) (by omega) ?_
    rw [columnKey, slotBlock, if_neg (by omega), if_neg (by omega), if_pos (by omega)]; omega
  · refine key (384 + j % 128) (by omega) (by omega) ?_
    rw [columnKey, slotBlock, if_neg (by omega), if_neg (by omega), if_neg (by omega)]; omega

/-- The mask's bit from the words of a row and a key. -/
theorem keeps_word {i j : Nat} (hi : i < 4096) (hj : j < 4096) :
    IntOp.ori (IntOp.ori
        (IntOp.cmpi .sle (IntOp.absi (IntOp.subi (BitVec.ofNat 32 i) (BitVec.ofNat 32 j))) 128#32)
        (IntOp.cmpi .slt (BitVec.ofNat 32 j) 32#32)) (IntOp.cmpi .slt (BitVec.ofNat 32 i) 32#32)
      = BitVec.ofBool (decide (keeps i j)) := by
  have e1 : (BitVec.sle (IntOp.absi (IntOp.subi (BitVec.ofNat 32 i) (BitVec.ofNat 32 j))) 128#32)
      = decide (i ≤ j + 128 ∧ j ≤ i + 128) := by
    rw [Bool.eq_iff_iff, decide_eq_true_iff, BitVec.sle_iff_toInt_le]
    unfold IntOp.absi IntOp.subi
    split_ifs with h
    · have h' := BitVec.msb_eq_true_iff_two_mul_ge.1 h
      simp only [BitVec.toInt_eq_toNat_cond, BitVec.toNat_neg, BitVec.toNat_sub, BitVec.toNat_ofNat] at h' ⊢
      split_ifs <;> omega
    · have h' := h
      rw [BitVec.msb_eq_true_iff_two_mul_ge] at h'
      simp only [BitVec.toInt_eq_toNat_cond, BitVec.toNat_sub, BitVec.toNat_ofNat] at h' ⊢
      split_ifs <;> omega
  have e2 : ∀ n < 4096, (BitVec.slt (BitVec.ofNat 32 n) 32#32) = decide (n < 32) := fun n hn => by
    rw [Bool.eq_iff_iff, decide_eq_true_iff, BitVec.slt_iff_toInt_lt]
    simp only [BitVec.toInt_eq_toNat_cond, BitVec.toNat_ofNat]
    split_ifs <;> omega
  unfold IntOp.cmpi IntOp.ori
  dsimp only
  rw [e1, e2 i hi, e2 j hj, BitVec.ofBool_or_ofBool, BitVec.ofBool_or_ofBool, ← Bool.decide_or, ← Bool.decide_or]
  exact congrArg BitVec.ofBool (decide_eq_decide.2 or_assoc)

end Cert.AttnValue
-- ==== Proof.Attn.Spec.lean ====
/-
# The attention of one device's eight heads, over the extended reals

What both the kernel and the reference compute, at one row and one column: queries, scores, each key's share of its
row, the values by their shares, and the output projection.
-/
module

public import proofs.«01_k».proof.Proof.Attn.Softmax
public import proofs.«01_k».proof.Proof.Attn.Mask
public import Idealize.ShloMosaic.Lib.Pointwise

@[expose] public section

noncomputable section

namespace Cert.AttnValue

open Idealize.ShloMosaic

/-- A matrix of extended reals. -/
abbrev Mat (n m : Nat) : Type := (⟨2, ![n, m]⟩ : Shape).Idx → EReal

/-- The scale of the scores, the literal of both programs. -/
def scale : EReal := Ideal.ofBits .f32 0x3DB504F3#32

theorem scale_eq : ∃ a : ℝ, 0 ≤ a ∧ scale = (a : EReal) := by
  refine ⟨11863283 / 134217728, by norm_num, ?_⟩
  simp [scale, Ideal.ofBits, Ideal.ieee, -EReal.coe_mul]
  norm_num

/-- Column `d` of head `h`. -/
def headCol (h : Fin 8) (d : Fin 128) : Fin 1024 := ⟨128 * h.val + d.val, by omega⟩

/-- The projected query of row `i`. -/
def query (x : Mat 2048 1024) (wq : Mat 1024 1024) (i : Fin 2048) (e : Fin 1024) : EReal :=
  ∑ d, x (ix2 i d) * wq (ix2 d e)

/-- The score of row `i` against key `j` under head `h`. -/
def score (x : Mat 2048 1024) (wq : Mat 1024 1024) (k : Mat 2048 1024) (h : Fin 8) (i j : Fin 2048) : EReal :=
  (∑ d, query x wq i (headCol h d) * k (ix2 j (headCol h d))) * scale

/-- The context of row `i` under head `h`: the values by their shares. -/
def context (x : Mat 2048 1024) (wq : Mat 1024 1024) (k v : Mat 2048 1024) (h : Fin 8) (i : Fin 2048) (d : Fin 128) :
    EReal :=
  ∑ j : Fin 2048, v (ix2 j (headCol h d)) * (share (fun j : Fin 2048 => keeps i j) (score x wq k h i) j : EReal)

/-- The output: the eight contexts side by side through the output projection. -/
def output (x : Mat 2048 1024) (wq : Mat 1024 1024) (k v : Mat 2048 1024) (wo : Mat 1024 1024) (i : Fin 2048)
    (n : Fin 1024) : EReal :=
  ∑ e : Fin 1024, context x wq k v ⟨e.val / 128, by omega⟩ i ⟨e.val % 128, by omega⟩ * wo (ix2 e n)

/-- With real queries' inputs, projection and keys, every score is a real number. -/
theorem score_isReal {x : Mat 2048 1024} {wq : Mat 1024 1024} {k : Mat 2048 1024} (hx : ∀ i, IsReal (x i))
    (hw : ∀ i, IsReal (wq i)) (hk : ∀ i, IsReal (k i)) (h : Fin 8) (i j : Fin 2048) : IsReal (score x wq k h i j) := by
  obtain ⟨a, -, ha⟩ := scale_eq
  exact (IsReal.sum fun d => (IsReal.sum fun e => (hx _).mul (hw _)).mul (hk _)).mul ⟨a, ha.symm⟩

/-- The scale taken to the query, as the kernel does, or to the score. -/
theorem scaled_query (q k : Fin 128 → EReal) : (∑ d, q d * scale * k d) = (∑ d, q d * k d) * scale := by
  obtain ⟨a, h0, ha⟩ := scale_eq
  rw [ha, sum_mul_real _ _ h0]
  exact Finset.sum_congr rfl fun d _ => by rw [mul_assoc, mul_comm (a : EReal), ← mul_assoc]

end Cert.AttnValue

end
-- ==== Proof.Attn.Whole.lean ====
/-
# All the heads, shared out among sixteen devices

Device `c` has heads `8 c` to `8 c + 7`: their columns of the query projection, their keys and values, and their rows of
the output projection. The whole attention's output is the sum of what the devices make of their own heads.
-/
module

public import proofs.«01_k».proof.Proof.Attn.Spec

@[expose] public section

noncomputable section

namespace Cert.AttnValue

open Idealize.ShloMosaic

/-- The activations, with their leading axis of one. -/
abbrev Acts : Type := (⟨3, ![1, 2048, 1024]⟩ : Shape).Idx → EReal
/-- The keys, or the values, of all heads. -/
abbrev Heads : Type := (⟨4, ![1, 2048, 128, 128]⟩ : Shape).Idx → EReal

/-- Head `h` of device `c`. -/
def headOf (c : Fin 16) (h : Fin 8) : Fin 128 := ⟨8 * c.val + h.val, by omega⟩

/-- Column or row `e` of device `c` among those of all devices. -/
def wide (c : Fin 16) (e : Fin 1024) : Fin 16384 := ⟨1024 * c.val + e.val, by omega⟩

/-- The activations as a matrix. -/
def acts (x : Acts) : Mat 2048 1024 := fun j => x (ix3 0 (j 0) (j 1))

/-- Device `c`'s columns of the query projection. -/
def columnsOf (c : Fin 16) (wq : Mat 1024 16384) : Mat 1024 1024 := fun j => wq (ix2 (j 0) (wide c (j 1)))

/-- Device `c`'s keys, or values, its heads side by side. -/
def headsOf (c : Fin 16) (k : Heads) : Mat 2048 1024 := fun j =>
  k (ix4 0 (j 0) (headOf c ⟨(j 1).val / 128, by have : (j 1).val < 1024 := (j 1).isLt; omega⟩) ⟨(j 1).val % 128, by omega⟩)

/-- Device `c`'s rows of the output projection. -/
def rowsOf (c : Fin 16) (wo : Mat 16384 1024) : Mat 1024 1024 := fun j => wo (ix2 (wide c (j 0)) (j 1))

/-- The whole output: the devices' outputs summed. -/
def outputAll (x : Acts) (wq : Mat 1024 16384) (k v : Heads) (wo : Mat 16384 1024) (i : Fin 2048) (n : Fin 1024) : EReal :=
  ∑ c : Fin 16, output (acts x) (columnsOf c wq) (headsOf c k) (headsOf c v) (rowsOf c wo) i n

theorem columnsOf_apply (c : Fin 16) (wq : Mat 1024 16384) (d e : Fin 1024) :
    columnsOf c wq (ix2 d e) = wq (ix2 d (wide c e)) := rfl

theorem headsOf_apply (c : Fin 16) (k : Heads) (j : Fin 2048) (h : Fin 8) (d : Fin 128) :
    headsOf c k (ix2 j (headCol h d)) = k (ix4 0 j (headOf c h) d) := by
  have e1 : (⟨(headCol h d).val / 128, by omega⟩ : Fin 8) = h := Fin.ext (by simp [headCol]; omega)
  have e2 : (⟨(headCol h d).val % 128, by omega⟩ : Fin 128) = d := Fin.ext (by simp [headCol])
  show k (ix4 0 j (headOf c ⟨(headCol h d).val / 128, _⟩) ⟨(headCol h d).val % 128, _⟩) = _
  rw [e1, e2]

/-- A sum over all devices' rows, device by device. -/
theorem sum_devices (f : Fin 16384 → EReal) : ∑ e, f e = ∑ c : Fin 16, ∑ e : Fin 1024, f (wide c e) := by
  refine (Fintype.sum_equiv (finProdFinEquiv (m := 16) (n := 1024)) (fun p => f (wide p.1 p.2)) f fun p => ?_).symm.trans
    (Fintype.sum_prod_type _)
  exact congrArg f (Fin.ext (Nat.add_comm _ _))

end Cert.AttnValue

end
-- ==== Proof.Attn.Host.lean ====
/-
# What the attention call takes on a device

The host code before the call takes the activations as a matrix, and the device's eight heads of the keys and of the values,
side by side.
-/
module

public import proofs.«01_k».proof.Proof.KernelIdeal.Launch
public import proofs.«01_k».proof.Proof.Attn.Whole
public import Idealize.ShloMosaic.Lib.DynamicIndex
public import Idealize.ShloMosaic.Lib.StableHlo.RunClose

@[expose] public section

noncomputable section

namespace Cert.AttnValue

open Cert.KernelIdeal Cert.KernelIdeal.Gen Idealize.ShloMosaic Idealize.ShloMosaic.TcCoe

variable {F : FTy → Type} [FloatOps F] [Named F]

/-- The first of a device's heads, as the host code computes it from the device's number. -/
def headStart (c : Dev nD) : IVec S_ 32 :=
  let w := muli (id (Host.remui (Host.divui (constantI S_ 32 (Dev.word c)) (constantI S_ 32 1#32)) (constantI S_ 32 16#32)))
    (constantI S_ 32 8#32)
  select (cmpi .slt w (constantI S_ 32 0#32)) (addi w (constantI S_ 32 128#32)) w

theorem headStart_eq (c : Dev nD) : headStart c (Shape.Idx.first h_S_) = BitVec.ofNat 32 (8 * c.val) := by
  fin_cases c <;> rfl

/-- A device's eight heads side by side. -/
def ownHeads (c : Dev nD) (k : FVec F S1x2048x128x128 .bf16) : FVec F S2048x1024 .bf16 :=
  shapeCast S2048x1024 (Host.dynamicSlice S2048x8x128 (shapeCast S2048x128x128 k shapeCasts_S1x2048x128x128_S2048x128x128)
    (fun a => ((![constantI S_ 32 0#32, headStart c, constantI S_ 32 0#32] : Fin 3 → IVec S_ 32) a (Shape.Idx.first h_S_)).toInt)
    sliceFits_S2048x128x128_S2048x8x128) shapeCasts_S2048x8x128_S2048x1024

/-- The slice, at its place. -/
theorem slice_apply (c : Dev nD) {α : Type} (y : S2048x128x128.Idx → α) (j : Fin 2048) (h : Fin 8) (d : Fin 128) :
    Host.dynamicSlice S2048x8x128 y
      (fun a => ((![constantI S_ 32 0#32, headStart c, constantI S_ 32 0#32] : Fin 3 → IVec S_ 32) a (Shape.Idx.first h_S_)).toInt)
      sliceFits_S2048x128x128_S2048x8x128 (ix3 j h d) = y (ix3 j (headOf c h) d) := by
  have hc : c.val < 16 := c.isLt
  rw [Host.dynamicSlice_eq_extractStridedSlice S2048x8x128 y _ ![0, 8 * c.val, 0] sliceFits_S2048x128x128_S2048x8x128
    ⟨rfl, fun a => by
      match a with
      | ⟨0, _⟩ => show 0 + 2048 ≤ 2048; omega
      | ⟨1, _⟩ => show 8 * c.val + 8 ≤ 128; omega
      | ⟨2, _⟩ => show 0 + 128 ≤ 128; omega⟩ fun a => by
      match a with
      | ⟨0, _⟩ => rfl
      | ⟨1, _⟩ =>
        show (headStart c (Shape.Idx.first h_S_)).toInt = ((8 * c.val : Nat) : Int)
        rw [headStart_eq]
        exact toInt_ofNat_of_lt (by omega)
      | ⟨2, _⟩ => rfl]
  refine congrArg y (funext fun a => Fin.ext ?_)
  match a with
  | ⟨0, _⟩ => show 0 + j.val = j.val; omega
  | ⟨1, _⟩ => rfl
  | ⟨2, _⟩ => show 0 + d.val = d.val; omega

theorem ownHeads_eq (c : Dev nD) (k : Heads) : ownHeads (F := Ideal) c k = headsOf c k := by
  funext i
  obtain ⟨j, e, rfl⟩ : ∃ (j : Fin 2048) (e : Fin 1024), i = ix2 j e := ⟨i 0, i 1, eq_ix2 i⟩
  have hs : ∀ y : FVec Ideal S2048x8x128 .bf16, shapeCast S2048x1024 y shapeCasts_S2048x8x128_S2048x1024 (ix2 j e)
      = y (ix3 j ⟨e.val / 128, by omega⟩ ⟨e.val % 128, by omega⟩) := fun y => by pointwise
  have hk : ∀ g d, shapeCast S2048x128x128 k shapeCasts_S1x2048x128x128_S2048x128x128 (ix3 j g d) = k (ix4 0 j g d) :=
    fun g d => by pointwise
  exact (hs _).trans ((slice_apply c _ j _ _).trans (hk _ _))

variable (m : (ℓ : Loc nD τ sig) → Buf (Elt F) ℓ)

theorem hostV_keys (c : Dev nD) : Cert.KernelIdealProof.hostV m c main_v18 = ownHeads c (m ((c : Thread nD τ).loc main_arg2)) := by
  show StableHlo.after (hostOps0 c) (V0 m c) (Proc.devRef .tc main_v18) = _
  after_results_simp_entrywise
  rfl

theorem hostV_values (c : Dev nD) : Cert.KernelIdealProof.hostV m c main_v19 = ownHeads c (m ((c : Thread nD τ).loc main_arg3)) := by
  show StableHlo.after (hostOps0 c) (V0 m c) (Proc.devRef .tc main_v19) = _
  after_results_simp_entrywise
  rfl

theorem hostV_acts (c : Dev nD) : Cert.KernelIdealProof.hostV m c main_v5
    = shapeCast S2048x1024 (m ((c : Thread nD τ).loc main_arg0) : S1x2048x1024.Idx → F .bf16) shapeCasts_S1x2048x1024_S2048x1024 := by
  show StableHlo.after (hostOps0 c) (V0 m c) (Proc.devRef .tc main_v5) = _
  after_results_simp
  rfl

theorem hostV_arg1 (c : Dev nD) : Cert.KernelIdealProof.hostV m c main_arg1 = m ((c : Thread nD τ).loc main_arg1) :=
  V1_of m c main_arg1 (by decide)
theorem hostV_arg4 (c : Dev nD) : Cert.KernelIdealProof.hostV m c main_arg4 = m ((c : Thread nD τ).loc main_arg4) :=
  V1_of m c main_arg4 (by decide)

theorem acts_eq (x : Acts) : shapeCast S2048x1024 (x : S1x2048x1024.Idx → EReal) shapeCasts_S1x2048x1024_S2048x1024 = acts x := by
  funext i
  obtain ⟨j, e, rfl⟩ : ∃ (j : Fin 2048) (e : Fin 1024), i = ix2 j e := ⟨i 0, i 1, eq_ix2 i⟩
  have : shapeCast S2048x1024 (x : S1x2048x1024.Idx → EReal) shapeCasts_S1x2048x1024_S2048x1024 (ix2 j e) = x (ix3 0 j e) := by
    pointwise
  exact this

end Cert.AttnValue

end
-- ==== Proof.Attn.Heads.lean ====
/-
# One block of the attention, head by head

The words and products of a block's two branches, each written once for all eight heads: the head's columns, its
weights, its context, and the product with the output projection. What the two branches store is these.
-/
module

public import proofs.«01_k».proof.Proof.KernelIdeal.Attend.Frame
public import Idealize.ShloMosaic.Lib.Pointwise

@[expose] public section

noncomputable section

namespace Cert.AttnValue

open Cert.KernelIdeal Cert.KernelIdeal.Gen Cert.KernelIdealProof.Attend Idealize.ShloMosaic Idealize.ShloMosaic.TcCoe

variable {F : FTy → Type} [FloatOps F] [Named F]

/-- Head `h`'s columns of a block of projected rows. -/
def headRows (q : FVec F S128x1024 .bf16) (h : Fin 8) : FVec F S128x128 .bf16 :=
  extractStridedSlice S128x128 ![0, 128 * h.val] q
    ⟨rfl, fun a => by have := h.isLt; match a with
      | ⟨0, _⟩ => show 0 + 128 ≤ 128; omega
      | ⟨1, _⟩ => show 128 * h.val + 128 ≤ 1024; omega⟩

/-- Head `h`'s columns of all keys, or of all values. -/
def headKeys (k : Vec F S2048x1024 .bf16) (h : Fin 8) : Vec F S2048x128 .bf16 :=
  View.ld k (Rect.unit (s := S2048x1024) ![0, 128 * h.val] S2048x128.size
    (fun a => by have := h.isLt; match a with
      | ⟨0, _⟩ => show 0 + 2048 ≤ 2048; omega
      | ⟨1, _⟩ => show 128 * h.val + 128 ≤ 1024; omega))

/-- The dense branch's weights of one head, from every head's keys: the exponentials of the scores with the mask added. -/
def denseWeights (q : FVec F S128x1024 .bf16) (k : Fin 8 → Vec F S2048x128 .bf16) (bias : FVec F S128x2048 .bf16)
    (h : Fin 8) : FVec F S128x2048 .bf16 :=
  exp (addf (truncf .bf16 (matmul dot_S128x128_S2048x128_S128x2048_1_1_0_0_n_n none (headRows q h) (k h)
    (constant S128x2048 .f32 0x00000000#32)) bitsLt_bf16_f32) bias)

/-- The dense branch's context of one head: the weighted values over the sum of the weights. -/
def denseHead (q : FVec F S128x1024 .bf16) (k v : Fin 8 → Vec F S2048x128 .bf16) (bias : FVec F S128x2048 .bf16)
    (h : Fin 8) : FVec F S128x128 .f32 :=
  mulf (matmul dot_S128x2048_S2048x128_S128x128_1_0_0_1_n_n none (denseWeights q k bias h) (v h)
      (constant S128x128 .f32 0x00000000#32))
    (broadcastTo S128x128 (divf (broadcast S128x1 (Scalar.ofBits .f32 0x3F800000#32))
      (shapeCast S128x1 (multiReduction .add [1] S128 (extf .f32 (denseWeights q k bias h) bitsLt_bf16_f32)
        0x00000000#32 reduces_S128x2048_S128 (.inl rfl) rfl) shapeCasts_S128_S128x1)) broadcasts_S128x1_S128x128)

/-- The eight contexts side by side through the output projection. -/
def project (c : Fin 8 → FVec F S128x128 .f32) (wo : Vec F S1024x1024 .bf16) : FVec F S128x1024 .f32 :=
  matmul dot_S128x1024_S1024x1024_S128x1024_1_0_0_1_n_n none
    (truncf .bf16 (concatenate S128x1024 1 [⟨S128x128, c 0⟩, ⟨S128x128, c 1⟩, ⟨S128x128, c 2⟩, ⟨S128x128, c 3⟩,
      ⟨S128x128, c 4⟩, ⟨S128x128, c 5⟩, ⟨S128x128, c 6⟩, ⟨S128x128, c 7⟩]
      concatenates_S128x128_S128x128_S128x128_S128x128_S128x128_S128x128_S128x128_S128x128_S128x1024_d1) bitsLt_bf16_f32)
    wo (constant S128x1024 .f32 0x00000000#32)

/-- The key block that slot `s` of the sparse branch takes at a point: the first, the one before, its own, the next. -/
def slotWord (s : Fin 4) (b : BitVec 32) : BitVec 32 :=
  match s with
  | 0 => Scalar.subi b b
  | 1 => Scalar.subi b 1#32
  | 2 => b
  | 3 => Scalar.minsi (Scalar.addi b 1#32) 15#32

/-- Where slot `s` of head `h` starts in the keys. -/
def slotOff (s : Fin 4) (h : Fin 8) (b : BitVec 32) : Fin 2 → Nat :=
  ![(Scalar.indexCast (Scalar.muli (slotWord s b) 128#32)).toNat, 128 * h.val]

/-- The point's number, as a word. -/
abbrev pointWord (i : grid0.Coords) : BitVec 32 := BitVec.ofNat 32 (i 0).val

theorem slotOff_inb (s : Fin 4) (h : Fin 8) (i : grid0.Coords) (hi : k0_cond2 i = 1#1) (a : Fin 2) :
    slotOff s h (pointWord i) a + S128x128.size a ≤ S2048x1024.size a := by
  have hh := h.isLt
  match a with
  | ⟨1, _⟩ => show 128 * h.val + 128 ≤ 1024; omega
  | ⟨0, _⟩ =>
    match s with
    | 0 => exact k0_off1_inb i hi 0
    | 1 => exact k0_off2_inb i hi 0
    | 2 => exact k0_off3_inb i hi 0
    | 3 => exact k0_off4_inb i hi 0

/-- Slot `s` of head `h`: 128 keys, or values, by the head's columns. -/
def slot (k : Vec F S2048x1024 .bf16) (i : grid0.Coords) (hi : k0_cond2 i = 1#1) (h : Fin 8) (s : Fin 4) :
    Vec F S128x128 .bf16 :=
  View.ld k (Rect.unit (s := S2048x1024) (slotOff s h (pointWord i)) S128x128.size (slotOff_inb s h i hi))

/-- The scores of a block's rows against one slot. -/
def slotScores (q : FVec F S128x1024 .bf16) (k : Fin 8 → Fin 4 → Vec F S128x128 .bf16) (h : Fin 8) (s : Fin 4) : FVec F S128x128 .bf16 :=
  truncf .bf16 (matmul dot_S128x128_S128x128_S128x128_1_1_0_0_n_n none (headRows q h) (k h s)
    (constant S128x128 .f32 0x00000000#32)) bitsLt_bf16_f32

/-- The sparse branch's weights of one head. -/
def sparseWeights (q : FVec F S128x1024 .bf16) (k : Fin 8 → Fin 4 → Vec F S128x128 .bf16) (bias : FVec F S128x512 .bf16)
    (h : Fin 8) : FVec F S128x512 .bf16 :=
  exp (addf (concatenate S128x512 1 [⟨S128x128, slotScores q k h 0⟩, ⟨S128x128, slotScores q k h 1⟩,
    ⟨S128x128, slotScores q k h 2⟩, ⟨S128x128, slotScores q k h 3⟩]
    concatenates_S128x128_S128x128_S128x128_S128x128_S128x512_d1) bias)

/-- The sparse branch's context of one head. -/
def sparseHead (q : FVec F S128x1024 .bf16) (k v : Fin 8 → Fin 4 → Vec F S128x128 .bf16) (bias : FVec F S128x512 .bf16)
    (h : Fin 8) : FVec F S128x128 .f32 :=
  mulf (matmul dot_S128x512_S512x128_S128x128_1_0_0_1_n_n none (sparseWeights q k bias h)
      (concatenate S512x128 0 [⟨S128x128, v h 0⟩, ⟨S128x128, v h 1⟩, ⟨S128x128, v h 2⟩,
        ⟨S128x128, v h 3⟩] concatenates_S128x128_S128x128_S128x128_S128x128_S512x128_d0)
      (constant S128x128 .f32 0x00000000#32))
    (broadcastTo S128x128 (divf (broadcast S128x1 (Scalar.ofBits .f32 0x3F800000#32))
      (shapeCast S128x1 (multiReduction .add [1] S128 (extf .f32 (sparseWeights q k bias h) bitsLt_bf16_f32)
        0x00000000#32 reduces_S128x512_S128 (.inl rfl) rfl) shapeCasts_S128_S128x1)) broadcasts_S128x1_S128x128)

/-- Which of the slots counts at a point: the one before not at point 1, the next not at the last. -/
def slotValid (s : Fin 4) (b : BitVec 32) : BitVec 1 :=
  match s with
  | 0 => Scalar.cmpi .sge b 0#32
  | 1 => Scalar.cmpi .ne b 1#32
  | 2 => Scalar.cmpi .sge b 0#32
  | 3 => Scalar.cmpi .ne b 15#32

/-- The mask of one slot: zero at the keys a row sees, the mask's constant elsewhere. -/
def slotBias (s : Fin 4) (b : BitVec 32) (rows : IVec S128x1 32) : FVec F S128x128 .f32 :=
  have ki : IVec S128x128 32 :=
    addi (broadcast S128x128 (Scalar.muli (slotWord s b) 128#32)) (iota .tc S128x128 32 [1] iota_S128x128_d1_w32)
  select (andi (ori (ori
      (cmpi .sle (absi (subi (broadcastTo S128x128 rows broadcasts_S128x1_S128x128) ki)) (broadcast S128x128 128#32))
      (cmpi .slt ki (broadcast S128x128 32#32)))
      (broadcastTo S128x128 (cmpi .slt rows (broadcast S128x1 32#32)) broadcasts_S128x1_S128x128))
      (broadcast S128x128 (slotValid s b)))
    (broadcast S128x128 (Scalar.ofBits .f32 0x00000000#32)) (broadcast S128x128 (Named.named κ "mask" 0xCE6E6B28#32))

/-- The mask of the four slots side by side. -/
def sparseBias (i : grid0.Coords) : FVec F S128x512 .bf16 :=
  truncf .bf16 (concatenate S128x512 1 [⟨S128x128, slotBias 0 (pointWord i) (k0_pay2 i)⟩,
    ⟨S128x128, slotBias 1 (pointWord i) (k0_pay2 i)⟩, ⟨S128x128, slotBias 2 (pointWord i) (k0_pay2 i)⟩,
    ⟨S128x128, slotBias 3 (pointWord i) (k0_pay2 i)⟩]
    concatenates_S128x128_S128x128_S128x128_S128x128_S128x512_d1) bitsLt_bf16_f32

theorem zero_off : (![0, 0] : Fin 2 → Nat) = fun _ => 0 := funext fun a => by fin_cases a <;> rfl

theorem ld_rows (x : Vec F S128x1024 .bf16) (inb) :
    View.ld x (Rect.unit (s := S128x1024) ![0, 0] ![128, 1024] inb) = x := View.ld_unit_zero (S := S128x1024) zero_off inb x

theorem ld_square (x : Vec F S1024x1024 .bf16) (inb) :
    View.ld x (Rect.unit (s := S1024x1024) ![0, 0] ![1024, 1024] inb) = x :=
  View.ld_unit_zero (S := S1024x1024) zero_off inb x

set_option maxRecDepth 65536 in
/-- What the dense branch leaves in the output block. -/
theorem out_dense (c : Dev nD) (i : grid0.Coords) (arg1 : Memref sig .tc .vmem S128x1024 .bf16) (harg1 : arg1.IsWhole) (arg2 : Memref sig .tc .vmem S1024x1024 .bf16) (harg2 : arg2.IsWhole) (arg3 : Memref sig .tc .vmem S2048x1024 .bf16) (harg3 : arg3.IsWhole) (arg4 : Memref sig .tc .vmem S2048x1024 .bf16) (harg4 : arg4.IsWhole) (arg5 : Memref sig .tc .vmem S1024x1024 .bf16) (harg5 : arg5.IsWhole) (arg6 : Memref sig .tc .vmem S128x1024 .f32) (harg6 : arg6.IsWhole) (hc0 : cond0_0 i) (hc1 : ¬cond0_1 i)
    (x0 : Vec F S128x1024 .bf16) (x1 : Vec F S1024x1024 .bf16) (x2 : Vec F S2048x1024 .bf16) (x3 : Vec F S2048x1024 .bf16) (x4 : Vec F S1024x1024 .bf16) :
    out0_A_5 c i arg1 harg1 arg2 harg2 arg3 harg3 arg4 harg4 arg5 harg5 arg6 harg6 hc0 hc1 x0 x1 x2 x3 x4
      = project (denseHead (k0_pay1 x0 x1) (headKeys x2) (headKeys x3) (k0_pay5 (k0_pay2 i))) x4 := by
  unfold out0_A_5
  rw [View.read_writes_junk_eq_canon]
  unfold kernelRun0_A
  dsimp only
  rw [View.canon_unit_zero (S := S128x1024) zero_off]
  sl_unfold_words
  simp only [View.readAt_eq_ld, Memref.IsWhole.read_unread, ld_rows, ld_square]
  refine Eq.trans (b := project (denseHead (k0_pay1 x0 x1) (fun h => shapeCast S2048x128 (headKeys x2 h) shapeCasts_S2048x128_S2048x128)
    (fun h => shapeCast S2048x128 (headKeys x3 h) shapeCasts_S2048x128_S2048x128) (k0_pay5 (k0_pay2 i)))
    (shapeCast S1024x1024 x4 shapeCasts_S1024x1024_S1024x1024)) rfl ?_
  simp only [shapeCast_id]

set_option maxRecDepth 65536 in
set_option maxHeartbeats 1600000 in
/-- What the sparse branch leaves in the output block. -/
theorem out_sparse (c : Dev nD) (i : grid0.Coords) (arg1 : Memref sig .tc .vmem S128x1024 .bf16) (harg1 : arg1.IsWhole) (arg2 : Memref sig .tc .vmem S1024x1024 .bf16) (harg2 : arg2.IsWhole) (arg3 : Memref sig .tc .vmem S2048x1024 .bf16) (harg3 : arg3.IsWhole) (arg4 : Memref sig .tc .vmem S2048x1024 .bf16) (harg4 : arg4.IsWhole) (arg5 : Memref sig .tc .vmem S1024x1024 .bf16) (harg5 : arg5.IsWhole) (arg6 : Memref sig .tc .vmem S128x1024 .f32) (harg6 : arg6.IsWhole) (hc0 : ¬cond0_0 i) (hc1 : cond0_1 i) (hi : k0_cond2 i = 1#1)
    (x0 : Vec F S128x1024 .bf16) (x1 : Vec F S1024x1024 .bf16) (x2 : Vec F S2048x1024 .bf16) (x3 : Vec F S2048x1024 .bf16) (x4 : Vec F S1024x1024 .bf16) :
    out0_B_5 c i arg1 harg1 arg2 harg2 arg3 harg3 arg4 harg4 arg5 harg5 arg6 harg6 hc0 hc1 x0 x1 x2 x3 x4
      = project (sparseHead (k0_pay1 x0 x1) (slot x2 i hi) (slot x3 i hi) (sparseBias i)) x4 := by
  unfold out0_B_5
  rw [View.read_writes_junk_eq_canon]
  unfold kernelRun0_B
  dsimp only
  rw [View.canon_unit_zero (S := S128x1024) zero_off]
  sl_unfold_words
  refine Eq.trans (b := project (sparseHead (k0_pay1
      (View.ld (View.read (Elt F) arg1.view (harg1.unread x0)) (Rect.unit ![0, 0] ![128, 1024] inb_S128x1024_S128x1024_0_0))
      (View.ld (View.read (Elt F) arg2.view (harg2.unread x1)) (Rect.unit ![0, 0] ![1024, 1024] inb_S1024x1024_S1024x1024_0_0)))
      (fun h s => shapeCast S128x128 (slot (View.read (Elt F) arg3.view (harg3.unread x2)) i hi h s) shapeCasts_S128x128_S128x128)
      (fun h s => shapeCast S128x128 (slot (View.read (Elt F) arg4.view (harg4.unread x3)) i hi h s) shapeCasts_S128x128_S128x128)
      (sparseBias i))
      (shapeCast S1024x1024 (View.ld (View.read (Elt F) arg5.view (harg5.unread x4))
        (Rect.unit ![0, 0] ![1024, 1024] inb_S1024x1024_S1024x1024_0_0)) shapeCasts_S1024x1024_S1024x1024)) ?_ ?_
  · rfl
  · simp only [shapeCast_id, Memref.IsWhole.read_unread, ld_rows, ld_square]
    exact congrArg (project _) (shapeCast_id _ _)

end Cert.AttnValue

end
-- ==== Proof.Attn.Block.lean ====
/-
# A block of the kernel at an index, over the extended reals

Both branches of the kernel leave the same 128 rows of the output: the dense branch sums over all keys, the sparse one
over the columns of its four slots.
-/
module

public import proofs.«01_k».proof.Proof.Attn.Heads
public import proofs.«01_k».proof.Proof.Attn.Spec
public import Idealize.ShloMosaic.Lib.Pipeline.ValueKit.Tiles

@[expose] public section

noncomputable section

namespace Cert.AttnValue

open Cert.KernelIdeal Cert.KernelIdeal.Gen Idealize.ShloMosaic Idealize.ShloMosaic.TcCoe

/-- Row `r` of block `b`. -/
def blockRow (b : Fin 16) (r : Fin 128) : Fin 2048 := ⟨128 * b.val + r.val, by omega⟩

/-- The mask's constant at the extended reals. -/
theorem mask_eq : (Named.named (F := Ideal) (φ := .f32) κ "mask" 0xCE6E6B28#32) = (⊥ : EReal) := rfl

/-- A select by a decided bit. -/
theorem select_ofBool {α : Type} (p : Prop) [Decidable p] (a b : α) :
    Scalar.select (BitVec.ofBool (decide p)) a b = if p then a else b := by
  by_cases h : p <;> simp [h, Scalar.select]

/-- The word of a row: the block's first row and the row within the block. -/
theorem row_word (b r : Nat) :
    IntOp.addi (Scalar.muli (BitVec.ofNat 32 b) 128#32) (BitVec.ofNat 32 r) = BitVec.ofNat 32 (128 * b + r) := by
  show BitVec.ofNat 32 b * BitVec.ofNat 32 128 + BitVec.ofNat 32 r = _
  rw [← BitVec.ofNat_mul, ← BitVec.ofNat_add, mul_comm]

section Dense

variable {x : Mat 2048 1024} {wq : Mat 1024 1024} {k v : Mat 2048 1024} {b : Fin 16} {x0 : Mat 128 1024}

/-- A block's scaled query, from the rows it holds. -/
theorem query_apply (hx : ∀ r d, x0 (ix2 r d) = x (ix2 (blockRow b r) d)) (r : Fin 128) (e : Fin 1024) :
    k0_pay1 (F := Ideal) x0 wq (ix2 r e) = query x wq (blockRow b r) e * scale := by
  pointwise [k0_pay1]
  exact congrArg (· * scale) (Finset.sum_congr rfl fun d _ => by rw [hx])

theorem headRows_apply (q : FVec Ideal S128x1024 .bf16) (h : Fin 8) (r d : Fin 128) :
    headRows q h (ix2 r d) = q (ix2 r (headCol h d)) := by
  pointwise [headRows]
  rfl

theorem headKeys_apply (k : Vec Ideal S2048x1024 .bf16) (h : Fin 8) (j : Fin 2048) (d : Fin 128) :
    headKeys k h (ix2 j d) = k (ix2 j (headCol h d)) := by
  refine View.ld_unit_apply_of _ _ _ _ _ _ fun a => ?_
  match a with
  | ⟨0, _⟩ => show j.val = 0 + j.val; omega
  | ⟨1, _⟩ => rfl

/-- The dense mask. -/
theorem denseBias_apply (i : grid0.Coords) (hb : (i 0).val = b.val) (r : Fin 128) (j : Fin 2048) :
    k0_pay5 (F := Ideal) (k0_pay2 i) (ix2 r j) = if keeps (blockRow b r) j then (0 : EReal) else ⊥ := by
  pointwise [k0_pay5, k0_pay2]
  rw [hb, row_word, keeps_word (by omega) (by omega), select_ofBool, mask_eq]
  rfl

/-- The dense weight of a key. -/
theorem denseWeights_apply (hx : ∀ r d, x0 (ix2 r d) = x (ix2 (blockRow b r) d)) (i : grid0.Coords)
    (hb : (i 0).val = b.val) (h : Fin 8) (r : Fin 128) (j : Fin 2048) :
    denseWeights (k0_pay1 (F := Ideal) x0 wq) (headKeys k) (k0_pay5 (k0_pay2 i)) h (ix2 r j)
      = Ideal.exp (score x wq k h (blockRow b r) j + if keeps (blockRow b r) j then 0 else ⊥) := by
  pointwise [denseWeights]
  rw [denseBias_apply i hb]
  simp only [headRows_apply, headKeys_apply, query_apply hx]
  rw [scaled_query]
  rfl

/-- The dense branch's context of one head. -/
theorem denseHead_apply (hx : ∀ r d, x0 (ix2 r d) = x (ix2 (blockRow b r) d)) (i : grid0.Coords)
    (hb : (i 0).val = b.val) (hs : ∀ h i j, IsReal (score x wq k h i j)) (h : Fin 8) (r d : Fin 128) :
    denseHead (k0_pay1 (F := Ideal) x0 wq) (headKeys k) (headKeys v) (k0_pay5 (k0_pay2 i)) h (ix2 r d)
      = context x wq k v h (blockRow b r) d := by
  pointwise [denseHead]
  simp only [denseWeights_apply hx i hb, headKeys_apply]
  exact masked_row (score x wq k h (blockRow b r)) (hs h _) (keeps_self _) fun j => v (ix2 j (headCol h d))

end Dense

section Sparse

variable {x : Mat 2048 1024} {wq : Mat 1024 1024} {k v : Mat 2048 1024} {b : Fin 16} {x0 : Mat 128 1024}

/-- The key that a column of block `b` holds. -/
def keyAt (b : Fin 16) (c : Fin 512) : Fin 2048 := ⟨columnKey b c, columnKey_lt b.isLt⟩

/-- The block of keys that slot `s` holds, as a number. -/
theorem slotWord_eq (b : Fin 16) (hb : 1 ≤ b.val) (s : Fin 4) :
    slotWord s (BitVec.ofNat 32 b.val) = BitVec.ofNat 32 (slotBlock b (128 * s.val)) := by
  revert b s; decide

/-- Whether slot `s` counts, as a bit. -/
theorem slotValid_eq (b : Fin 16) (hb : 1 ≤ b.val) (s : Fin 4) :
    slotValid s (BitVec.ofNat 32 b.val) = BitVec.ofBool (decide (slotCounts b (128 * s.val))) := by
  revert b s; decide

/-- Column `c` split into its slot and its place there. -/
theorem slotBlock_split (b : Nat) (c : Nat) (hc : c < 512) : slotBlock b (128 * (c / 128)) = slotBlock b c := by
  unfold slotBlock
  split_ifs <;> first | rfl | omega

theorem slotCounts_split (b : Nat) (c : Nat) (hc : c < 512) : slotCounts b (128 * (c / 128)) ↔ slotCounts b c := by
  constructor <;> intro h <;> omega

/-- Four by 128 columns: what a concatenation of the slots reads at a column. -/
theorem column_cases {α : Type} (f : Fin 4 → Fin 128 → α) (c : Fin 512) :
    (if h : c.val < 128 then f 0 ⟨c.val, h⟩
      else if h1 : c.val - 128 < 128 then f 1 ⟨c.val - 128, h1⟩
      else if h2 : c.val - 128 - 128 < 128 then f 2 ⟨c.val - 128 - 128, h2⟩
      else f 3 ⟨c.val - 128 - 128 - 128, by omega⟩)
      = f ⟨c.val / 128, by omega⟩ ⟨c.val % 128, by omega⟩ := by
  have key : ∀ (s s' : Fin 4) (r r' : Fin 128), s.val = s'.val → r.val = r'.val → f s r = f s' r' :=
    fun s s' r r' hs hr => by rw [Fin.ext hs, Fin.ext hr]
  split_ifs <;> refine key _ _ _ _ ?_ ?_ <;> simp <;> omega

/-- A slot of the keys, or of the values. -/
theorem slot_apply (k : Vec Ideal S2048x1024 .bf16) (s : Fin 4) (h : Fin 8) (i : grid0.Coords) (hi : k0_cond2 i = 1#1)
    (hb : (i 0).val = b.val) (hb1 : 1 ≤ b.val) (r d : Fin 128) (j : Fin 2048)
    (hj : j.val = 128 * slotBlock b (128 * s.val) + r.val) :
    slot k i hi h s (ix2 r d) = k (ix2 j (headCol h d)) := by
  refine View.ld_unit_apply_of _ _ _ _ _ _ fun a => ?_
  match a with
  | ⟨1, _⟩ => rfl
  | ⟨0, _⟩ =>
    show j.val = (Scalar.indexCast (Scalar.muli (slotWord s (pointWord i)) 128#32)).toNat + r.val
    rw [pointWord, hb, slotWord_eq b hb1, hj]
    have hn : slotBlock b (128 * s.val) < 16 := by unfold slotBlock; split_ifs <;> omega
    show _ = (BitVec.ofNat 32 _ * BitVec.ofNat 32 128).toNat + r.val
    rw [← BitVec.ofNat_mul, BitVec.toNat_ofNat, Nat.mod_eq_of_lt (by omega), mul_comm]

/-- The mask of one slot. -/
theorem slotBias_apply (s : Fin 4) (i : grid0.Coords) (hb : (i 0).val = b.val) (hb1 : 1 ≤ b.val) (r t : Fin 128) :
    slotBias (F := Ideal) s (pointWord i) (k0_pay2 i) (ix2 r t)
      = if keeps (blockRow b r) (128 * slotBlock b (128 * s.val) + t.val) ∧ slotCounts b (128 * s.val) then (0 : EReal)
        else ⊥ := by
  have hn : slotBlock b (128 * s.val) < 16 := by unfold slotBlock; split_ifs <;> omega
  pointwise [slotBias, k0_pay2]
  rw [pointWord, hb, slotWord_eq b hb1, slotValid_eq b hb1]
  rw [row_word, row_word, keeps_word (by omega) (by omega)]
  unfold IntOp.andi
  rw [BitVec.ofBool_and_ofBool, ← Bool.decide_and, select_ofBool, mask_eq]
  rfl

/-- The mask of the four slots side by side. -/
theorem sparseBias_apply (i : grid0.Coords) (hb : (i 0).val = b.val) (hb1 : 1 ≤ b.val) (r : Fin 128) (c : Fin 512) :
    sparseBias (F := Ideal) i (ix2 r c) = if columnKeeps b (blockRow b r) c then (0 : EReal) else ⊥ := by
  pointwise [sparseBias]
  rw [column_cases fun s t => slotBias (F := Ideal) s (pointWord i) (k0_pay2 i) (ix2 r t), slotBias_apply _ i hb hb1]
  simp only [slotBlock_split b c c.isLt, slotCounts_split b c c.isLt]
  rfl

/-- The scores of a block's rows against one slot. -/
theorem slotScores_apply (hx : ∀ r d, x0 (ix2 r d) = x (ix2 (blockRow b r) d)) (s : Fin 4) (h : Fin 8)
    (i : grid0.Coords) (hi : k0_cond2 i = 1#1) (hb : (i 0).val = b.val) (hb1 : 1 ≤ b.val) (r t : Fin 128) (j : Fin 2048)
    (hj : j.val = 128 * slotBlock b (128 * s.val) + t.val) :
    slotScores (k0_pay1 (F := Ideal) x0 wq) (slot k i hi) h s (ix2 r t) = score x wq k h (blockRow b r) j := by
  pointwise [slotScores]
  simp only [headRows_apply, slot_apply k s h i hi hb hb1 t _ j hj, query_apply hx]
  rw [scaled_query]
  rfl

/-- The sparse weight of a column. -/
theorem sparseWeights_apply (hx : ∀ r d, x0 (ix2 r d) = x (ix2 (blockRow b r) d)) (h : Fin 8) (i : grid0.Coords)
    (hi : k0_cond2 i = 1#1) (hb : (i 0).val = b.val) (hb1 : 1 ≤ b.val) (r : Fin 128) (c : Fin 512) :
    sparseWeights (k0_pay1 (F := Ideal) x0 wq) (slot k i hi) (sparseBias i) h (ix2 r c)
      = Ideal.exp (score x wq k h (blockRow b r) (keyAt b c) + if columnKeeps b (blockRow b r) c then 0 else ⊥) := by
  pointwise [sparseWeights]
  rw [column_cases fun s t => slotScores (k0_pay1 (F := Ideal) x0 wq) (slot k i hi) h s (ix2 r t), sparseBias_apply i hb hb1,
    slotScores_apply hx _ h i hi hb hb1 r _ (keyAt b c)]
  exact congrArg (fun n => 128 * n + c.val % 128) (slotBlock_split b c c.isLt).symm

/-- The sparse branch's context of one head. -/
theorem sparseHead_apply (hx : ∀ r d, x0 (ix2 r d) = x (ix2 (blockRow b r) d)) (i : grid0.Coords)
    (hi : k0_cond2 i = 1#1) (hb : (i 0).val = b.val) (hb1 : 1 ≤ b.val) (hs : ∀ h i j, IsReal (score x wq k h i j))
    (h : Fin 8) (r d : Fin 128) :
    sparseHead (k0_pay1 (F := Ideal) x0 wq) (slot k i hi) (slot v i hi) (sparseBias i) h (ix2 r d)
      = context x wq k v h (blockRow b r) d := by
  have hv : ∀ c : Fin 512, slot (F := Ideal) v i hi h ⟨c.val / 128, by omega⟩ (ix2 ⟨c.val % 128, by omega⟩ d)
      = v (ix2 (keyAt b c) (headCol h d)) := fun c =>
    slot_apply v ⟨c.val / 128, by omega⟩ h i hi hb hb1 ⟨c.val % 128, by omega⟩ d (keyAt b c)
      (congrArg (fun n => 128 * n + c.val % 128) (slotBlock_split b c c.isLt).symm)
  pointwise [sparseHead]
  simp only [column_cases fun s t => slot (F := Ideal) v i hi h s (ix2 t d), hv, sparseWeights_apply hx h i hi hb hb1]
  exact gathered_row (κ := Fin 2048) (score x wq k h (blockRow b r)) (fun c : Fin 512 => columnKeeps b (blockRow b r) c)
    (keyAt b) (fun c hc => hc.1)
    (fun c c' hc hc' e => Fin.ext (columnKey_inj hb1 b.isLt c.isLt c'.isLt hc.2 hc'.2 (congrArg Fin.val e)))
    (fun j hj => by
      obtain ⟨c, hc, hk, e⟩ := columnKey_cover hb1 b.isLt (Nat.le_add_right _ _) (Nat.add_lt_add_left r.isLt _) j.isLt hj
      exact ⟨⟨c, hc⟩, hk, Fin.ext e⟩)
    (hs h _) (j := blockRow b r) (keeps_self _) fun j => v (ix2 j (headCol h d))

end Sparse

/-- The output projection of eight contexts. -/
theorem project_apply {x : Mat 2048 1024} {wq : Mat 1024 1024} {k v : Mat 2048 1024} {wo : Mat 1024 1024}
    (c : Fin 8 → FVec Ideal S128x128 .f32) (i : Fin 2048) (r : Fin 128)
    (hc : ∀ h d, c h (ix2 r d) = context x wq k v h i d) (n : Fin 1024) :
    project c wo (ix2 r n) = output x wq k v wo i n := by
  have key : ∀ (h : Fin 8) (d : Fin 128) (e : Fin 1024), e.val = 128 * h.val + d.val →
      c h (ix2 r d) = context x wq k v ⟨e.val / 128, by omega⟩ i ⟨e.val % 128, by omega⟩ := fun h d e he => by
    rw [hc, show (⟨e.val / 128, by omega⟩ : Fin 8) = h from Fin.ext (by show e.val / 128 = h.val; omega),
      show (⟨e.val % 128, by omega⟩ : Fin 128) = d from Fin.ext (by show e.val % 128 = d.val; omega)]
  pointwise [project]
  refine Finset.sum_congr rfl fun e _ => congrArg (· * wo (ix2 e n)) ?_
  split_ifs <;> refine key _ _ e ?_ <;> simp <;> omega

end Cert.AttnValue

end
-- ==== Proof.Attn.Run.lean ====
/-
# The kernel's output array

Point `t` writes rows `128 t` to `128 t + 127`, the first by the dense branch, the others by the sparse one; together
they are the whole array, which is `output` of the arguments.
-/
module

public import proofs.«01_k».proof.Proof.Attn.Block

@[expose] public section

noncomputable section

namespace Cert.AttnValue

open Cert.KernelIdeal Cert.KernelIdeal.Gen Cert.KernelIdealProof.Attend Idealize.ShloMosaic Idealize.ShloMosaic.TcCoe Idealize.SL.Sem

variable (V : (c : Dev nD) → (b : Ref sig .tc) → Buf (Elt Ideal) ((c : Thread nD τ).loc b))

/-- The grid point's number. -/
theorem coords_val : ∀ t : Fin cfg0.N, (grid0.coords t 0).val = t.val := (by decide +kernel : ∀ t : Fin grid0.N, _)

theorem index0 : ∀ t : Fin cfg0.N, win0_0.index t (0 : Fin 2) = t.val ∧ win0_0.index t (1 : Fin 2) = 0 :=
  (by decide +kernel : ∀ t : Fin grid0.N, _)
theorem index5 : ∀ t : Fin cfg0.N, win0_5.index t (0 : Fin 2) = t.val ∧ win0_5.index t (1 : Fin 2) = 0 :=
  (by decide +kernel : ∀ t : Fin grid0.N, _)
theorem index1 : ∀ t : Fin cfg0.N, win0_1.index t (0 : Fin 2) = 0 ∧ win0_1.index t (1 : Fin 2) = 0 :=
  (by decide +kernel : ∀ t : Fin grid0.N, _)
theorem index2 : ∀ t : Fin cfg0.N, win0_2.index t (0 : Fin 2) = 0 ∧ win0_2.index t (1 : Fin 2) = 0 :=
  (by decide +kernel : ∀ t : Fin grid0.N, _)
theorem index3 : ∀ t : Fin cfg0.N, win0_3.index t (0 : Fin 2) = 0 ∧ win0_3.index t (1 : Fin 2) = 0 :=
  (by decide +kernel : ∀ t : Fin grid0.N, _)
theorem index4 : ∀ t : Fin cfg0.N, win0_4.index t (0 : Fin 2) = 0 ∧ win0_4.index t (1 : Fin 2) = 0 :=
  (by decide +kernel : ∀ t : Fin grid0.N, _)

/-- From point 1 on the sparse branch runs. -/
theorem sparse_point : ∀ t : Fin cfg0.N, 1 ≤ t.val → k0_cond2 (grid0.coords t) = 1#1 :=
  (by decide +kernel : ∀ t : Fin grid0.N, _)

/-- The point as a block's number. -/
abbrev pt (t : Fin cfg0.N) : Fin 16 := ⟨t.val, t.isLt⟩

/-- Where the query block and the output block lie: rows `128 t` on. -/
theorem emb_rows0 (t : Fin cfg0.N) (r : Fin 128) (d : Fin 1024) :
    ((cfg0.win 0).blk t).view.emb (ix2 r d) = ix2 (blockRow (pt t) r) d := by
  obtain ⟨e0, e1⟩ := index0 t
  funext a; apply Fin.ext
  match a with
  | ⟨0, _⟩ => show win0_0.index t (0 : Fin 2) * 128 + 1 * r.val = 128 * t.val + r.val; omega
  | ⟨1, _⟩ => show win0_0.index t (1 : Fin 2) * 1024 + 1 * d.val = d.val; omega

theorem emb_rows5 (t : Fin cfg0.N) (r : Fin 128) (d : Fin 1024) :
    ((cfg0.win 5).blk t).view.emb (ix2 r d) = ix2 (blockRow (pt t) r) d := by
  obtain ⟨e0, e1⟩ := index5 t
  funext a; apply Fin.ext
  match a with
  | ⟨0, _⟩ => show win0_5.index t (0 : Fin 2) * 128 + 1 * r.val = 128 * t.val + r.val; omega
  | ⟨1, _⟩ => show win0_5.index t (1 : Fin 2) * 1024 + 1 * d.val = d.val; omega

/-- The other inputs' blocks are their arrays. -/
theorem iblk1_eq (c : Dev nD) (t : Fin cfg0.N) : iblk V c 1 t = V c main_arg1 := by
  obtain ⟨e0, e1⟩ := index1 t
  funext j
  refine congrArg (V c main_arg1) (funext fun a => Fin.ext ?_)
  match a with
  | ⟨0, _⟩ => show win0_1.index t (0 : Fin 2) * 1024 + 1 * (j 0).val = (j 0).val; omega
  | ⟨1, _⟩ => show win0_1.index t (1 : Fin 2) * 1024 + 1 * (j 1).val = (j 1).val; omega

theorem iblk2_eq (c : Dev nD) (t : Fin cfg0.N) : iblk V c 2 t = V c main_v18 := by
  obtain ⟨e0, e1⟩ := index2 t
  funext j
  refine congrArg (V c main_v18) (funext fun a => Fin.ext ?_)
  match a with
  | ⟨0, _⟩ => show win0_2.index t (0 : Fin 2) * 2048 + 1 * (j 0).val = (j 0).val; omega
  | ⟨1, _⟩ => show win0_2.index t (1 : Fin 2) * 1024 + 1 * (j 1).val = (j 1).val; omega

theorem iblk3_eq (c : Dev nD) (t : Fin cfg0.N) : iblk V c 3 t = V c main_v19 := by
  obtain ⟨e0, e1⟩ := index3 t
  funext j
  refine congrArg (V c main_v19) (funext fun a => Fin.ext ?_)
  match a with
  | ⟨0, _⟩ => show win0_3.index t (0 : Fin 2) * 2048 + 1 * (j 0).val = (j 0).val; omega
  | ⟨1, _⟩ => show win0_3.index t (1 : Fin 2) * 1024 + 1 * (j 1).val = (j 1).val; omega

theorem iblk4_eq (c : Dev nD) (t : Fin cfg0.N) : iblk V c 4 t = V c main_arg4 := by
  obtain ⟨e0, e1⟩ := index4 t
  funext j
  refine congrArg (V c main_arg4) (funext fun a => Fin.ext ?_)
  match a with
  | ⟨0, _⟩ => show win0_4.index t (0 : Fin 2) * 1024 + 1 * (j 0).val = (j 0).val; omega
  | ⟨1, _⟩ => show win0_4.index t (1 : Fin 2) * 1024 + 1 * (j 1).val = (j 1).val; omega

/-- The output array as one function of the arguments. -/
def result (x : Mat 2048 1024) (wq : Mat 1024 1024) (k v : Mat 2048 1024) (wo : Mat 1024 1024) : Mat 2048 1024 :=
  fun j => output x wq k v wo (j 0) (j 1)

/-- The result of the arguments as a device finds them. -/
abbrev resultOf (c : Dev nD) : Mat 2048 1024 :=
  result (V c main_v5) (V c main_arg1) (V c main_v18) (V c main_v19) (V c main_arg4)

theorem iblk0_apply (c : Dev nD) (t : Fin cfg0.N) (r : Fin 128) (d : Fin 1024) :
    iblk V c 0 t (ix2 r d) = V c main_v5 (ix2 (blockRow (pt t) r) d) :=
  congrArg (V c main_v5) (emb_rows0 t r d)

/-- What a point writes back, the first by the dense branch, -/
theorem flushed_dense (c : Dev nD) (t : Fin cfg0.N) (h0 : t.val % 16 = 0) (h1 : ¬1 ≤ t.val) :
    (adat V c).flushed 5 t = (cfg0.win 5).cut (grid0.coords t) (out0_A_5 c (grid0.coords t) (ms0_0 t) (hs0_0 t) (ms0_1 t)
      (hs0_1 t) (ms0_2 t) (hs0_2 t) (ms0_3 t) (hs0_3 t) (ms0_4 t) (hs0_4 t) (ms0_5 t) (hs0_5 t) ((hcond0_0 t).mpr h0)
      (fun h => h1 ((hcond0_1 t).mp h)) (iblk V c 0 t) (iblk V c 1 t) (iblk V c 2 t) (iblk V c 3 t) (iblk V c 4 t)) := by
  show (cfg0.win 5).cut (grid0.coords t) ((adat V c).after 5 t) = _
  rw [after0_5, outsAt0_A V c t h0 h1]

/-- and every other by the sparse one. -/
theorem flushed_sparse (c : Dev nD) (t : Fin cfg0.N) (h0 : ¬t.val % 16 = 0) (h1 : 1 ≤ t.val) :
    (adat V c).flushed 5 t = (cfg0.win 5).cut (grid0.coords t) (out0_B_5 c (grid0.coords t) (ms0_0 t) (hs0_0 t) (ms0_1 t)
      (hs0_1 t) (ms0_2 t) (hs0_2 t) (ms0_3 t) (hs0_3 t) (ms0_4 t) (hs0_4 t) (ms0_5 t) (hs0_5 t) (fun h => h0 ((hcond0_0 t).mp h))
      ((hcond0_1 t).mpr h1) (iblk V c 0 t) (iblk V c 1 t) (iblk V c 2 t) (iblk V c 3 t) (iblk V c 4 t)) := by
  show (cfg0.win 5).cut (grid0.coords t) ((adat V c).after 5 t) = _
  rw [after0_5, outsAt0_B V c t h0 h1]

variable (c : Dev nD)
  (hs : ∀ h i j, IsReal (score (V c main_v5) (V c main_arg1) (V c main_v18) h i j))

include hs in
/-- What a point writes back is its rows of the result. -/
theorem flushed_eq (t : Fin cfg0.N) :
    (adat V c).flushed 5 t = ((cfg0.win 5).blk t).view.read (Elt Ideal) (resultOf V c) := by
  have hrow : ∀ y : Mat 128 1024,
      (∀ r n, y (ix2 r n) = output (V c main_v5) (V c main_arg1) (V c main_v18) (V c main_v19)
        (V c main_arg4) (blockRow (pt t) r) n) →
      (cfg0.win 5).cut (grid0.coords t) y = ((cfg0.win 5).blk t).view.read (Elt Ideal) (resultOf V c) := fun y hy => by
    funext j
    show y j = resultOf V c (((cfg0.win 5).blk t).view.emb j)
    obtain ⟨r, n, rfl⟩ : ∃ (r : Fin 128) (n : Fin 1024), j = ix2 r n := ⟨j 0, j 1, eq_ix2 j⟩
    rw [emb_rows5, hy]
    rfl
  by_cases h0 : t.val % 16 = 0
  · rw [flushed_dense V c t h0 (by have : t.val < 16 := t.isLt; omega), out_dense, iblk1_eq, iblk2_eq, iblk3_eq, iblk4_eq]
    exact hrow _ fun r n => project_apply _ _ r
      (fun h d => denseHead_apply (iblk0_apply V c t) (grid0.coords t) (coords_val t) hs h r d) n
  · have ht := t.isLt
    have h1 : 1 ≤ t.val := by omega
    rw [flushed_sparse V c t h0 h1, out_sparse (hi := sparse_point t h1), iblk1_eq, iblk2_eq, iblk3_eq, iblk4_eq]
    exact hrow _ fun r n => project_apply _ _ r
      (fun h d => sparseHead_apply (iblk0_apply V c t) (grid0.coords t) (sparse_point t h1) (coords_val t) h1 hs h r d) n

/-- Every index of the output is in some point's block. -/
theorem covered (i : S2048x1024.Idx) :
    ∃ t : Fin cfg0.N, (cfg0.win 5).flush t = true ∧ i ∈ ((cfg0.win 5).blk t).view.set := by
  obtain ⟨a, d, rfl⟩ : ∃ (a : Fin 2048) (d : Fin 1024), i = ix2 a d := ⟨i 0, i 1, eq_ix2 i⟩
  have ha := a.isLt
  let t : Fin cfg0.N := ⟨a.val / 128, by show a.val / 128 < 16; omega⟩
  refine ⟨t, flush0_5 _, ?_⟩
  have h := ((cfg0.win 5).blk t).view.emb_mem_set (ix2 (⟨a.val % 128, by omega⟩ : Fin 128) d)
  rw [emb_rows5] at h
  have e : blockRow (pt t) ⟨a.val % 128, by omega⟩ = a := Fin.ext (by show 128 * (a.val / 128) + a.val % 128 = a.val; omega)
  rwa [e] at h

include hs in
/-- The output array after the run. -/
theorem final_eq : (adat V c).arrAt 5 cfg0.N = resultOf V c :=
  (adat V c).arrAt_eq_of_cover 5 (resultOf V c) (fun t _ => flushed_eq V c hs t) covered

end Cert.AttnValue

end
-- ==== Proof.Attn.Ref.lean ====
/-
# The reference's output

The reference's operations, each stage named, read at an index: its output is `outputAll` of the arguments.
-/
module

public import proofs.«01_k».proof.Proof.Gen.ReferenceIdeal.Run
public import proofs.«01_k».proof.Proof.Attn.Whole
public import proofs.«01_k».proof.Proof.Attn.Block

@[expose] public section

noncomputable section

namespace Cert.AttnValue.Ref

open Cert.ReferenceIdeal Cert.ReferenceIdeal.Gen Cert.ReferenceIdeal.Value Idealize.ShloMosaic Idealize.ShloMosaic.TcCoe

variable {F : FTy → Type} [FloatOps F]

/-- Which keys each row sees. -/
def mask : IVec S2048x2048 1 :=
  ori (cmpi .sle (absi (subi
      (broadcastInDim S2048x2048 ![0, 1] bcast_S2048x1_S2048x2048_0_1 (broadcastInDim S2048x1 ![0] bcast_S2048_S2048x1_0 (iotaInDim S2048 32 0)))
      (broadcastInDim S2048x2048 ![0, 1] bcast_S1x2048_S2048x2048_0_1 (broadcastInDim S1x2048 ![1] bcast_S2048_S1x2048_1 (iotaInDim S2048 32 0)))))
      (broadcastInDim S2048x2048 ![] bcast_S_S2048x2048 (constantI S_ 32 128#32)))
    (ori (broadcastInDim S2048x2048 ![0, 1] bcast_S1x2048_S2048x2048_0_1
        (cmpi .slt (broadcastInDim S1x2048 ![1] bcast_S2048_S1x2048_1 (iotaInDim S2048 32 0))
          (broadcastInDim S1x2048 ![] bcast_S_S1x2048 (constantI S_ 32 32#32))))
      (broadcastInDim S2048x2048 ![0, 1] bcast_S2048x1_S2048x2048_0_1
        (cmpi .slt (broadcastInDim S2048x1 ![0] bcast_S2048_S2048x1_0 (iotaInDim S2048 32 0))
          (broadcastInDim S2048x1 ![] bcast_S_S2048x1 (constantI S_ 32 32#32)))))

/-- Whether a row sees any key. -/
def rowKeep : IVec S2048 1 :=
  Host.reduce IntOp.ori mask (constantI S_ 1 0#1) reducesTo_S2048x2048_S2048_d1 h_S_

/-- The scaled scores. -/
def scores (x : FVec F S1x2048x1024 .bf16) (wq : FVec F S1024x16384 .bf16) (k : FVec F S1x2048x128x128 .bf16) :
    FVec F S128x2048x2048 .f32 :=
  mulf (extf .f32 (truncf .bf16 (Host.dotGeneral dot_S2048x128x128_S2048x128x128_S128x2048x2048_2_2_0_0_1_1 none
      (shapeCast _ (truncf .bf16 (Host.dotGeneral dot_S2048x1024_S1024x16384_S2048x16384_1_0_0_1_n_n none
        (shapeCast _ x shapeCasts_S1x2048x1024_S2048x1024) wq)
        bitsLt_bf16_f32) shapeCasts_S2048x16384_S2048x128x128)
      (shapeCast _ k shapeCasts_S1x2048x128x128_S2048x128x128)) bitsLt_bf16_f32) bitsLt_bf16_f32)
    (broadcastInDim S128x2048x2048 ![] bcast_S_S128x2048x2048 (constant S_ .f32 0x3DB504F3#32))

/-- The scores where the mask holds, minus infinity elsewhere. -/
def masked (s : FVec F S128x2048x2048 .f32) : FVec F S128x2048x2048 .f32 :=
  select (broadcastInDim S128x2048x2048 ![0, 1, 2] bcast_S1x2048x2048_S128x2048x2048_0_1_2
      (broadcastInDim S1x2048x2048 ![1, 2] bcast_S2048x2048_S1x2048x2048_1_2 mask)) s
    (broadcastInDim S128x2048x2048 ![] bcast_S_S128x2048x2048 (id (constant S_ .f32 0xFF800000#32)))

/-- Each row's maximum. -/
def rowMax (s : FVec F S128x2048x2048 .f32) : FVec F S128x2048 .f32 :=
  Host.reduce FloatOps.maximumf (masked s) (constant S_ .f32 0xFF800000#32) reducesTo_S128x2048x2048_S128x2048_d2 h_S_

/-- The exponentials. -/
def exps (s : FVec F S128x2048x2048 .f32) : FVec F S128x2048x2048 .f32 :=
  Host.exp (subf (masked s) (broadcastInDim S128x2048x2048 ![0, 1, 2] bcast_S128x2048x1_S128x2048x2048_0_1_2
    (broadcastInDim S128x2048x1 ![0, 1] bcast_S128x2048_S128x2048x1_0_1 (rowMax s))))

/-- The sums of the exponentials, one for a row that sees no key. -/
def sums (b : IVec S2048 1) (e : FVec F S128x2048x2048 .f32) : FVec F S128x2048x1 .f32 :=
  select (broadcastInDim S128x2048x1 ![0, 1, 2] bcast_S1x2048x1_S128x2048x1_0_1_2
      (broadcastInDim S1x2048x1 ![1] bcast_S2048_S1x2048x1_1 b))
    (broadcastInDim S128x2048x1 ![0, 1] bcast_S128x2048_S128x2048x1_0_1
      (Host.reduceAdd e (constant S_ .f32 0x00000000#32) reducesTo_S128x2048x2048_S128x2048_d2 h_S_))
    (broadcastInDim S128x2048x1 ![] bcast_S_S128x2048x1 (id (constant S_ .f32 0x3F800000#32)))

/-- The shares, zero for a row that sees no key. -/
def shares (b : IVec S2048 1) (e : FVec F S128x2048x2048 .f32) : FVec F S128x2048x2048 .f32 :=
  select (broadcastInDim S128x2048x2048 ![0, 1, 2] bcast_S1x2048x1_S128x2048x2048_0_1_2
      (broadcastInDim S1x2048x1 ![1] bcast_S2048_S1x2048x1_1 b))
    (Host.divf e (broadcastInDim S128x2048x2048 ![0, 1, 2] bcast_S128x2048x1_S128x2048x2048_0_1_2 (sums b e)))
    (broadcastInDim S128x2048x2048 ![] bcast_S_S128x2048x2048 (id (constant S_ .f32 0x00000000#32)))

/-- The contexts, one head after the other: the values by their shares. -/
def heads (w : FVec F S128x2048x2048 .f32) (v : FVec F S1x2048x128x128 .bf16) : FVec F S128x128x2048 .f32 :=
  Host.dotGeneral dot_S2048x128x128_S128x2048x2048_S128x128x2048_0_2_2_1_1_0 none
    (extf .f32 (shapeCast _ v shapeCasts_S1x2048x128x128_S2048x128x128) bitsLt_bf16_f32) w

/-- The contexts side by side. -/
def contexts (o : FVec F S128x128x2048 .f32) : FVec F S2048x16384 .f32 :=
  shapeCast _ (transpose S2048x128x128 [2, 0, 1] o transposes_S128x128x2048_S2048x128x128_2_0_1) shapeCasts_S2048x128x128_S2048x16384

/-- The reference's output from its stages. -/
def out (x : FVec F S1x2048x1024 .bf16) (wq : FVec F S1024x16384 .bf16) (k v : FVec F S1x2048x128x128 .bf16)
    (wo : FVec F S16384x1024 .bf16) : FVec F S1x2048x1024 .f32 :=
  broadcastInDim S1x2048x1024 ![1, 2] bcast_S2048x1024_S1x2048x1024_1_2
    (Host.dotGeneral dot_S2048x16384_S16384x1024_S2048x1024_1_0_0_1_n_n none
      (contexts (heads (shares rowKeep (exps (scores x wq k))) v)) (extf .f32 wo bitsLt_bf16_f32))

theorem res_eq (m : (ℓ : Loc nD τ sig) → Buf (Elt F) ℓ) (c : Dev nD) :
    res_out0 m c = out (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4)) := rfl

/-- The mask at a row and a key. -/
theorem mask_apply (i j : Fin 2048) : mask (ix2 i j) = BitVec.ofBool (decide (keeps i j)) := by
  rw [← keeps_word (by omega) (by omega)]
  pointwise [mask]
  exact (BitVec.or_assoc _ _ _).symm

/-- A bit that is set stays set under "or" with any others. -/
theorem fold_ori_one {ι : Type} [Fintype ι] [DecidableEq ι] (f : ι → BitVec 1) {i : ι} (hi : f i = 1#1) :
    Finset.univ.fold IntOp.ori 0#1 f = 1#1 := by
  rw [← Finset.insert_erase (Finset.mem_univ i), Finset.fold_insert (Finset.notMem_erase i _), hi]
  generalize Finset.fold IntOp.ori 0#1 f (Finset.univ.erase i) = b
  revert b
  decide

/-- Every row sees its own key. -/
theorem rowKeep_apply (i : Fin 2048) : rowKeep (ix1 i) = 1#1 := by
  pointwise [rowKeep]
  exact fold_ori_one _ (i := i) (by rw [mask_apply]; simp [keeps_self])

/-- The scores, entry by entry. -/
theorem scores_apply (x : Acts) (wq : Mat 1024 16384) (k : Heads) (c : Fin 16) (h : Fin 8) (i j : Fin 2048) :
    scores (F := Ideal) x wq k (ix3 (headOf c h) i j) = score (acts x) (columnsOf c wq) (headsOf c k) h i j := by
  pointwise [scores]
  rw [score, scale]
  refine congrArg (· * _) (Finset.sum_congr rfl fun d _ => ?_)
  rw [headsOf_apply]
  refine congrArg (· * _) (Finset.sum_congr rfl fun e _ => ?_)
  rw [columnsOf_apply]
  refine congrArg (fun z => x (ix3 0 i e) * wq (ix2 e z)) (Fin.ext ?_)
  show (8 * c.val + h.val) * 128 + d.val = 1024 * c.val + (128 * h.val + d.val)
  omega

/-- The word of minus infinity. -/
theorem ofBits_neg_inf : Ideal.ofBits .f32 0xFF800000#32 = (⊥ : EReal) := by
  simp [Ideal.ofBits, Ideal.ieee]

theorem select_one {α : Type} (a b : α) : Scalar.select 1#1 a b = a := rfl

theorem masked_apply (s : FVec Ideal S128x2048x2048 .f32) (g : Fin 128) (i j : Fin 2048) :
    masked s (ix3 g i j) = if keeps i j then s (ix3 g i j) else (⊥ : EReal) := by
  pointwise [masked]
  rw [mask_apply, select_ofBool]
  exact congrArg (fun z : EReal => if keeps i j then s (ix3 g i j) else z) ofBits_neg_inf

theorem rowMax_apply (s : FVec Ideal S128x2048x2048 .f32) (g : Fin 128) (i : Fin 2048) :
    rowMax s (ix2 g i) = Finset.univ.fold max (⊥ : EReal) fun j : Fin 2048 => masked s (ix3 g i j) := by
  pointwise [rowMax]
  rw [ofBits_neg_inf]

theorem exps_apply (s : FVec Ideal S128x2048x2048 .f32) (g : Fin 128) (i j : Fin 2048) :
    exps s (ix3 g i j) = Ideal.exp (masked s (ix3 g i j) - rowMax s (ix2 g i)) := by
  pointwise [exps]

theorem shares_apply (b : IVec S2048 1) (e : FVec Ideal S128x2048x2048 .f32) (g : Fin 128) (i j : Fin 2048) (hb : b (ix1 i) = 1#1) :
    shares b e (ix3 g i j) = Ideal.div (e (ix3 g i j)) (∑ l : Fin 2048, e (ix3 g i l)) := by
  pointwise [shares, sums]
  rw [hb, select_one, select_one]

theorem heads_apply (w : FVec Ideal S128x2048x2048 .f32) (v : Heads) (g : Fin 128) (d : Fin 128) (i : Fin 2048) :
    heads (F := Ideal) w v (ix3 g d i) = ∑ j : Fin 2048, v (ix4 0 j g d) * w (ix3 g i j) := by
  pointwise [heads]

theorem contexts_apply (o : FVec Ideal S128x128x2048 .f32) (i : Fin 2048) (e : Fin 16384) :
    contexts o (ix2 i e) = o (ix3 ⟨e.val / 128, by omega⟩ ⟨e.val % 128, by omega⟩ i) := by
  pointwise [contexts]

/-- A head's context is the shares' sum of the values, for real scores. -/
theorem heads_shares (x : Acts) (wq : Mat 1024 16384) (k v : Heads) (c : Fin 16)
    (hs : ∀ h i j, IsReal (score (acts x) (columnsOf c wq) (headsOf c k) h i j)) (h : Fin 8) (d : Fin 128) (i : Fin 2048) :
    heads (F := Ideal) (shares rowKeep (exps (scores (F := Ideal) x wq k))) v (ix3 (headOf c h) d i)
      = context (acts x) (columnsOf c wq) (headsOf c k) (headsOf c v) h i d := by
  rw [heads_apply, context, ← shifted_row (keep := fun j : Fin 2048 => keeps i j)
    (score (acts x) (columnsOf c wq) (headsOf c k) h i) (hs h i) (keeps_self i) (fun j => headsOf c v (ix2 j (headCol h d)))
    (rowMax (scores (F := Ideal) x wq k) (ix2 (headOf c h) i)) (by simp only [rowMax_apply, masked_apply, scores_apply])]
  simp only [shares_apply _ _ _ _ _ (rowKeep_apply i), exps_apply, masked_apply, scores_apply, headsOf_apply]

/-- The reference's output, for real scores. -/
theorem out_apply (x : Acts) (wq : Mat 1024 16384) (k v : Heads) (wo : Mat 16384 1024)
    (hs : ∀ c h i j, IsReal (score (acts x) (columnsOf c wq) (headsOf c k) h i j)) (i : Fin 2048) (n : Fin 1024) :
    out (F := Ideal) x wq k v wo (ix3 0 i n) = outputAll x wq k v wo i n := by
  pointwise [out]
  rw [outputAll, sum_devices]
  refine Finset.sum_congr rfl fun c _ => Finset.sum_congr rfl fun e _ => ?_
  rw [contexts_apply, ← heads_shares x wq k v c (hs c)]
  refine congrArg₂ (fun g d => heads (F := Ideal) (shares rowKeep (exps (scores (F := Ideal) x wq k))) v (ix3 g d i)
    * wo (ix2 (wide c e) n)) (Fin.ext ?_) (Fin.ext ?_)
  · show (1024 * c.val + e.val) / 128 = 8 * c.val + e.val / 128
    omega
  · show (1024 * c.val + e.val) % 128 = e.val % 128
    omega

end Cert.AttnValue.Ref

end
-- ==== Proof.Attn.Finite.lean ====
/-
# The precondition, entry by entry

The precondition says that the activations, the query projection and the keys are finite; then every score is a real
number.
-/
module

public import proofs.«01_k».proof.Defs
public import proofs.«01_k».proof.Proof.Attn.Whole

@[expose] public section

noncomputable section

namespace Cert.AttnValue

open Cert.Pre_finite_KernelIdeal Idealize.ShloMosaic

/-- An extended real whose absolute value is under infinity is a real number. -/
theorem isReal_of_olt {x : EReal}
    (h : BitVec.ofBool (decide (FloatOps.absf (F := Ideal) (φ := .f32) x < Ideal.ofBits .f32 0x7F800000#32)) = 1#1) :
    IsReal x := by
  have ht : Ideal.ofBits .f32 0x7F800000#32 = (⊤ : EReal) := by simp [Ideal.ofBits, Ideal.ieee]
  have h1 : max x (-x) < (⊤ : EReal) := by
    by_contra hn
    rw [ht, Ideal.absf_def, decide_eq_false hn] at h
    exact absurd h (by decide)
  refine ⟨x.toReal, EReal.coe_toReal (fun e => ?_) (fun e => ?_)⟩ <;> subst e <;> simp at h1

variable [Cert.Pre_finite_KernelIdeal.Facts]

/-- The entries the precondition asks about: the three arguments one under the other, the keys in rows of 1024. -/
def asked (x : Acts) (wq : Mat 1024 1024) (k : Heads) (i : Fin 35840) (d : Fin 1024) : EReal :=
  if h : i.val < 2048 then x (ix3 0 ⟨i.val, h⟩ d)
  else if h : i.val - 2048 < 1024 then wq (ix2 ⟨i.val - 2048, h⟩ d)
  else k (ix4 0 ⟨(i.val - 2048 - 1024) / 16, by omega⟩ ⟨(i.val - 2048 - 1024) % 16 * 8 + d.val / 128, by omega⟩ ⟨d.val % 128, by omega⟩)

theorem fn_apply (x : Acts) (wq : Mat 1024 1024) (k v : Heads) (wo : Mat 1024 1024) (i : Fin 35840)
    (d : Fin 1024) : fn (F := Ideal) x wq k v wo (ix2 i d) = BitVec.ofBool
      (decide (FloatOps.absf (F := Ideal) (φ := .f32) (asked x wq k i d) < Ideal.ofBits .f32 0x7F800000#32)) := by
  pointwise [fn]
  rfl

/-- A precondition that holds makes the three arguments it reads real. -/
theorem isReal_args {x : Acts} {wq : Mat 1024 1024} {k v : Heads} {wo : Mat 1024 1024}
    (h : fn (F := Ideal) x wq k v wo = fun _ => 1#1) :
    (∀ i, IsReal (x i)) ∧ (∀ i, IsReal (wq i)) ∧ ∀ i, IsReal (k i) := by
  have hf (i : Fin 35840) (d : Fin 1024) : IsReal (asked x wq k i d) :=
    isReal_of_olt ((fn_apply x wq k v wo i d).symm.trans (congrFun h (ix2 i d)))
  unfold asked at hf
  refine ⟨fun i => ?_, fun i => ?_, fun i => ?_⟩
  · obtain ⟨z, a, d, rfl⟩ : ∃ (z : Fin 1) (a : Fin 2048) (d : Fin 1024), i = ix3 z a d := ⟨i 0, i 1, i 2, eq_ix3 i⟩
    have := hf ⟨a.val, by omega⟩ d
    rw [dif_pos a.isLt] at this
    rwa [Subsingleton.elim z 0]
  · obtain ⟨a, d, rfl⟩ : ∃ (a : Fin 1024) (d : Fin 1024), i = ix2 a d := ⟨i 0, i 1, eq_ix2 i⟩
    have := hf ⟨2048 + a.val, by omega⟩ d
    rw [dif_neg (by simp), dif_pos (by simp)] at this
    simpa using this
  · obtain ⟨z, a, g, d, rfl⟩ : ∃ (z : Fin 1) (a : Fin 2048) (g d : Fin 128), i = ix4 z a g d := ⟨i 0, i 1, i 2, i 3, eq_ix4 i⟩
    have := hf ⟨3072 + 16 * a.val + g.val / 8, by omega⟩ ⟨g.val % 8 * 128 + d.val, by omega⟩
    rw [dif_neg (by simp; omega), dif_neg (by simp; omega)] at this
    have e1 : (⟨(3072 + 16 * a.val + g.val / 8 - 2048 - 1024) / 16, by omega⟩ : Fin 2048) = a := Fin.ext (by simp; omega)
    have e2 : (⟨(3072 + 16 * a.val + g.val / 8 - 2048 - 1024) % 16 * 8 + (g.val % 8 * 128 + d.val) / 128, by omega⟩ : Fin 128) = g :=
      Fin.ext (by simp; omega)
    have e3 : (⟨(g.val % 8 * 128 + d.val) % 128, by omega⟩ : Fin 128) = d := Fin.ext (by simp)
    rw [Subsingleton.elim z 0]
    rwa [e1, e2, e3] at this

end Cert.AttnValue

end
-- ==== Proof.Attn.Claims.lean ====
/-
# The whole kernel's result

Each device's attention is over its own eight heads; the all-reduce adds the sixteen devices' outputs up. The sum is the
attention over all 128 heads, which is the reference's result.
-/
module

public import proofs.«01_k».proof.Defs
public import proofs.«01_k».proof.Proof.Gen.Pre_finite_KernelIdeal
public import proofs.«01_k».proof.Proof.KernelIdeal.Launch
public import proofs.«01_k».proof.Proof.Value.Sum
public import proofs.«01_k».proof.Proof.Attn.Host
public import proofs.«01_k».proof.Proof.Attn.Run
public import proofs.«01_k».proof.Proof.Attn.Ref
public import proofs.«01_k».proof.Proof.Attn.Finite

@[expose] public section

noncomputable section

namespace Cert.AttnValue

open Cert.KernelIdeal Cert.KernelIdeal.Gen Cert.KernelIdealProof Idealize.ShloMosaic Idealize.ShloMosaic.TcCoe Idealize.SL.Sem

/-- A device's block of the query projection is its heads' columns. -/
theorem block_columns (c : Fin 16) (wq : Mat 1024 16384) (h : Layout.Tiles ⟨2, ![1024, 1024]⟩ ⟨2, ![1024, 16384]⟩ 1 16) :
    Layout.block ⟨2, ![1024, 1024]⟩ ⟨2, ![1024, 16384]⟩ 1 16 c wq h = columnsOf c wq := by
  funext i
  rw [Layout.block_apply]
  refine congrArg wq (funext fun b => Fin.ext ?_)
  match b with
  | ⟨0, _⟩ => rfl
  | ⟨1, _⟩ =>
    show c.val * 1024 + (i 1).val = 1024 * c.val + (i 1).val
    rw [mul_comm]

/-- A device's block of the output projection is its heads' rows. -/
theorem block_rows (c : Fin 16) (wo : Mat 16384 1024) (h : Layout.Tiles ⟨2, ![1024, 1024]⟩ ⟨2, ![16384, 1024]⟩ 0 16) :
    Layout.block ⟨2, ![1024, 1024]⟩ ⟨2, ![16384, 1024]⟩ 0 16 c wo h = rowsOf c wo := by
  funext i
  rw [Layout.block_apply]
  refine congrArg wo (funext fun b => Fin.ext ?_)
  match b with
  | ⟨0, _⟩ =>
    show c.val * 1024 + (i 0).val = 1024 * c.val + (i 0).val
    rw [mul_comm]
  | ⟨1, _⟩ => rfl

/-- Real keys of all heads are real keys of a device's. -/
theorem isReal_headsOf (c : Fin 16) {k : Heads} (hk : ∀ i, IsReal (k i)) (i) : IsReal (headsOf c k i) := hk _

section Kernel

variable (m : (ℓ : Loc nD τ sig) → Buf (Elt Ideal) ℓ) {x : Acts} {wq : Mat 1024 16384} {k v : Heads} {wo : Mat 16384 1024}
  (h0 : ∀ c : Dev nD, m ((c : Thread nD τ).loc main_arg0) = x)
  (h1 : ∀ c : Dev nD, m ((c : Thread nD τ).loc main_arg1) = columnsOf c wq)
  (h2 : ∀ c : Dev nD, m ((c : Thread nD τ).loc main_arg2) = k)
  (h3 : ∀ c : Dev nD, m ((c : Thread nD τ).loc main_arg3) = v)
  (h4 : ∀ c : Dev nD, m ((c : Thread nD τ).loc main_arg4) = rowsOf c wo)
  (hs : ∀ (c : Fin 16) h i j, IsReal (score (acts x) (columnsOf c wq) (headsOf c k) h i j))

include h0 h1 h2 h3 h4 hs in
/-- What the attention call leaves on a device. -/
theorem xstg_apply (c : Dev nD) : xstg m c
    = result (acts x) (columnsOf c wq) (headsOf c k) (headsOf c v) (rowsOf c wo) := by
  have e0 : hostV m c main_v5 = acts x := (hostV_acts m c).trans ((acts_eq _).trans (congrArg acts (h0 c)))
  have e1 : hostV m c main_arg1 = columnsOf c wq := (hostV_arg1 m c).trans (h1 c)
  have e2 : hostV m c main_v18 = headsOf c k := (hostV_keys m c).trans ((ownHeads_eq c _).trans (congrArg (headsOf c) (h2 c)))
  have e3 : hostV m c main_v19 = headsOf c v := (hostV_values m c).trans ((ownHeads_eq c _).trans (congrArg (headsOf c) (h3 c)))
  have e4 : hostV m c main_arg4 = rowsOf c wo := (hostV_arg4 m c).trans (h4 c)
  refine (final_eq (hostV m) c ?_).trans ?_
  · rw [e0, e1, e2]
    exact hs c
  · show result (hostV m c main_v5) (hostV m c main_arg1) (hostV m c main_v18) (hostV m c main_v19) (hostV m c main_arg4) = _
    rw [e0, e1, e2, e3, e4]

include h0 h1 h2 h3 h4 hs in
/-- What the kernel returns on a device. -/
theorem returned_apply (c : Dev nD) : V4 m (outs m) c (Proc.devRef .tc main_v22) = Ref.out (F := Ideal) x wq k v wo := by
  have e : V4 m (outs m) c (Proc.devRef .tc main_v22)
      = broadcastInDim S1x2048x1024 ![1, 2] bcast_S2048x1024_S1x2048x1024_1_2 (O3 (xstg m) 3 c) := by
    show StableHlo.after hostOps2 (W3 m c) (Proc.devRef .tc main_v22) = _
    rw [StableHlo.after_cons, StableHlo.after_nil, StableHlo.unary_result, W3_v21]
  rw [e]
  funext j
  obtain ⟨z, i, n, rfl⟩ : ∃ (z : Fin 1) (i : Fin 2048) (n : Fin 1024), j = ix3 z i n := ⟨j 0, j 1, j 2, eq_ix3 j⟩
  rw [Subsingleton.elim z 0]
  refine Eq.trans ?_ (Ref.out_apply x wq k v wo hs i n).symm
  have hb : ∀ y : FVec Ideal S2048x1024 .f32,
      broadcastInDim S1x2048x1024 ![1, 2] bcast_S2048x1024_S1x2048x1024_1_2 y (ix3 0 i n) = y (ix2 i n) := fun y => by pointwise
  refine (hb _).trans ((SumValue.O3_sum _ c (ix2 i n)).trans (Finset.sum_congr rfl fun d _ => ?_))
  exact congrFun (xstg_apply m h0 h1 h2 h3 h4 hs d) (ix2 i n)

end Kernel

/-- From equal arguments, finite where the precondition says, every device of the kernel ends with the reference's result. -/
theorem algebraic : Cert.algebraic_KernelIdeal_ReferenceIdeal_pre_finite_KernelIdeal := by
  intro m ρ m' ρ' hpre hm
  have hs (c : Fin 16) : ∀ h i j, IsReal (score (acts (m' (((0 : Dev Cert.ReferenceIdeal.nD).tc : Thread _ Cert.ReferenceIdeal.τ).loc Cert.ReferenceIdeal.main_arg0)))
      (columnsOf c (m' (((0 : Dev Cert.ReferenceIdeal.nD).tc : Thread _ Cert.ReferenceIdeal.τ).loc Cert.ReferenceIdeal.main_arg1)))
      (headsOf c (m' (((0 : Dev Cert.ReferenceIdeal.nD).tc : Thread _ Cert.ReferenceIdeal.τ).loc Cert.ReferenceIdeal.main_arg2))) h i j) := by
    obtain ⟨hx, hw, hk⟩ := isReal_args (hpre c)
    rw [(hm c).1] at hx
    rw [(hm c).2.1, block_columns] at hw
    rw [(hm c).2.2.1] at hk
    exact score_isReal (fun i => hx _) hw (isReal_headsOf c hk)
  refine ⟨Ref.out (F := Ideal) (m' (((0 : Dev Cert.ReferenceIdeal.nD).tc : Thread _ Cert.ReferenceIdeal.τ).loc Cert.ReferenceIdeal.main_arg0))
    (m' (((0 : Dev Cert.ReferenceIdeal.nD).tc : Thread _ Cert.ReferenceIdeal.τ).loc Cert.ReferenceIdeal.main_arg1))
    (m' (((0 : Dev Cert.ReferenceIdeal.nD).tc : Thread _ Cert.ReferenceIdeal.τ).loc Cert.ReferenceIdeal.main_arg2))
    (m' (((0 : Dev Cert.ReferenceIdeal.nD).tc : Thread _ Cert.ReferenceIdeal.τ).loc Cert.ReferenceIdeal.main_arg3))
    (m' (((0 : Dev Cert.ReferenceIdeal.nD).tc : Thread _ Cert.ReferenceIdeal.τ).loc Cert.ReferenceIdeal.main_arg4)), ?_, ?_⟩
  · exact (θ_run Cert.KernelIdeal.defs _ _).mono (fun _ h c => ⟨(h.1 c).1.trans (returned_apply m (fun c => (hm c).1)
      (fun c => (hm c).2.1.trans (block_columns c _ _)) (fun c => (hm c).2.2.1) (fun c => (hm c).2.2.2.1)
      (fun c => (hm c).2.2.2.2.trans (block_rows c _ _)) hs c), (h.1 c).2⟩) (run_main (F := Ideal) m ρ)
  · exact (θ_run Cert.ReferenceIdeal.defs _ _).mono (fun _ h => ⟨(h 0).1.trans (Ref.res_eq m' 0), (h 0).2⟩)
      (Cert.ReferenceIdeal.Value.run (F := Ideal) m' ρ')

end Cert.AttnValue

end
-- ==== Proof.Call.Heads.lean ====
/-
# One block of the attention call alone

What its two branches store, in the terms of the whole kernel's attention.
-/
module

public import proofs.«01_k».proof.Proof.Gen.AttnIdeal.Value
public import proofs.«01_k».proof.Proof.Attn.Heads

@[expose] public section

noncomputable section

namespace Cert.CallValue

open Cert.AttnValue Cert.AttnIdeal Cert.AttnIdeal.Gen Idealize.ShloMosaic Idealize.ShloMosaic.TcCoe

variable {F : FTy → Type} [FloatOps F] [Named F]

/-- The scaled queries are the same: the whole kernel's print casts what it loads to its own shape. -/
theorem query_same (x0 : Vec F S128x1024 .bf16) (x1 : Vec F S1024x1024 .bf16) :
    k0_pay1 x0 x1 = Cert.KernelIdeal.Gen.k0_pay1 x0 x1 := by
  unfold Cert.KernelIdeal.Gen.k0_pay1
  dsimp only
  rw [shapeCast_id, shapeCast_id]
  rfl

set_option maxRecDepth 65536 in
/-- What the dense branch leaves in the output block. -/
theorem out_dense (c : Dev nD) (i : grid0.Coords) (arg1 : Memref sig .tc .vmem S128x1024 .bf16) (harg1 : arg1.IsWhole) (arg2 : Memref sig .tc .vmem S1024x1024 .bf16) (harg2 : arg2.IsWhole) (arg3 : Memref sig .tc .vmem S2048x1024 .bf16) (harg3 : arg3.IsWhole) (arg4 : Memref sig .tc .vmem S2048x1024 .bf16) (harg4 : arg4.IsWhole) (arg5 : Memref sig .tc .vmem S1024x1024 .bf16) (harg5 : arg5.IsWhole) (arg6 : Memref sig .tc .vmem S128x1024 .f32) (harg6 : arg6.IsWhole) (hc0 : cond0_0 i) (hc1 : ¬cond0_1 i)
    (x0 : Vec F S128x1024 .bf16) (x1 : Vec F S1024x1024 .bf16) (x2 : Vec F S2048x1024 .bf16) (x3 : Vec F S2048x1024 .bf16) (x4 : Vec F S1024x1024 .bf16) :
    out0_A_5 c i arg1 harg1 arg2 harg2 arg3 harg3 arg4 harg4 arg5 harg5 arg6 harg6 hc0 hc1 x0 x1 x2 x3 x4
      = project (denseHead (Cert.KernelIdeal.Gen.k0_pay1 x0 x1) (headKeys x2) (headKeys x3)
          (Cert.KernelIdeal.Gen.k0_pay5 (Cert.KernelIdeal.Gen.k0_pay2 i))) x4 := by
  unfold out0_A_5
  rw [View.read_writes_junk_eq_canon]
  unfold kernelRun0_A
  dsimp only
  rw [View.canon_unit_zero (S := S128x1024) zero_off]
  sl_unfold_words
  simp only [View.readAt_eq_ld, Memref.IsWhole.read_unread, ld_rows, ld_square]
  rw [← query_same]
  rfl

set_option maxRecDepth 65536 in
/-- What the sparse branch leaves in the output block. -/
theorem out_sparse (c : Dev nD) (i : grid0.Coords) (arg1 : Memref sig .tc .vmem S128x1024 .bf16) (harg1 : arg1.IsWhole) (arg2 : Memref sig .tc .vmem S1024x1024 .bf16) (harg2 : arg2.IsWhole) (arg3 : Memref sig .tc .vmem S2048x1024 .bf16) (harg3 : arg3.IsWhole) (arg4 : Memref sig .tc .vmem S2048x1024 .bf16) (harg4 : arg4.IsWhole) (arg5 : Memref sig .tc .vmem S1024x1024 .bf16) (harg5 : arg5.IsWhole) (arg6 : Memref sig .tc .vmem S128x1024 .f32) (harg6 : arg6.IsWhole) (hc0 : ¬cond0_0 i) (hc1 : cond0_1 i) (hi : k0_cond2 i = 1#1)
    (x0 : Vec F S128x1024 .bf16) (x1 : Vec F S1024x1024 .bf16) (x2 : Vec F S2048x1024 .bf16) (x3 : Vec F S2048x1024 .bf16) (x4 : Vec F S1024x1024 .bf16) :
    out0_B_5 c i arg1 harg1 arg2 harg2 arg3 harg3 arg4 harg4 arg5 harg5 arg6 harg6 hc0 hc1 x0 x1 x2 x3 x4
      = project (sparseHead (Cert.KernelIdeal.Gen.k0_pay1 x0 x1) (slot x2 i hi) (slot x3 i hi) (sparseBias i)) x4 := by
  unfold out0_B_5
  rw [View.read_writes_junk_eq_canon]
  unfold kernelRun0_B
  dsimp only
  rw [View.canon_unit_zero (S := S128x1024) zero_off]
  sl_unfold_words
  simp only [View.readAt_eq_ld, Memref.IsWhole.read_unread, ld_rows, ld_square]
  rw [← query_same]
  rfl

end Cert.CallValue

end
-- ==== Proof.Call.Run.lean ====
/-
# The kernel's output array

Point `t` writes rows `128 t` to `128 t + 127`, the first by the dense branch, the others by the sparse one; together
they are the whole array, which is `output` of the arguments.
-/
module

public import proofs.«01_k».proof.Proof.Call.Heads
public import proofs.«01_k».proof.Proof.Attn.Run

@[expose] public section

noncomputable section

namespace Cert.CallValue

open Cert.AttnValue Cert.AttnIdeal Cert.AttnIdeal.Gen Cert.AttnIdeal.Value Idealize.ShloMosaic Idealize.ShloMosaic.TcCoe Idealize.SL.Sem

variable (m : (ℓ : Loc nD τ sig) → Buf (Elt Ideal) ℓ)

/-- The grid point's number. -/
theorem coords_val : ∀ t : Fin cfg0.N, (grid0.coords t 0).val = t.val := (by decide +kernel : ∀ t : Fin grid0.N, _)

theorem index0 : ∀ t : Fin cfg0.N, win0_0.index t (0 : Fin 2) = t.val ∧ win0_0.index t (1 : Fin 2) = 0 :=
  (by decide +kernel : ∀ t : Fin grid0.N, _)
theorem index5 : ∀ t : Fin cfg0.N, win0_5.index t (0 : Fin 2) = t.val ∧ win0_5.index t (1 : Fin 2) = 0 :=
  (by decide +kernel : ∀ t : Fin grid0.N, _)
theorem index1 : ∀ t : Fin cfg0.N, win0_1.index t (0 : Fin 2) = 0 ∧ win0_1.index t (1 : Fin 2) = 0 :=
  (by decide +kernel : ∀ t : Fin grid0.N, _)
theorem index2 : ∀ t : Fin cfg0.N, win0_2.index t (0 : Fin 2) = 0 ∧ win0_2.index t (1 : Fin 2) = 0 :=
  (by decide +kernel : ∀ t : Fin grid0.N, _)
theorem index3 : ∀ t : Fin cfg0.N, win0_3.index t (0 : Fin 2) = 0 ∧ win0_3.index t (1 : Fin 2) = 0 :=
  (by decide +kernel : ∀ t : Fin grid0.N, _)
theorem index4 : ∀ t : Fin cfg0.N, win0_4.index t (0 : Fin 2) = 0 ∧ win0_4.index t (1 : Fin 2) = 0 :=
  (by decide +kernel : ∀ t : Fin grid0.N, _)

/-- From point 1 on the sparse branch runs. -/
theorem sparse_point : ∀ t : Fin cfg0.N, 1 ≤ t.val → k0_cond2 (grid0.coords t) = 1#1 :=
  (by decide +kernel : ∀ t : Fin grid0.N, _)

/-- The point as a block's number. -/
abbrev pt (t : Fin cfg0.N) : Fin 16 := ⟨t.val, t.isLt⟩

/-- Where the query block and the output block lie: rows `128 t` on. -/
theorem emb_rows0 (t : Fin cfg0.N) (r : Fin 128) (d : Fin 1024) :
    ((cfg0.win 0).blk t).view.emb (ix2 r d) = ix2 (blockRow (pt t) r) d := by
  obtain ⟨e0, e1⟩ := index0 t
  funext a; apply Fin.ext
  match a with
  | ⟨0, _⟩ => show win0_0.index t (0 : Fin 2) * 128 + 1 * r.val = 128 * t.val + r.val; omega
  | ⟨1, _⟩ => show win0_0.index t (1 : Fin 2) * 1024 + 1 * d.val = d.val; omega

theorem emb_rows5 (t : Fin cfg0.N) (r : Fin 128) (d : Fin 1024) :
    ((cfg0.win 5).blk t).view.emb (ix2 r d) = ix2 (blockRow (pt t) r) d := by
  obtain ⟨e0, e1⟩ := index5 t
  funext a; apply Fin.ext
  match a with
  | ⟨0, _⟩ => show win0_5.index t (0 : Fin 2) * 128 + 1 * r.val = 128 * t.val + r.val; omega
  | ⟨1, _⟩ => show win0_5.index t (1 : Fin 2) * 1024 + 1 * d.val = d.val; omega

/-- The other inputs' blocks are their arrays. -/
theorem iblk1_eq (c : Dev nD) (t : Fin cfg0.N) : iblk m c 1 t = V m c main_arg1 := by
  obtain ⟨e0, e1⟩ := index1 t
  funext j
  refine congrArg (V m c main_arg1) (funext fun a => Fin.ext ?_)
  match a with
  | ⟨0, _⟩ => show win0_1.index t (0 : Fin 2) * 1024 + 1 * (j 0).val = (j 0).val; omega
  | ⟨1, _⟩ => show win0_1.index t (1 : Fin 2) * 1024 + 1 * (j 1).val = (j 1).val; omega

theorem iblk2_eq (c : Dev nD) (t : Fin cfg0.N) : iblk m c 2 t = V m c main_arg2 := by
  obtain ⟨e0, e1⟩ := index2 t
  funext j
  refine congrArg (V m c main_arg2) (funext fun a => Fin.ext ?_)
  match a with
  | ⟨0, _⟩ => show win0_2.index t (0 : Fin 2) * 2048 + 1 * (j 0).val = (j 0).val; omega
  | ⟨1, _⟩ => show win0_2.index t (1 : Fin 2) * 1024 + 1 * (j 1).val = (j 1).val; omega

theorem iblk3_eq (c : Dev nD) (t : Fin cfg0.N) : iblk m c 3 t = V m c main_arg3 := by
  obtain ⟨e0, e1⟩ := index3 t
  funext j
  refine congrArg (V m c main_arg3) (funext fun a => Fin.ext ?_)
  match a with
  | ⟨0, _⟩ => show win0_3.index t (0 : Fin 2) * 2048 + 1 * (j 0).val = (j 0).val; omega
  | ⟨1, _⟩ => show win0_3.index t (1 : Fin 2) * 1024 + 1 * (j 1).val = (j 1).val; omega

theorem iblk4_eq (c : Dev nD) (t : Fin cfg0.N) : iblk m c 4 t = V m c main_arg4 := by
  obtain ⟨e0, e1⟩ := index4 t
  funext j
  refine congrArg (V m c main_arg4) (funext fun a => Fin.ext ?_)
  match a with
  | ⟨0, _⟩ => show win0_4.index t (0 : Fin 2) * 1024 + 1 * (j 0).val = (j 0).val; omega
  | ⟨1, _⟩ => show win0_4.index t (1 : Fin 2) * 1024 + 1 * (j 1).val = (j 1).val; omega

/-- The output array as one function of the arguments. -/
def result (x : Mat 2048 1024) (wq : Mat 1024 1024) (k v : Mat 2048 1024) (wo : Mat 1024 1024) : Mat 2048 1024 :=
  fun j => output x wq k v wo (j 0) (j 1)

/-- The result of the arguments as a device finds them. -/
abbrev resultOf (c : Dev nD) : Mat 2048 1024 :=
  result (V m c main_arg0) (V m c main_arg1) (V m c main_arg2) (V m c main_arg3) (V m c main_arg4)

theorem iblk0_apply (c : Dev nD) (t : Fin cfg0.N) (r : Fin 128) (d : Fin 1024) :
    iblk m c 0 t (ix2 r d) = V m c main_arg0 (ix2 (blockRow (pt t) r) d) :=
  congrArg (V m c main_arg0) (emb_rows0 t r d)

variable (c : Dev nD)
  (hs : ∀ h i j, IsReal (score (V m c main_arg0) (V m c main_arg1) (V m c main_arg2) h i j))

include hs in
/-- What a point writes back is its rows of the result. -/
theorem flushed_eq (t : Fin cfg0.N) :
    (dats m 0 c).flushed 5 t = ((cfg0.win 5).blk t).view.read (Elt Ideal) (resultOf m c) := by
  have hrow : ∀ y : Mat 128 1024,
      (∀ r n, y (ix2 r n) = output (V m c main_arg0) (V m c main_arg1) (V m c main_arg2) (V m c main_arg3)
        (V m c main_arg4) (blockRow (pt t) r) n) →
      (cfg0.win 5).cut (grid0.coords t) y = ((cfg0.win 5).blk t).view.read (Elt Ideal) (resultOf m c) := fun y hy => by
    funext j
    show y j = resultOf m c (((cfg0.win 5).blk t).view.emb j)
    obtain ⟨r, n, rfl⟩ : ∃ (r : Fin 128) (n : Fin 1024), j = ix2 r n := ⟨j 0, j 1, eq_ix2 j⟩
    rw [emb_rows5, hy]
    rfl
  by_cases h0 : t.val % 16 = 0
  · rw [flushed5_A m c t h0 (by have : t.val < 16 := t.isLt; omega), out_dense, iblk1_eq, iblk2_eq, iblk3_eq, iblk4_eq]
    exact hrow _ fun r n => project_apply _ _ r
      (fun h d => denseHead_apply (iblk0_apply m c t) (grid0.coords t) (coords_val t) hs h r d) n
  · have ht := t.isLt
    have h1 : 1 ≤ t.val := by omega
    rw [flushed5_B m c t h0 h1, out_sparse (hi := sparse_point t h1), iblk1_eq, iblk2_eq, iblk3_eq, iblk4_eq]
    exact hrow _ fun r n => project_apply _ _ r
      (fun h d => sparseHead_apply (iblk0_apply m c t) (grid0.coords t) (sparse_point t h1) (coords_val t) h1 hs h r d) n

/-- Every index of the output is in some point's block. -/
theorem covered (i : S2048x1024.Idx) :
    ∃ t : Fin cfg0.N, (cfg0.win 5).flush t = true ∧ i ∈ ((cfg0.win 5).blk t).view.set := by
  obtain ⟨a, d, rfl⟩ : ∃ (a : Fin 2048) (d : Fin 1024), i = ix2 a d := ⟨i 0, i 1, eq_ix2 i⟩
  have ha := a.isLt
  let t : Fin cfg0.N := ⟨a.val / 128, by show a.val / 128 < 16; omega⟩
  refine ⟨t, flush0_5 _, ?_⟩
  have h := ((cfg0.win 5).blk t).view.emb_mem_set (ix2 (⟨a.val % 128, by omega⟩ : Fin 128) d)
  rw [emb_rows5] at h
  have e : blockRow (pt t) ⟨a.val % 128, by omega⟩ = a := Fin.ext (by show 128 * (a.val / 128) + a.val % 128 = a.val; omega)
  rwa [e] at h

include hs in
/-- The output array after the run. -/
theorem final_eq : (dats m 0 c).arrAt 5 cfg0.N = resultOf m c :=
  (dats m 0 c).arrAt_eq_of_cover 5 (resultOf m c) (fun t _ => flushed_eq m c hs t) covered

end Cert.CallValue

end
-- ==== Proof.Call.Ref.lean ====
/-
# The reference's output

The reference's operations, each stage named, read at an index: its output is `output` of the arguments too.
-/
module

public import proofs.«01_k».proof.Proof.Gen.AttnRefIdeal.Run
public import proofs.«01_k».proof.Proof.Attn.Ref

@[expose] public section

noncomputable section

namespace Cert.CallValue.Ref

open Cert.AttnValue Cert.AttnValue.Ref Cert.AttnRefIdeal Cert.AttnRefIdeal.Gen Cert.AttnRefIdeal.Value Idealize.ShloMosaic Idealize.ShloMosaic.TcCoe

variable {F : FTy → Type} [FloatOps F]

/-- Which keys each row sees. -/
def mask : IVec S2048x2048 1 :=
  ori (cmpi .sle (absi (subi
      (broadcastInDim S2048x2048 ![0, 1] bcast_S2048x1_S2048x2048_0_1 (broadcastInDim S2048x1 ![0] bcast_S2048_S2048x1_0 (iotaInDim S2048 32 0)))
      (broadcastInDim S2048x2048 ![0, 1] bcast_S1x2048_S2048x2048_0_1 (broadcastInDim S1x2048 ![1] bcast_S2048_S1x2048_1 (iotaInDim S2048 32 0)))))
      (broadcastInDim S2048x2048 ![] bcast_S_S2048x2048 (constantI S_ 32 128#32)))
    (ori (broadcastInDim S2048x2048 ![0, 1] bcast_S1x2048_S2048x2048_0_1
        (cmpi .slt (broadcastInDim S1x2048 ![1] bcast_S2048_S1x2048_1 (iotaInDim S2048 32 0))
          (broadcastInDim S1x2048 ![] bcast_S_S1x2048 (constantI S_ 32 32#32))))
      (broadcastInDim S2048x2048 ![0, 1] bcast_S2048x1_S2048x2048_0_1
        (cmpi .slt (broadcastInDim S2048x1 ![0] bcast_S2048_S2048x1_0 (iotaInDim S2048 32 0))
          (broadcastInDim S2048x1 ![] bcast_S_S2048x1 (constantI S_ 32 32#32)))))

/-- Whether a row sees any key. -/
def rowKeep : IVec S2048 1 :=
  Host.reduce IntOp.ori mask (constantI S_ 1 0#1) reducesTo_S2048x2048_S2048_d1 h_S_

/-- The scaled scores. -/
def scores (x : FVec F S2048x1024 .bf16) (wq : FVec F S1024x1024 .bf16) (k : FVec F S2048x1024 .bf16) :
    FVec F S8x2048x2048 .f32 :=
  mulf (extf .f32 (truncf .bf16 (Host.dotGeneral dot_S2048x8x128_S2048x8x128_S8x2048x2048_2_2_0_0_1_1 none
      (shapeCast _ (truncf .bf16 (Host.dotGeneral dot_S2048x1024_S1024x1024_S2048x1024_1_0_0_1_n_n none x wq)
        bitsLt_bf16_f32) shapeCasts_S2048x1024_S2048x8x128)
      (shapeCast _ k shapeCasts_S2048x1024_S2048x8x128)) bitsLt_bf16_f32) bitsLt_bf16_f32)
    (broadcastInDim S8x2048x2048 ![] bcast_S_S8x2048x2048 (constant S_ .f32 0x3DB504F3#32))

/-- The scores where the mask holds, minus infinity elsewhere. -/
def masked (s : FVec F S8x2048x2048 .f32) : FVec F S8x2048x2048 .f32 :=
  select (broadcastInDim S8x2048x2048 ![0, 1, 2] bcast_S1x2048x2048_S8x2048x2048_0_1_2
      (broadcastInDim S1x2048x2048 ![1, 2] bcast_S2048x2048_S1x2048x2048_1_2 mask)) s
    (broadcastInDim S8x2048x2048 ![] bcast_S_S8x2048x2048 (id (constant S_ .f32 0xFF800000#32)))

/-- Each row's maximum. -/
def rowMax (s : FVec F S8x2048x2048 .f32) : FVec F S8x2048 .f32 :=
  Host.reduce FloatOps.maximumf (masked s) (constant S_ .f32 0xFF800000#32) reducesTo_S8x2048x2048_S8x2048_d2 h_S_

/-- The exponentials. -/
def exps (s : FVec F S8x2048x2048 .f32) : FVec F S8x2048x2048 .f32 :=
  Host.exp (subf (masked s) (broadcastInDim S8x2048x2048 ![0, 1, 2] bcast_S8x2048x1_S8x2048x2048_0_1_2
    (broadcastInDim S8x2048x1 ![0, 1] bcast_S8x2048_S8x2048x1_0_1 (rowMax s))))

/-- The sums of the exponentials, one for a row that sees no key. -/
def sums (b : IVec S2048 1) (e : FVec F S8x2048x2048 .f32) : FVec F S8x2048x1 .f32 :=
  select (broadcastInDim S8x2048x1 ![0, 1, 2] bcast_S1x2048x1_S8x2048x1_0_1_2
      (broadcastInDim S1x2048x1 ![1] bcast_S2048_S1x2048x1_1 b))
    (broadcastInDim S8x2048x1 ![0, 1] bcast_S8x2048_S8x2048x1_0_1
      (Host.reduceAdd e (constant S_ .f32 0x00000000#32) reducesTo_S8x2048x2048_S8x2048_d2 h_S_))
    (broadcastInDim S8x2048x1 ![] bcast_S_S8x2048x1 (id (constant S_ .f32 0x3F800000#32)))

/-- The shares, zero for a row that sees no key. -/
def shares (b : IVec S2048 1) (e : FVec F S8x2048x2048 .f32) : FVec F S8x2048x2048 .f32 :=
  select (broadcastInDim S8x2048x2048 ![0, 1, 2] bcast_S1x2048x1_S8x2048x2048_0_1_2
      (broadcastInDim S1x2048x1 ![1] bcast_S2048_S1x2048x1_1 b))
    (Host.divf e (broadcastInDim S8x2048x2048 ![0, 1, 2] bcast_S8x2048x1_S8x2048x2048_0_1_2 (sums b e)))
    (broadcastInDim S8x2048x2048 ![] bcast_S_S8x2048x2048 (id (constant S_ .f32 0x00000000#32)))

/-- The contexts, one head after the other: the values by their shares. -/
def heads (w : FVec F S8x2048x2048 .f32) (v : FVec F S2048x1024 .bf16) : FVec F S8x128x2048 .f32 :=
  Host.dotGeneral dot_S2048x8x128_S8x2048x2048_S8x128x2048_0_2_2_1_1_0 none
    (extf .f32 (shapeCast _ v shapeCasts_S2048x1024_S2048x8x128) bitsLt_bf16_f32) w

/-- The contexts side by side. -/
def contexts (o : FVec F S8x128x2048 .f32) : FVec F S2048x1024 .f32 :=
  shapeCast _ (transpose S2048x8x128 [2, 0, 1] o transposes_S8x128x2048_S2048x8x128_2_0_1) shapeCasts_S2048x8x128_S2048x1024

/-- The reference's output from its stages. -/
def out (x : FVec F S2048x1024 .bf16) (wq : FVec F S1024x1024 .bf16) (k v : FVec F S2048x1024 .bf16)
    (wo : FVec F S1024x1024 .bf16) : FVec F S2048x1024 .f32 :=
  Host.dotGeneral dot_S2048x1024_S1024x1024_S2048x1024_1_0_0_1_n_n none (contexts (heads (shares rowKeep (exps (scores x wq k))) v))
    (extf .f32 wo bitsLt_bf16_f32)

theorem res_eq (m : (ℓ : Loc nD τ sig) → Buf (Elt F) ℓ) (c : Dev nD) :
    res_out0 m c = out (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4)) := rfl

/-- The mask at a row and a key. -/
theorem mask_apply (i j : Fin 2048) : mask (ix2 i j) = BitVec.ofBool (decide (keeps i j)) := by
  rw [← keeps_word (by omega) (by omega)]
  pointwise [mask]
  exact (BitVec.or_assoc _ _ _).symm

/-- Every row sees its own key. -/
theorem rowKeep_apply (i : Fin 2048) : rowKeep (ix1 i) = 1#1 := by
  pointwise [rowKeep]
  exact fold_ori_one _ (i := i) (by rw [mask_apply]; simp [keeps_self])

/-- The scores, entry by entry. -/
theorem scores_apply (x : Mat 2048 1024) (wq : Mat 1024 1024) (k : Mat 2048 1024) (h : Fin 8) (i j : Fin 2048) :
    scores (F := Ideal) x wq k (ix3 h i j) = score x wq k h i j := by
  pointwise [scores]
  rw [score, scale]
  refine congrArg (· * _) (Finset.sum_congr rfl fun d _ => ?_)
  rw [show (⟨h.val * 128 + d.val, by omega⟩ : Fin 1024) = headCol h d from Fin.ext (by simp [headCol, mul_comm])]
  rfl

theorem masked_apply (s : FVec Ideal S8x2048x2048 .f32) (h : Fin 8) (i j : Fin 2048) :
    masked s (ix3 h i j) = if keeps i j then s (ix3 h i j) else (⊥ : EReal) := by
  pointwise [masked]
  rw [mask_apply, select_ofBool]
  exact congrArg (fun z : EReal => if keeps i j then s (ix3 h i j) else z) ofBits_neg_inf

theorem rowMax_apply (s : FVec Ideal S8x2048x2048 .f32) (h : Fin 8) (i : Fin 2048) :
    rowMax s (ix2 h i) = Finset.univ.fold max (⊥ : EReal) fun j : Fin 2048 => masked s (ix3 h i j) := by
  pointwise [rowMax]
  rw [ofBits_neg_inf]

theorem exps_apply (s : FVec Ideal S8x2048x2048 .f32) (h : Fin 8) (i j : Fin 2048) :
    exps s (ix3 h i j) = Ideal.exp (masked s (ix3 h i j) - rowMax s (ix2 h i)) := by
  pointwise [exps]

theorem shares_apply (b : IVec S2048 1) (e : FVec Ideal S8x2048x2048 .f32) (h : Fin 8) (i j : Fin 2048) (hb : b (ix1 i) = 1#1) :
    shares b e (ix3 h i j) = Ideal.div (e (ix3 h i j)) (∑ l : Fin 2048, e (ix3 h i l)) := by
  pointwise [shares, sums]
  rw [hb, select_one, select_one]

theorem heads_apply (w : FVec Ideal S8x2048x2048 .f32) (v : Mat 2048 1024) (h : Fin 8) (d : Fin 128) (i : Fin 2048) :
    heads (F := Ideal) w v (ix3 h d i) = ∑ j : Fin 2048, v (ix2 j (headCol h d)) * w (ix3 h i j) := by
  pointwise [heads]
  exact Finset.sum_congr rfl fun j _ => congrArg (fun z => v (ix2 j z) * w (ix3 h i j)) (Fin.ext (by simp [headCol, mul_comm]))

theorem contexts_apply (o : FVec Ideal S8x128x2048 .f32) (i : Fin 2048) (e : Fin 1024) :
    contexts o (ix2 i e) = o (ix3 ⟨e.val / 128, by omega⟩ ⟨e.val % 128, by omega⟩ i) := by
  pointwise [contexts]

/-- A head's context is the shares' sum of the values, for real scores. -/
theorem heads_shares (x : Mat 2048 1024) (wq : Mat 1024 1024) (k v : Mat 2048 1024)
    (hs : ∀ h i j, IsReal (score x wq k h i j)) (h : Fin 8) (d : Fin 128) (i : Fin 2048) :
    heads (F := Ideal) (shares rowKeep (exps (scores (F := Ideal) x wq k))) v (ix3 h d i) = context x wq k v h i d := by
  rw [heads_apply, context, ← shifted_row (keep := fun j : Fin 2048 => keeps i j) (score x wq k h i) (hs h i) (keeps_self i) (fun j => v (ix2 j (headCol h d)))
    (rowMax (scores (F := Ideal) x wq k) (ix2 h i)) (by simp only [rowMax_apply, masked_apply, scores_apply])]
  simp only [shares_apply _ _ _ _ _ (rowKeep_apply i), exps_apply, masked_apply, scores_apply]

/-- The reference's output, for real scores. -/
theorem out_apply (x : Mat 2048 1024) (wq : Mat 1024 1024) (k v : Mat 2048 1024) (wo : Mat 1024 1024)
    (hs : ∀ h i j, IsReal (score x wq k h i j)) (i : Fin 2048) (n : Fin 1024) :
    out (F := Ideal) x wq k v wo (ix2 i n) = output x wq k v wo i n := by
  pointwise [out]
  exact Finset.sum_congr rfl fun e _ => by rw [contexts_apply, heads_shares x wq k v hs]

end Cert.CallValue.Ref

end
-- ==== Proof.Call.Finite.lean ====
/-
# The precondition, entry by entry

The precondition says that the activations, the query projection and the keys are finite; then every score is a real
number.
-/
module

public import proofs.«01_k».proof.Defs
public import proofs.«01_k».proof.Proof.Attn.Finite

@[expose] public section

noncomputable section

namespace Cert.CallValue

open Cert.AttnValue Cert.Pre_finite_call Idealize.ShloMosaic

variable [Cert.Pre_finite_call.Facts]

/-- The entries the precondition asks about: the three arguments one under the other. -/
def asked (x : Mat 2048 1024) (wq : Mat 1024 1024) (k : Mat 2048 1024) (i : Fin 5120) (d : Fin 1024) : EReal :=
  if h : i.val < 2048 then x (ix2 ⟨i.val, h⟩ d)
  else if h : i.val - 2048 < 1024 then wq (ix2 ⟨i.val - 2048, h⟩ d) else k (ix2 ⟨i.val - 2048 - 1024, by omega⟩ d)

theorem fn_apply (x : Mat 2048 1024) (wq : Mat 1024 1024) (k v : Mat 2048 1024) (wo : Mat 1024 1024) (i : Fin 5120)
    (d : Fin 1024) : fn (F := Ideal) x wq k v wo (ix2 i d) = BitVec.ofBool
      (decide (FloatOps.absf (F := Ideal) (φ := .f32) (asked x wq k i d) < Ideal.ofBits .f32 0x7F800000#32)) := by
  pointwise [fn]
  rfl

/-- A precondition that holds makes the three arguments it reads real. -/
theorem isReal_args {x : Mat 2048 1024} {wq : Mat 1024 1024} {k v : Mat 2048 1024} {wo : Mat 1024 1024}
    (h : fn (F := Ideal) x wq k v wo = fun _ => 1#1) :
    (∀ i, IsReal (x i)) ∧ (∀ i, IsReal (wq i)) ∧ ∀ i, IsReal (k i) := by
  have hf (i : Fin 5120) (d : Fin 1024) : IsReal (asked x wq k i d) :=
    isReal_of_olt ((fn_apply x wq k v wo i d).symm.trans (congrFun h (ix2 i d)))
  unfold asked at hf
  refine ⟨fun i => ?_, fun i => ?_, fun i => ?_⟩
  · obtain ⟨a, d, rfl⟩ : ∃ (a : Fin 2048) (d : Fin 1024), i = ix2 a d := ⟨i 0, i 1, eq_ix2 i⟩
    have := hf ⟨a.val, by omega⟩ d
    rwa [dif_pos a.isLt] at this
  · obtain ⟨a, d, rfl⟩ : ∃ (a : Fin 1024) (d : Fin 1024), i = ix2 a d := ⟨i 0, i 1, eq_ix2 i⟩
    have := hf ⟨2048 + a.val, by omega⟩ d
    rw [dif_neg (by simp), dif_pos (by simp)] at this
    simpa using this
  · obtain ⟨a, d, rfl⟩ : ∃ (a : Fin 2048) (d : Fin 1024), i = ix2 a d := ⟨i 0, i 1, eq_ix2 i⟩
    have := hf ⟨3072 + a.val, by omega⟩ d
    rw [dif_neg (by simp; omega), dif_neg (by simp; omega)] at this
    have e : (⟨3072 + a.val - 2048 - 1024, by omega⟩ : Fin 2048) = a := Fin.ext (by simp; omega)
    rwa [← e]

end Cert.CallValue

end
-- ==== Proof.Call.Claims.lean ====
/-
# The attention's claims

Its call runs, as written and idealized, and so does its reference; with finite activations, query projection and keys
both results are the attention's output, entry by entry.
-/
module

public import proofs.«01_k».proof.Defs
public import proofs.«01_k».proof.Proof.Gen.Attn
public import proofs.«01_k».proof.Proof.Gen.Attn.Frame
public import proofs.«01_k».proof.Proof.Gen.AttnIdeal.Frame
public import proofs.«01_k».proof.Proof.Call.Run
public import proofs.«01_k».proof.Proof.Call.Ref
public import proofs.«01_k».proof.Proof.Call.Finite
public import Idealize.ShloMosaic.Adequacy
public import Idealize.ShloMosaic.Init

@[expose] public section

noncomputable section

namespace Cert.CallValue

open Cert.AttnValue Idealize.ShloMosaic Idealize.SL.Sem

/-- The attention call runs, as written: -/
theorem frame_attn : Cert.quiescent_Attn := fun m ρ _ => Cert.Attn.Gen.frame m ρ

/-- idealized: -/
theorem frame_ideal : Cert.quiescent_AttnIdeal := fun m ρ _ => Cert.AttnIdeal.Gen.frame m ρ

/-- and so does its reference, which has no semaphore. -/
theorem frame_ref : Cert.quiescent_AttnRefIdeal := by
  intro m ρ _
  exact (θ_run Cert.AttnRefIdeal.defs _ _).mono (fun r h => ⟨fun c => (h c).2, sem_eq_zero_of_no_sems (by decide) r.2⟩)
    (Cert.AttnRefIdeal.Value.run (F := Ideal) m ρ)

/-- The mask's constant stands for minus infinity, and is rewritten nowhere else. -/
theorem preserves : Cert.preserves_Attn_AttnIdeal :=
  IdealRules.named_const.statement Cert.AttnIdeal.κ "mask" .f32 0xCE6E6B28#32 ⊥ rfl

/-- The reference's output is the attention's, for real scores. -/
theorem ref_out (x : Mat 2048 1024) (wq : Mat 1024 1024) (k v : Mat 2048 1024) (wo : Mat 1024 1024)
    (hs : ∀ h i j, IsReal (score x wq k h i j)) : Ref.out (F := Ideal) x wq k v wo = result x wq k v wo := by
  funext j
  obtain ⟨i, n, rfl⟩ : ∃ (i : Fin 2048) (n : Fin 1024), j = ix2 i n := ⟨j 0, j 1, eq_ix2 j⟩
  exact Ref.out_apply x wq k v wo hs i n

/-- From equal arguments, finite where the precondition says, the call and the reference end with the same output. -/
theorem algebraic [Cert.Pre_finite_call.Facts] : Cert.algebraic_AttnIdeal_AttnRefIdeal_pre_finite_call := by
  intro m ρ m' ρ' hpre hm
  have hs (c : Dev Cert.AttnIdeal.nD) : ∀ h i j, IsReal (score (Cert.AttnIdeal.Gen.V m c Cert.AttnIdeal.main_arg0)
      (Cert.AttnIdeal.Gen.V m c Cert.AttnIdeal.main_arg1) (Cert.AttnIdeal.Gen.V m c Cert.AttnIdeal.main_arg2) h i j) := by
    obtain ⟨hx, hw, hk⟩ := isReal_args (hpre c)
    exact score_isReal hx hw hk
  refine ⟨fun c => resultOf m c, ?_, ?_⟩
  · exact (θ_run Cert.AttnIdeal.defs _ _).mono (fun _ h c => ⟨(h c).1.trans (final_eq m c (hs c)), (h c).2⟩)
      (Cert.AttnIdeal.Value.run_blocks (F := Ideal) m ρ)
  · refine (θ_run Cert.AttnRefIdeal.defs _ _).mono (fun _ h c => ⟨(h c).1.trans ?_, (h c).2⟩)
      (Cert.AttnRefIdeal.Value.run (F := Ideal) m' ρ')
    refine (Ref.res_eq m' c).trans ?_
    rw [(hm c).1, (hm c).2.1, (hm c).2.2.1, (hm c).2.2.2.1, (hm c).2.2.2.2]
    exact ref_out _ _ _ _ _ (hs c)

end Cert.CallValue

end
-- ==== Proof.lean ====
/-
# The claims

The kernel runs on the sixteen devices, as written and idealized, leaving its arguments and every semaphore counter as they
were; so does the reference on its one. Idealized, and with finite activations, query projection and keys, each device
returns the reference's result.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_finite_KernelIdeal
public import proofs.«01_k».proof.Proof.Gen.Pre_finite_ReferenceIdeal
public import proofs.«01_k».proof.Proof.Kernel.Launch
public import proofs.«01_k».proof.Proof.KernelIdeal.Launch
public import proofs.«01_k».proof.Proof.Attn.Claims
public import proofs.«01_k».proof.Proof.Gen.Pre_finite_call
public import proofs.«01_k».proof.Proof.Call.Claims
public import Idealize.ShloMosaic.Adequacy
public import Idealize.ShloMosaic.Init

@[expose] public section

noncomputable section

namespace Cert.Proof

open Idealize.ShloMosaic Idealize.SL.Sem

/-- The kernel runs, as written: -/
theorem frame_kernel : Cert.quiescent_Kernel := by
  intro m ρ _
  exact (θ_run Cert.Kernel.defs _ _).mono (fun _ h => ⟨fun c => (h.1 c).2, h.2⟩) (KernelProof.run_main (F := Bits) m ρ)

/-- idealized: -/
theorem frame_ideal : Cert.quiescent_KernelIdeal := by
  intro m ρ _
  exact (θ_run Cert.KernelIdeal.defs _ _).mono (fun _ h => ⟨fun c => (h.1 c).2, h.2⟩) (KernelIdealProof.run_main (F := Ideal) m ρ)

/-- and so does the reference, which has no semaphore. -/
theorem frame_ref : Cert.quiescent_ReferenceIdeal := by
  intro m ρ _
  exact (θ_run Cert.ReferenceIdeal.defs _ _).mono (fun r h => ⟨fun c => (h c).2, sem_eq_zero_of_no_sems (by decide) r.2⟩)
    (Cert.ReferenceIdeal.Value.run (F := Ideal) m ρ)

/-- The mask's constant stands for minus infinity, and is rewritten nowhere else. -/
theorem preserves : Cert.preserves_Kernel_KernelIdeal :=
  IdealRules.named_const.statement Cert.KernelIdeal.κ "mask" .f32 0xCE6E6B28#32 ⊥ rfl

theorem claim : Cert.Claim :=
  ⟨Cert.Kernel.Gen.facts, Cert.KernelIdeal.Gen.facts, Cert.ReferenceIdeal.Gen.facts, Cert.Attn.Gen.facts,
    Cert.AttnIdeal.Gen.facts, Cert.AttnRefIdeal.Gen.facts, Cert.Pre_finite_KernelIdeal.Gen.facts,
    Cert.Pre_finite_ReferenceIdeal.Gen.facts, Cert.Pre_finite_call.Gen.facts,
    frame_kernel, frame_ideal, fun m ρ _ => frame_ideal m ρ trivial,
    frame_ref, fun m ρ _ => frame_ref m ρ trivial,
    CallValue.frame_attn, CallValue.frame_ideal, fun m ρ _ => CallValue.frame_ideal m ρ trivial,
    CallValue.frame_ref, fun m ρ _ => CallValue.frame_ref m ρ trivial,
    preserves, AttnValue.algebraic, CallValue.preserves, @CallValue.algebraic Cert.Pre_finite_call.Gen.facts⟩

end Cert.Proof

end
